-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 8192]⟩ ⟨2, ![4096, 16384]⟩ (Layout.meshBlock [2, 2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x4096 : Shape := ⟨2, ![2048, 4096]⟩
abbrev S4096x8192 : Shape := ⟨2, ![4096, 8192]⟩
abbrev S2048x16384 : Shape := ⟨2, ![2048, 16384]⟩
abbrev S16x4096x512 : Shape := ⟨3, ![16, 4096, 512]⟩
abbrev S256x4096 : Shape := ⟨2, ![256, 4096]⟩
abbrev S2x4096x512 : Shape := ⟨3, ![2, 4096, 512]⟩
abbrev S2x256x8192 : Shape := ⟨3, ![2, 256, 8192]⟩
abbrev S64x16384 : Shape := ⟨2, ![64, 16384]⟩
abbrev S_ : Shape := ⟨0, ![]⟩
abbrev S2 : Shape := ⟨1, ![2]⟩
abbrev S4 : Shape := ⟨1, ![4]⟩
abbrev S1 : Shape := ⟨1, ![1]⟩
abbrev S1x4096x512 : Shape := ⟨3, ![1, 4096, 512]⟩
abbrev S4096x512 : Shape := ⟨2, ![4096, 512]⟩
abbrev S256x512 : Shape := ⟨2, ![256, 512]⟩
abbrev S1x256x512 : Shape := ⟨3, ![1, 256, 512]⟩
abbrev S1x256x2048 : Shape := ⟨3, ![1, 256, 2048]⟩
abbrev S256x2048 : Shape := ⟨2, ![256, 2048]⟩
abbrev S1x256x8192 : Shape := ⟨3, ![1, 256, 8192]⟩
abbrev S256x8192 : Shape := ⟨2, ![256, 8192]⟩
abbrev S1x64x8192 : Shape := ⟨3, ![1, 64, 8192]⟩
abbrev S64x8192 : Shape := ⟨2, ![64, 8192]⟩
abbrev S64 : Shape := ⟨1, ![64]⟩
abbrev S64x1 : Shape := ⟨2, ![64, 1]⟩
abbrev S1x128x8192 : Shape := ⟨3, ![1, 128, 8192]⟩
abbrev S128x8192 : Shape := ⟨2, ![128, 8192]⟩

abbrev nBuf : Space → Nat
  | .hbm => 4
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x8192, .f32⟩
  | .hbm, ⟨2, _⟩ => ⟨S2048x16384, .bf16⟩
  | .hbm, ⟨3, _⟩ => ⟨S16x4096x512, .bf16⟩
  | .local _ .vmem, ⟨0, _⟩ => ⟨S256x4096, .f32⟩
  | .local _ .vmem, ⟨1, _⟩ => ⟨S256x4096, .bf16⟩
  | .local _ .vmem, ⟨2, _⟩ => ⟨S2x4096x512, .f32⟩
  | .local _ .vmem, ⟨3, _⟩ => ⟨S2x4096x512, .bf16⟩
  | .local _ .vmem, ⟨4, _⟩ => ⟨S2x256x8192, .bf16⟩
  | .local _ .vmem, ⟨5, _⟩ => ⟨S2x256x8192, .bf16⟩
  | .local _ .vmem, ⟨6, _⟩ => ⟨S64x16384, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 3 24 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_6 : BitVec 32 := 2#32
  let v13 : BitVec 32 := Scalar.muli v9 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
@[reducible] def k0_t1_loop : Scf.Loop 32 :=
  let c0_i32_22 : BitVec 32 := 0#32
  let c16_i32 : BitVec 32 := 16#32
  let v29 : BitVec 32 := Scalar.addi c0_i32_22 c16_i32
  let c1_i32_23 : BitVec 32 := 1#32
  ⟨c0_i32_22, v29, c1_i32_23⟩
def k0_cond1 (k0_t1 : Fin k0_t1_loop.trips) : BitVec 1 :=
  let c0_i32_22 : BitVec 32 := 0#32
  let c1_i32_23 : BitVec 32 := 1#32
  let arg23 : BitVec 32 := Scf.iv c0_i32_22 c1_i32_23 k0_t1
  let c1_i32_1153 : BitVec 32 := 1#32
  let v1856 : BitVec 32 := Scalar.addi arg23 c1_i32_1153
  let c16_i32_1154 : BitVec 32 := 16#32
  let v1857 : BitVec 1 := Scalar.cmpi .slt v1856 c16_i32_1154
  let v1858 : BitVec 32 := Scalar.extui v1857
  let c0_i32_1155 : BitVec 32 := 0#32
  let v1859 : BitVec 1 := Scalar.cmpi .ne v1858 c0_i32_1155
  v1859

def k0_off1 (k0_t1 : Fin k0_t1_loop.trips) : Fin 1 → Nat :=
  let c1_i32_1152 : BitVec 32 := 1#32
  let c0_i32_22 : BitVec 32 := 0#32
  let c1_i32_23 : BitVec 32 := 1#32
  let arg23 : BitVec 32 := Scf.iv c0_i32_22 c1_i32_23 k0_t1
  let c2_i32_1151 : BitVec 32 := 2#32
  let v1854 : BitVec 32 := Scalar.remsi arg23 c2_i32_1151
  let v1855 : BitVec 32 := Scalar.subi c1_i32_1152 v1854
  ![v1855.toNat]
def k0_off2 (k0_t1 : Fin k0_t1_loop.trips) : Fin 3 → Nat :=
  let c1_i32_1152 : BitVec 32 := 1#32
  let c0_i32_22 : BitVec 32 := 0#32
  let c1_i32_23 : BitVec 32 := 1#32
  let arg23 : BitVec 32 := Scf.iv c0_i32_22 c1_i32_23 k0_t1
  let c2_i32_1151 : BitVec 32 := 2#32
  let v1854 : BitVec 32 := Scalar.remsi arg23 c2_i32_1151
  let v1855 : BitVec 32 := Scalar.subi c1_i32_1152 v1854
  let c0_i32_1184 : BitVec 32 := 0#32
  let c0_i32_1185 : BitVec 32 := 0#32
  ![v1855.toNat, 0, 0]
def k0_off3 (k0_t1 : Fin k0_t1_loop.trips) : Fin 2 → Nat :=
  let c0_i32_1186 : BitVec 32 := 0#32
  let c0_i32_22 : BitVec 32 := 0#32
  let c1_i32_23 : BitVec 32 := 1#32
  let arg23 : BitVec 32 := Scf.iv c0_i32_22 c1_i32_23 k0_t1
  let c1_i32_1182 : BitVec 32 := 1#32
  let v1903 : BitVec 32 := Scalar.addi arg23 c1_i32_1182
  let c512_i32_1183 : BitVec 32 := 512#32
  let v1904 : BitVec 32 := Scalar.muli v1903 c512_i32_1183
  ![0, v1904.toNat]
def k0_off4 (k0_t1 : Fin k0_t1_loop.trips) : Fin 1 → Nat :=
  let c0_i32_22 : BitVec 32 := 0#32
  let c1_i32_23 : BitVec 32 := 1#32
  let arg23 : BitVec 32 := Scf.iv c0_i32_22 c1_i32_23 k0_t1
  let c2_i32_1151 : BitVec 32 := 2#32
  let v1854 : BitVec 32 := Scalar.remsi arg23 c2_i32_1151
  ![v1854.toNat]
def k0_off5 (k0_t1 : Fin k0_t1_loop.trips) : Fin 3 → Nat :=
  let c0_i32_22 : BitVec 32 := 0#32
  let c1_i32_23 : BitVec 32 := 1#32
  let arg23 : BitVec 32 := Scf.iv c0_i32_22 c1_i32_23 k0_t1
  let c2_i32_1151 : BitVec 32 := 2#32
  let v1854 : BitVec 32 := Scalar.remsi arg23 c2_i32_1151
  let c0_i32_1157 : BitVec 32 := 0#32
  let c0_i32_1158 : BitVec 32 := 0#32
  ![v1854.toNat, 0, 0]
def k0_off6 (k0_t1 : Fin k0_t1_loop.trips) : Fin 2 → Nat :=
  let c0_i32_1159 : BitVec 32 := 0#32
  let c0_i32_22 : BitVec 32 := 0#32
  let c1_i32_23 : BitVec 32 := 1#32
  let arg23 : BitVec 32 := Scf.iv c0_i32_22 c1_i32_23 k0_t1
  let c512_i32_1156 : BitVec 32 := 512#32
  let v1860 : BitVec 32 := Scalar.muli arg23 c512_i32_1156
  ![0, v1860.toNat]
def k0_cond2 (k0_t1 : Fin k0_t1_loop.trips) : BitVec 1 :=
  let c0_i32_22 : BitVec 32 := 0#32
  let c1_i32_23 : BitVec 32 := 1#32
  let arg23 : BitVec 32 := Scf.iv c0_i32_22 c1_i32_23 k0_t1
  let c2_i32_1160 : BitVec 32 := 2#32
  let v1866 : BitVec 1 := Scalar.cmpi .sge arg23 c2_i32_1160
  let v1867 : BitVec 32 := Scalar.extui v1866
  let c0_i32_1161 : BitVec 32 := 0#32
  let v1868 : BitVec 1 := Scalar.cmpi .ne v1867 c0_i32_1161
  v1868

def k0_off7 (k0_t1 : Fin k0_t1_loop.trips) : Fin 1 → Nat :=
  let c0_i32_22 : BitVec 32 := 0#32
  let c1_i32_23 : BitVec 32 := 1#32
  let arg23 : BitVec 32 := Scf.iv c0_i32_22 c1_i32_23 k0_t1
  let c2_i32_1151 : BitVec 32 := 2#32
  let v1854 : BitVec 32 := Scalar.remsi arg23 c2_i32_1151
  ![v1854.toNat]
def k0_off8 (k0_t1 : Fin k0_t1_loop.trips) : Fin 3 → Nat :=
  let c0_i32_22 : BitVec 32 := 0#32
  let c1_i32_23 : BitVec 32 := 1#32
  let arg23 : BitVec 32 := Scf.iv c0_i32_22 c1_i32_23 k0_t1
  let c2_i32_1182 : BitVec 32 := 2#32
  let v1903 : BitVec 32 := Scalar.subi arg23 c2_i32_1182
  let c0_i32_1183 : BitVec 32 := 0#32
  let c0_i32_1184 : BitVec 32 := 0#32
  ![v1903.toNat, 0, 0]
def k0_off9 (k0_t1 : Fin k0_t1_loop.trips) : Fin 3 → Nat :=
  let c0_i32_22 : BitVec 32 := 0#32
  let c1_i32_23 : BitVec 32 := 1#32
  let arg23 : BitVec 32 := Scf.iv c0_i32_22 c1_i32_23 k0_t1
  let c2_i32_1151 : BitVec 32 := 2#32
  let v1854 : BitVec 32 := Scalar.remsi arg23 c2_i32_1151
  let c0_i32_1185 : BitVec 32 := 0#32
  let c0_i32_1186 : BitVec 32 := 0#32
  ![v1854.toNat, 0, 0]
def k0_off10 (k0_t1 : Fin k0_t1_loop.trips) : Fin 3 → Nat :=
  let c0_i32_22 : BitVec 32 := 0#32
  let c1_i32_23 : BitVec 32 := 1#32
  let arg23 : BitVec 32 := Scf.iv c0_i32_22 c1_i32_23 k0_t1
  let c2_i32_1151 : BitVec 32 := 2#32
  let v1854 : BitVec 32 := Scalar.remsi arg23 c2_i32_1151
  let v1869 : Index := Scalar.indexCast v1854
  let c0_1162 : Index := 0#32
  let c0_1163 : Index := 0#32
  ![v1869.toNat, 0, 0]
def k0_off11 (k0_t1 : Fin k0_t1_loop.trips) : Fin 3 → Nat :=
  let c0_1172 : Index := 0#32
  let c0_1173 : Index := 0#32
  let c0_i32_22 : BitVec 32 := 0#32
  let c1_i32_23 : BitVec 32 := 1#32
  let arg23 : BitVec 32 := Scf.iv c0_i32_22 c1_i32_23 k0_t1
  let c512_i32_1171 : BitVec 32 := 512#32
  let v1883 : BitVec 32 := Scalar.muli arg23 c512_i32_1171
  let v1884 : Index := Scalar.indexCast v1883
  ![0, 0, v1884.toNat]
def k0_off12 (k0_t1 : Fin k0_t1_loop.trips) : Fin 3 → Nat :=
  let c0_i32_22 : BitVec 32 := 0#32
  let c1_i32_23 : BitVec 32 := 1#32
  let arg23 : BitVec 32 := Scf.iv c0_i32_22 c1_i32_23 k0_t1
  let c0_i32_1174 : BitVec 32 := 0#32
  let c0_i32_1175 : BitVec 32 := 0#32
  ![arg23.toNat, 0, 0]
def k0_cond3 (k0_t1 : Fin k0_t1_loop.trips) : BitVec 1 :=
  let c0_i32_22 : BitVec 32 := 0#32
  let c1_i32_23 : BitVec 32 := 1#32
  let arg23 : BitVec 32 := Scf.iv c0_i32_22 c1_i32_23 k0_t1
  let c3_i32_1178 : BitVec 32 := 3#32
  let v1894 : BitVec 1 := Scalar.cmpi .eq arg23 c3_i32_1178
  let v1895 : BitVec 32 := Scalar.extui v1894
  let c0_i32_1179 : BitVec 32 := 0#32
  let v1896 : BitVec 1 := Scalar.cmpi .ne v1895 c0_i32_1179
  v1896

def k0_dev2 (d0 : Dev nD) : Nat :=
  let c0_i32_1187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1186 : BitVec 32 := 4#32
  let v1903 : BitVec 32 := Scalar.muli v2 c4_i32_1186
  let v1904 : BitVec 32 := Scalar.addi c0_i32_1187 v1903
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1188 : BitVec 32 := 2#32
  let v1905 : BitVec 32 := Scalar.muli v9 c2_i32_1188
  let v1906 : BitVec 32 := Scalar.addi v1904 v1905
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1189 : BitVec 32 := 1#32
  let v1907 : BitVec 32 := Scalar.muli v8 c1_i32_1189
  let v1908 : BitVec 32 := Scalar.addi v1906 v1907
  v1908.toNat
def k0_cond4 (k0_t1 : Fin k0_t1_loop.trips) : BitVec 1 :=
  let c0_i32_22 : BitVec 32 := 0#32
  let c1_i32_23 : BitVec 32 := 1#32
  let arg23 : BitVec 32 := Scf.iv c0_i32_22 c1_i32_23 k0_t1
  let c7_i32 : BitVec 32 := 7#32
  let v1897 : BitVec 1 := Scalar.cmpi .eq arg23 c7_i32
  let v1898 : BitVec 32 := Scalar.extui v1897
  let c0_i32_1180 : BitVec 32 := 0#32
  let v1899 : BitVec 1 := Scalar.cmpi .ne v1898 c0_i32_1180
  v1899

def k0_dev3 (d0 : Dev nD) : Nat :=
  let c0_i32_1187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1186 : BitVec 32 := 4#32
  let v1903 : BitVec 32 := Scalar.muli v2 c4_i32_1186
  let v1904 : BitVec 32 := Scalar.addi c0_i32_1187 v1903
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1188 : BitVec 32 := 2#32
  let v1905 : BitVec 32 := Scalar.muli v9 c2_i32_1188
  let v1906 : BitVec 32 := Scalar.addi v1904 v1905
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1189 : BitVec 32 := 1#32
  let v1907 : BitVec 32 := Scalar.muli v8 c1_i32_1189
  let v1908 : BitVec 32 := Scalar.addi v1906 v1907
  v1908.toNat
def k0_cond5 (k0_t1 : Fin k0_t1_loop.trips) : BitVec 1 :=
  let c0_i32_22 : BitVec 32 := 0#32
  let c1_i32_23 : BitVec 32 := 1#32
  let arg23 : BitVec 32 := Scf.iv c0_i32_22 c1_i32_23 k0_t1
  let c11_i32 : BitVec 32 := 11#32
  let v1900 : BitVec 1 := Scalar.cmpi .eq arg23 c11_i32
  let v1901 : BitVec 32 := Scalar.extui v1900
  let c0_i32_1181 : BitVec 32 := 0#32
  let v1902 : BitVec 1 := Scalar.cmpi .ne v1901 c0_i32_1181
  v1902

def k0_dev4 (d0 : Dev nD) : Nat :=
  let c0_i32_1187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1186 : BitVec 32 := 4#32
  let v1903 : BitVec 32 := Scalar.muli v2 c4_i32_1186
  let v1904 : BitVec 32 := Scalar.addi c0_i32_1187 v1903
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_1188 : BitVec 32 := 2#32
  let v1905 : BitVec 32 := Scalar.muli v9 c2_i32_1188
  let v1906 : BitVec 32 := Scalar.addi v1904 v1905
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1189 : BitVec 32 := 1#32
  let v1907 : BitVec 32 := Scalar.muli v8 c1_i32_1189
  let v1908 : BitVec 32 := Scalar.addi v1906 v1907
  v1908.toNat
def k0_dev5 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v42 : BitVec 32 := Scalar.muli v2 c4_i32_40
  let v43 : BitVec 32 := Scalar.addi c0_i32_41 v42
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_42 : BitVec 32 := 2#32
  let v44 : BitVec 32 := Scalar.muli v9 c2_i32_42
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v46 : BitVec 32 := Scalar.muli v8 c1_i32_43
  let v47 : BitVec 32 := Scalar.addi v45 v46
  v47.toNat
@[reducible] def k0_t2_loop : Scf.Loop 32 :=
  let c0_i32_61 : BitVec 32 := 0#32
  let c16_i32_62 : BitVec 32 := 16#32
  let v69 : BitVec 32 := Scalar.addi c0_i32_61 c16_i32_62
  let c1_i32_63 : BitVec 32 := 1#32
  ⟨c0_i32_61, v69, c1_i32_63⟩
def k0_cond6 (k0_t2 : Fin k0_t2_loop.trips) : BitVec 1 :=
  let c0_i32_61 : BitVec 32 := 0#32
  let c1_i32_63 : BitVec 32 := 1#32
  let arg23 : BitVec 32 := Scf.iv c0_i32_61 c1_i32_63 k0_t2
  let c1_i32_1153 : BitVec 32 := 1#32
  let v1856 : BitVec 32 := Scalar.addi arg23 c1_i32_1153
  let c16_i32_1154 : BitVec 32 := 16#32
  let v1857 : BitVec 1 := Scalar.cmpi .slt v1856 c16_i32_1154
  let v1858 : BitVec 32 := Scalar.extui v1857
  let c0_i32_1155 : BitVec 32 := 0#32
  let v1859 : BitVec 1 := Scalar.cmpi .ne v1858 c0_i32_1155
  v1859

def k0_off13 (k0_t2 : Fin k0_t2_loop.trips) : Fin 1 → Nat :=
  let c1_i32_1152 : BitVec 32 := 1#32
  let c0_i32_61 : BitVec 32 := 0#32
  let c1_i32_63 : BitVec 32 := 1#32
  let arg23 : BitVec 32 := Scf.iv c0_i32_61 c1_i32_63 k0_t2
  let c2_i32_1151 : BitVec 32 := 2#32
  let v1854 : BitVec 32 := Scalar.remsi arg23 c2_i32_1151
  let v1855 : BitVec 32 := Scalar.subi c1_i32_1152 v1854
  ![v1855.toNat]
def k0_off14 (k0_t2 : Fin k0_t2_loop.trips) : Fin 3 → Nat :=
  let c1_i32_1152 : BitVec 32 := 1#32
  let c0_i32_61 : BitVec 32 := 0#32
  let c1_i32_63 : BitVec 32 := 1#32
  let arg23 : BitVec 32 := Scf.iv c0_i32_61 c1_i32_63 k0_t2
  let c2_i32_1151 : BitVec 32 := 2#32
  let v1854 : BitVec 32 := Scalar.remsi arg23 c2_i32_1151
  let v1855 : BitVec 32 := Scalar.subi c1_i32_1152 v1854
  let c0_i32_1169 : BitVec 32 := 0#32
  let c0_i32_1170 : BitVec 32 := 0#32
  ![v1855.toNat, 0, 0]
def k0_off15 (k0_t2 : Fin k0_t2_loop.trips) : Fin 3 → Nat :=
  let c0_i32_61 : BitVec 32 := 0#32
  let c1_i32_63 : BitVec 32 := 1#32
  let arg23 : BitVec 32 := Scf.iv c0_i32_61 c1_i32_63 k0_t2
  let c1_i32_1168 : BitVec 32 := 1#32
  let v1877 : BitVec 32 := Scalar.addi arg23 c1_i32_1168
  let c0_i32_1171 : BitVec 32 := 0#32
  let c0_i32_1172 : BitVec 32 := 0#32
  ![v1877.toNat, 0, 0]
def k0_off16 (k0_t2 : Fin k0_t2_loop.trips) : Fin 1 → Nat :=
  let c0_i32_61 : BitVec 32 := 0#32
  let c1_i32_63 : BitVec 32 := 1#32
  let arg23 : BitVec 32 := Scf.iv c0_i32_61 c1_i32_63 k0_t2
  let c2_i32_1151 : BitVec 32 := 2#32
  let v1854 : BitVec 32 := Scalar.remsi arg23 c2_i32_1151
  ![v1854.toNat]
def k0_off17 (k0_t2 : Fin k0_t2_loop.trips) : Fin 3 → Nat :=
  let c0_i32_61 : BitVec 32 := 0#32
  let c1_i32_63 : BitVec 32 := 1#32
  let arg23 : BitVec 32 := Scf.iv c0_i32_61 c1_i32_63 k0_t2
  let c2_i32_1151 : BitVec 32 := 2#32
  let v1854 : BitVec 32 := Scalar.remsi arg23 c2_i32_1151
  let c0_i32_1156 : BitVec 32 := 0#32
  let c0_i32_1157 : BitVec 32 := 0#32
  ![v1854.toNat, 0, 0]
def k0_off18 (k0_t2 : Fin k0_t2_loop.trips) : Fin 3 → Nat :=
  let c0_i32_61 : BitVec 32 := 0#32
  let c1_i32_63 : BitVec 32 := 1#32
  let arg23 : BitVec 32 := Scf.iv c0_i32_61 c1_i32_63 k0_t2
  let c0_i32_1158 : BitVec 32 := 0#32
  let c0_i32_1159 : BitVec 32 := 0#32
  ![arg23.toNat, 0, 0]
def k0_off19 (k0_t2 : Fin k0_t2_loop.trips) : Fin 3 → Nat :=
  let c0_i32_61 : BitVec 32 := 0#32
  let c1_i32_63 : BitVec 32 := 1#32
  let arg23 : BitVec 32 := Scf.iv c0_i32_61 c1_i32_63 k0_t2
  let c2_i32_1151 : BitVec 32 := 2#32
  let v1854 : BitVec 32 := Scalar.remsi arg23 c2_i32_1151
  let v1867 : Index := Scalar.indexCast v1854
  let c0_1162 : Index := 0#32
  let c0_1163 : Index := 0#32
  ![v1867.toNat, 0, 0]
def k0_off20 (k0_t2 : Fin k0_t2_loop.trips) : Fin 3 → Nat :=
  let c1_1166 : Index := 1#32
  let c0_1167 : Index := 0#32
  let c0_i32_61 : BitVec 32 := 0#32
  let c1_i32_63 : BitVec 32 := 1#32
  let arg23 : BitVec 32 := Scf.iv c0_i32_61 c1_i32_63 k0_t2
  let c512_i32_1165 : BitVec 32 := 512#32
  let v1872 : BitVec 32 := Scalar.muli arg23 c512_i32_1165
  let v1873 : Index := Scalar.indexCast v1872
  ![1, 0, v1873.toNat]
def k0_dev6 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_69 : BitVec 32 := 4#32
  let v70 : BitVec 32 := Scalar.muli v2 c4_i32_69
  let v71 : BitVec 32 := Scalar.addi c0_i32_70 v70
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_71 : BitVec 32 := 2#32
  let v72 : BitVec 32 := Scalar.muli v9 c2_i32_71
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_72 : BitVec 32 := 1#32
  let v74 : BitVec 32 := Scalar.muli v8 c1_i32_72
  let v75 : BitVec 32 := Scalar.addi v73 v74
  v75.toNat
def k0_off21 (d0 : Dev nD) : Fin 2 → Nat :=
  let c0_132 : Index := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c8192_i32 : BitVec 32 := 8192#32
  let v160 : BitVec 32 := Scalar.muli v5 c8192_i32
  let v161 : Index := Scalar.indexCast v160
  ![0, v161.toNat]
def k0_off22 (d0 : Dev nD) : Fin 2 → Nat :=
  let c0_135 : Index := 0#32
  let c1_i32_133 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v165 : BitVec 32 := Scalar.subi c1_i32_133 v5
  let c8192_i32_134 : BitVec 32 := 8192#32
  let v166 : BitVec 32 := Scalar.muli v165 c8192_i32_134
  let v167 : Index := Scalar.indexCast v166
  ![0, v167.toNat]
def k0_dev7 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_191 : BitVec 32 := 4#32
  let v297 : BitVec 32 := Scalar.muli v2 c4_i32_191
  let v298 : BitVec 32 := Scalar.addi c0_i32_192 v297
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_193 : BitVec 32 := 2#32
  let v299 : BitVec 32 := Scalar.muli v9 c2_i32_193
  let v300 : BitVec 32 := Scalar.addi v298 v299
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_194 : BitVec 32 := 1#32
  let v301 : BitVec 32 := Scalar.muli v8 c1_i32_194
  let v302 : BitVec 32 := Scalar.addi v300 v301
  v302.toNat
@[reducible] def k0_t3_loop : Scf.Loop 32 :=
  let c0_i32_245 : BitVec 32 := 0#32
  let c16_i32_246 : BitVec 32 := 16#32
  let v340 : BitVec 32 := Scalar.addi c0_i32_245 c16_i32_246
  let c1_i32_247 : BitVec 32 := 1#32
  ⟨c0_i32_245, v340, c1_i32_247⟩
def k0_cond7 (k0_t3 : Fin k0_t3_loop.trips) : BitVec 1 :=
  let c0_i32_245 : BitVec 32 := 0#32
  let c1_i32_247 : BitVec 32 := 1#32
  let arg23 : BitVec 32 := Scf.iv c0_i32_245 c1_i32_247 k0_t3
  let c1_i32_1153 : BitVec 32 := 1#32
  let v1856 : BitVec 32 := Scalar.addi arg23 c1_i32_1153
  let c16_i32_1154 : BitVec 32 := 16#32
  let v1857 : BitVec 1 := Scalar.cmpi .slt v1856 c16_i32_1154
  let v1858 : BitVec 32 := Scalar.extui v1857
  let c0_i32_1155 : BitVec 32 := 0#32
  let v1859 : BitVec 1 := Scalar.cmpi .ne v1858 c0_i32_1155
  v1859

def k0_off23 (k0_t3 : Fin k0_t3_loop.trips) : Fin 1 → Nat :=
  let c1_i32_1152 : BitVec 32 := 1#32
  let c0_i32_245 : BitVec 32 := 0#32
  let c1_i32_247 : BitVec 32 := 1#32
  let arg23 : BitVec 32 := Scf.iv c0_i32_245 c1_i32_247 k0_t3
  let c2_i32_1151 : BitVec 32 := 2#32
  let v1854 : BitVec 32 := Scalar.remsi arg23 c2_i32_1151
  let v1855 : BitVec 32 := Scalar.subi c1_i32_1152 v1854
  ![v1855.toNat]
def k0_off24 (k0_t3 : Fin k0_t3_loop.trips) : Fin 3 → Nat :=
  let c1_i32_1152 : BitVec 32 := 1#32
  let c0_i32_245 : BitVec 32 := 0#32
  let c1_i32_247 : BitVec 32 := 1#32
  let arg23 : BitVec 32 := Scf.iv c0_i32_245 c1_i32_247 k0_t3
  let c2_i32_1151 : BitVec 32 := 2#32
  let v1854 : BitVec 32 := Scalar.remsi arg23 c2_i32_1151
  let v1855 : BitVec 32 := Scalar.subi c1_i32_1152 v1854
  let c0_i32_1169 : BitVec 32 := 0#32
  let c0_i32_1170 : BitVec 32 := 0#32
  ![v1855.toNat, 0, 0]
def k0_off25 (k0_t3 : Fin k0_t3_loop.trips) : Fin 3 → Nat :=
  let c0_i32_245 : BitVec 32 := 0#32
  let c1_i32_247 : BitVec 32 := 1#32
  let arg23 : BitVec 32 := Scf.iv c0_i32_245 c1_i32_247 k0_t3
  let c1_i32_1168 : BitVec 32 := 1#32
  let v1877 : BitVec 32 := Scalar.addi arg23 c1_i32_1168
  let c0_i32_1171 : BitVec 32 := 0#32
  let c0_i32_1172 : BitVec 32 := 0#32
  ![v1877.toNat, 0, 0]
def k0_off26 (k0_t3 : Fin k0_t3_loop.trips) : Fin 1 → Nat :=
  let c0_i32_245 : BitVec 32 := 0#32
  let c1_i32_247 : BitVec 32 := 1#32
  let arg23 : BitVec 32 := Scf.iv c0_i32_245 c1_i32_247 k0_t3
  let c2_i32_1151 : BitVec 32 := 2#32
  let v1854 : BitVec 32 := Scalar.remsi arg23 c2_i32_1151
  ![v1854.toNat]
def k0_off27 (k0_t3 : Fin k0_t3_loop.trips) : Fin 3 → Nat :=
  let c0_i32_245 : BitVec 32 := 0#32
  let c1_i32_247 : BitVec 32 := 1#32
  let arg23 : BitVec 32 := Scf.iv c0_i32_245 c1_i32_247 k0_t3
  let c2_i32_1151 : BitVec 32 := 2#32
  let v1854 : BitVec 32 := Scalar.remsi arg23 c2_i32_1151
  let c0_i32_1156 : BitVec 32 := 0#32
  let c0_i32_1157 : BitVec 32 := 0#32
  ![v1854.toNat, 0, 0]
def k0_off28 (k0_t3 : Fin k0_t3_loop.trips) : Fin 3 → Nat :=
  let c0_i32_245 : BitVec 32 := 0#32
  let c1_i32_247 : BitVec 32 := 1#32
  let arg23 : BitVec 32 := Scf.iv c0_i32_245 c1_i32_247 k0_t3
  let c0_i32_1158 : BitVec 32 := 0#32
  let c0_i32_1159 : BitVec 32 := 0#32
  ![arg23.toNat, 0, 0]
def k0_off29 (k0_t3 : Fin k0_t3_loop.trips) : Fin 3 → Nat :=
  let c0_i32_245 : BitVec 32 := 0#32
  let c1_i32_247 : BitVec 32 := 1#32
  let arg23 : BitVec 32 := Scf.iv c0_i32_245 c1_i32_247 k0_t3
  let c2_i32_1151 : BitVec 32 := 2#32
  let v1854 : BitVec 32 := Scalar.remsi arg23 c2_i32_1151
  let v1867 : Index := Scalar.indexCast v1854
  let c0_1162 : Index := 0#32
  let c0_1163 : Index := 0#32
  ![v1867.toNat, 0, 0]
def k0_off30 (k0_t3 : Fin k0_t3_loop.trips) : Fin 3 → Nat :=
  let c0_1166 : Index := 0#32
  let c0_1167 : Index := 0#32
  let c0_i32_245 : BitVec 32 := 0#32
  let c1_i32_247 : BitVec 32 := 1#32
  let arg23 : BitVec 32 := Scf.iv c0_i32_245 c1_i32_247 k0_t3
  let c512_i32_1165 : BitVec 32 := 512#32
  let v1872 : BitVec 32 := Scalar.muli arg23 c512_i32_1165
  let v1873 : Index := Scalar.indexCast v1872
  ![0, 0, v1873.toNat]
def k0_dev8 (d0 : Dev nD) : Nat :=
  let c0_i32_257 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_256 : BitVec 32 := 4#32
  let v343 : BitVec 32 := Scalar.muli v2 c4_i32_256
  let v344 : BitVec 32 := Scalar.addi c0_i32_257 v343
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_258 : BitVec 32 := 2#32
  let v345 : BitVec 32 := Scalar.muli v9 c2_i32_258
  let v346 : BitVec 32 := Scalar.addi v344 v345
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_259 : BitVec 32 := 1#32
  let v347 : BitVec 32 := Scalar.muli v8 c1_i32_259
  let v348 : BitVec 32 := Scalar.addi v346 v347
  v348.toNat
def k0_dev9 (d0 : Dev nD) : Nat :=
  let c0_i32_351 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_350 : BitVec 32 := 4#32
  let v535 : BitVec 32 := Scalar.muli v2 c4_i32_350
  let v536 : BitVec 32 := Scalar.addi c0_i32_351 v535
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_352 : BitVec 32 := 2#32
  let v537 : BitVec 32 := Scalar.muli v9 c2_i32_352
  let v538 : BitVec 32 := Scalar.addi v536 v537
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_353 : BitVec 32 := 1#32
  let v539 : BitVec 32 := Scalar.muli v8 c1_i32_353
  let v540 : BitVec 32 := Scalar.addi v538 v539
  v540.toNat
@[reducible] def k0_t4_loop : Scf.Loop 32 :=
  let c0_i32_377 : BitVec 32 := 0#32
  let c16_i32_378 : BitVec 32 := 16#32
  let v560 : BitVec 32 := Scalar.addi c0_i32_377 c16_i32_378
  let c1_i32_379 : BitVec 32 := 1#32
  ⟨c0_i32_377, v560, c1_i32_379⟩
def k0_cond8 (k0_t4 : Fin k0_t4_loop.trips) : BitVec 1 :=
  let c0_i32_377 : BitVec 32 := 0#32
  let c1_i32_379 : BitVec 32 := 1#32
  let arg23 : BitVec 32 := Scf.iv c0_i32_377 c1_i32_379 k0_t4
  let c1_i32_1153 : BitVec 32 := 1#32
  let v1856 : BitVec 32 := Scalar.addi arg23 c1_i32_1153
  let c16_i32_1154 : BitVec 32 := 16#32
  let v1857 : BitVec 1 := Scalar.cmpi .slt v1856 c16_i32_1154
  let v1858 : BitVec 32 := Scalar.extui v1857
  let c0_i32_1155 : BitVec 32 := 0#32
  let v1859 : BitVec 1 := Scalar.cmpi .ne v1858 c0_i32_1155
  v1859

def k0_off31 (k0_t4 : Fin k0_t4_loop.trips) : Fin 1 → Nat :=
  let c1_i32_1152 : BitVec 32 := 1#32
  let c0_i32_377 : BitVec 32 := 0#32
  let c1_i32_379 : BitVec 32 := 1#32
  let arg23 : BitVec 32 := Scf.iv c0_i32_377 c1_i32_379 k0_t4
  let c2_i32_1151 : BitVec 32 := 2#32
  let v1854 : BitVec 32 := Scalar.remsi arg23 c2_i32_1151
  let v1855 : BitVec 32 := Scalar.subi c1_i32_1152 v1854
  ![v1855.toNat]
def k0_off32 (k0_t4 : Fin k0_t4_loop.trips) : Fin 3 → Nat :=
  let c1_i32_1152 : BitVec 32 := 1#32
  let c0_i32_377 : BitVec 32 := 0#32
  let c1_i32_379 : BitVec 32 := 1#32
  let arg23 : BitVec 32 := Scf.iv c0_i32_377 c1_i32_379 k0_t4
  let c2_i32_1151 : BitVec 32 := 2#32
  let v1854 : BitVec 32 := Scalar.remsi arg23 c2_i32_1151
  let v1855 : BitVec 32 := Scalar.subi c1_i32_1152 v1854
  let c0_i32_1169 : BitVec 32 := 0#32
  let c0_i32_1170 : BitVec 32 := 0#32
  ![v1855.toNat, 0, 0]
def k0_off33 (k0_t4 : Fin k0_t4_loop.trips) : Fin 3 → Nat :=
  let c0_i32_377 : BitVec 32 := 0#32
  let c1_i32_379 : BitVec 32 := 1#32
  let arg23 : BitVec 32 := Scf.iv c0_i32_377 c1_i32_379 k0_t4
  let c1_i32_1168 : BitVec 32 := 1#32
  let v1877 : BitVec 32 := Scalar.addi arg23 c1_i32_1168
  let c0_i32_1171 : BitVec 32 := 0#32
  let c0_i32_1172 : BitVec 32 := 0#32
  ![v1877.toNat, 0, 0]
def k0_off34 (k0_t4 : Fin k0_t4_loop.trips) : Fin 1 → Nat :=
  let c0_i32_377 : BitVec 32 := 0#32
  let c1_i32_379 : BitVec 32 := 1#32
  let arg23 : BitVec 32 := Scf.iv c0_i32_377 c1_i32_379 k0_t4
  let c2_i32_1151 : BitVec 32 := 2#32
  let v1854 : BitVec 32 := Scalar.remsi arg23 c2_i32_1151
  ![v1854.toNat]
def k0_off35 (k0_t4 : Fin k0_t4_loop.trips) : Fin 3 → Nat :=
  let c0_i32_377 : BitVec 32 := 0#32
  let c1_i32_379 : BitVec 32 := 1#32
  let arg23 : BitVec 32 := Scf.iv c0_i32_377 c1_i32_379 k0_t4
  let c2_i32_1151 : BitVec 32 := 2#32
  let v1854 : BitVec 32 := Scalar.remsi arg23 c2_i32_1151
  let c0_i32_1156 : BitVec 32 := 0#32
  let c0_i32_1157 : BitVec 32 := 0#32
  ![v1854.toNat, 0, 0]
def k0_off36 (k0_t4 : Fin k0_t4_loop.trips) : Fin 3 → Nat :=
  let c0_i32_377 : BitVec 32 := 0#32
  let c1_i32_379 : BitVec 32 := 1#32
  let arg23 : BitVec 32 := Scf.iv c0_i32_377 c1_i32_379 k0_t4
  let c0_i32_1158 : BitVec 32 := 0#32
  let c0_i32_1159 : BitVec 32 := 0#32
  ![arg23.toNat, 0, 0]
def k0_off37 (k0_t4 : Fin k0_t4_loop.trips) : Fin 3 → Nat :=
  let c0_i32_377 : BitVec 32 := 0#32
  let c1_i32_379 : BitVec 32 := 1#32
  let arg23 : BitVec 32 := Scf.iv c0_i32_377 c1_i32_379 k0_t4
  let c2_i32_1151 : BitVec 32 := 2#32
  let v1854 : BitVec 32 := Scalar.remsi arg23 c2_i32_1151
  let v1867 : Index := Scalar.indexCast v1854
  let c0_1162 : Index := 0#32
  let c0_1163 : Index := 0#32
  ![v1867.toNat, 0, 0]
def k0_off38 (k0_t4 : Fin k0_t4_loop.trips) : Fin 3 → Nat :=
  let c1_1166 : Index := 1#32
  let c0_1167 : Index := 0#32
  let c0_i32_377 : BitVec 32 := 0#32
  let c1_i32_379 : BitVec 32 := 1#32
  let arg23 : BitVec 32 := Scf.iv c0_i32_377 c1_i32_379 k0_t4
  let c512_i32_1165 : BitVec 32 := 512#32
  let v1872 : BitVec 32 := Scalar.muli arg23 c512_i32_1165
  let v1873 : Index := Scalar.indexCast v1872
  ![1, 0, v1873.toNat]
def k0_dev10 (d0 : Dev nD) : Nat :=
  let c0_i32_389 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_388 : BitVec 32 := 4#32
  let v563 : BitVec 32 := Scalar.muli v2 c4_i32_388
  let v564 : BitVec 32 := Scalar.addi c0_i32_389 v563
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_390 : BitVec 32 := 2#32
  let v565 : BitVec 32 := Scalar.muli v9 c2_i32_390
  let v566 : BitVec 32 := Scalar.addi v564 v565
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_391 : BitVec 32 := 1#32
  let v567 : BitVec 32 := Scalar.muli v8 c1_i32_391
  let v568 : BitVec 32 := Scalar.addi v566 v567
  v568.toNat
def k0_dev11 (d0 : Dev nD) : Nat :=
  let c0_i32_484 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_483 : BitVec 32 := 4#32
  let v755 : BitVec 32 := Scalar.muli v2 c4_i32_483
  let v756 : BitVec 32 := Scalar.addi c0_i32_484 v755
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_485 : BitVec 32 := 2#32
  let v757 : BitVec 32 := Scalar.muli v9 c2_i32_485
  let v758 : BitVec 32 := Scalar.addi v756 v757
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_486 : BitVec 32 := 1#32
  let v759 : BitVec 32 := Scalar.muli v8 c1_i32_486
  let v760 : BitVec 32 := Scalar.addi v758 v759
  v760.toNat
@[reducible] def k0_t5_loop : Scf.Loop 32 :=
  let c0_i32_510 : BitVec 32 := 0#32
  let c16_i32_511 : BitVec 32 := 16#32
  let v780 : BitVec 32 := Scalar.addi c0_i32_510 c16_i32_511
  let c1_i32_512 : BitVec 32 := 1#32
  ⟨c0_i32_510, v780, c1_i32_512⟩
def k0_cond9 (k0_t5 : Fin k0_t5_loop.trips) : BitVec 1 :=
  let c0_i32_510 : BitVec 32 := 0#32
  let c1_i32_512 : BitVec 32 := 1#32
  let arg23 : BitVec 32 := Scf.iv c0_i32_510 c1_i32_512 k0_t5
  let c1_i32_1153 : BitVec 32 := 1#32
  let v1856 : BitVec 32 := Scalar.addi arg23 c1_i32_1153
  let c16_i32_1154 : BitVec 32 := 16#32
  let v1857 : BitVec 1 := Scalar.cmpi .slt v1856 c16_i32_1154
  let v1858 : BitVec 32 := Scalar.extui v1857
  let c0_i32_1155 : BitVec 32 := 0#32
  let v1859 : BitVec 1 := Scalar.cmpi .ne v1858 c0_i32_1155
  v1859

def k0_off39 (k0_t5 : Fin k0_t5_loop.trips) : Fin 1 → Nat :=
  let c1_i32_1152 : BitVec 32 := 1#32
  let c0_i32_510 : BitVec 32 := 0#32
  let c1_i32_512 : BitVec 32 := 1#32
  let arg23 : BitVec 32 := Scf.iv c0_i32_510 c1_i32_512 k0_t5
  let c2_i32_1151 : BitVec 32 := 2#32
  let v1854 : BitVec 32 := Scalar.remsi arg23 c2_i32_1151
  let v1855 : BitVec 32 := Scalar.subi c1_i32_1152 v1854
  ![v1855.toNat]
def k0_off40 (k0_t5 : Fin k0_t5_loop.trips) : Fin 3 → Nat :=
  let c1_i32_1152 : BitVec 32 := 1#32
  let c0_i32_510 : BitVec 32 := 0#32
  let c1_i32_512 : BitVec 32 := 1#32
  let arg23 : BitVec 32 := Scf.iv c0_i32_510 c1_i32_512 k0_t5
  let c2_i32_1151 : BitVec 32 := 2#32
  let v1854 : BitVec 32 := Scalar.remsi arg23 c2_i32_1151
  let v1855 : BitVec 32 := Scalar.subi c1_i32_1152 v1854
  let c0_i32_1169 : BitVec 32 := 0#32
  let c0_i32_1170 : BitVec 32 := 0#32
  ![v1855.toNat, 0, 0]
def k0_off41 (k0_t5 : Fin k0_t5_loop.trips) : Fin 3 → Nat :=
  let c0_i32_510 : BitVec 32 := 0#32
  let c1_i32_512 : BitVec 32 := 1#32
  let arg23 : BitVec 32 := Scf.iv c0_i32_510 c1_i32_512 k0_t5
  let c1_i32_1168 : BitVec 32 := 1#32
  let v1877 : BitVec 32 := Scalar.addi arg23 c1_i32_1168
  let c0_i32_1171 : BitVec 32 := 0#32
  let c0_i32_1172 : BitVec 32 := 0#32
  ![v1877.toNat, 0, 0]
def k0_off42 (k0_t5 : Fin k0_t5_loop.trips) : Fin 1 → Nat :=
  let c0_i32_510 : BitVec 32 := 0#32
  let c1_i32_512 : BitVec 32 := 1#32
  let arg23 : BitVec 32 := Scf.iv c0_i32_510 c1_i32_512 k0_t5
  let c2_i32_1151 : BitVec 32 := 2#32
  let v1854 : BitVec 32 := Scalar.remsi arg23 c2_i32_1151
  ![v1854.toNat]
def k0_off43 (k0_t5 : Fin k0_t5_loop.trips) : Fin 3 → Nat :=
  let c0_i32_510 : BitVec 32 := 0#32
  let c1_i32_512 : BitVec 32 := 1#32
  let arg23 : BitVec 32 := Scf.iv c0_i32_510 c1_i32_512 k0_t5
  let c2_i32_1151 : BitVec 32 := 2#32
  let v1854 : BitVec 32 := Scalar.remsi arg23 c2_i32_1151
  let c0_i32_1156 : BitVec 32 := 0#32
  let c0_i32_1157 : BitVec 32 := 0#32
  ![v1854.toNat, 0, 0]
def k0_off44 (k0_t5 : Fin k0_t5_loop.trips) : Fin 3 → Nat :=
  let c0_i32_510 : BitVec 32 := 0#32
  let c1_i32_512 : BitVec 32 := 1#32
  let arg23 : BitVec 32 := Scf.iv c0_i32_510 c1_i32_512 k0_t5
  let c0_i32_1158 : BitVec 32 := 0#32
  let c0_i32_1159 : BitVec 32 := 0#32
  ![arg23.toNat, 0, 0]
def k0_off45 (k0_t5 : Fin k0_t5_loop.trips) : Fin 3 → Nat :=
  let c0_i32_510 : BitVec 32 := 0#32
  let c1_i32_512 : BitVec 32 := 1#32
  let arg23 : BitVec 32 := Scf.iv c0_i32_510 c1_i32_512 k0_t5
  let c2_i32_1151 : BitVec 32 := 2#32
  let v1854 : BitVec 32 := Scalar.remsi arg23 c2_i32_1151
  let v1867 : Index := Scalar.indexCast v1854
  let c0_1162 : Index := 0#32
  let c0_1163 : Index := 0#32
  ![v1867.toNat, 0, 0]
def k0_off46 (k0_t5 : Fin k0_t5_loop.trips) : Fin 3 → Nat :=
  let c0_1166 : Index := 0#32
  let c0_1167 : Index := 0#32
  let c0_i32_510 : BitVec 32 := 0#32
  let c1_i32_512 : BitVec 32 := 1#32
  let arg23 : BitVec 32 := Scf.iv c0_i32_510 c1_i32_512 k0_t5
  let c512_i32_1165 : BitVec 32 := 512#32
  let v1872 : BitVec 32 := Scalar.muli arg23 c512_i32_1165
  let v1873 : Index := Scalar.indexCast v1872
  ![0, 0, v1873.toNat]
def k0_dev12 (d0 : Dev nD) : Nat :=
  let c0_i32_522 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_521 : BitVec 32 := 4#32
  let v783 : BitVec 32 := Scalar.muli v2 c4_i32_521
  let v784 : BitVec 32 := Scalar.addi c0_i32_522 v783
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_523 : BitVec 32 := 2#32
  let v785 : BitVec 32 := Scalar.muli v9 c2_i32_523
  let v786 : BitVec 32 := Scalar.addi v784 v785
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_524 : BitVec 32 := 1#32
  let v787 : BitVec 32 := Scalar.muli v8 c1_i32_524
  let v788 : BitVec 32 := Scalar.addi v786 v787
  v788.toNat
def k0_dev13 (d0 : Dev nD) : Nat :=
  let c0_i32_617 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_616 : BitVec 32 := 4#32
  let v975 : BitVec 32 := Scalar.muli v2 c4_i32_616
  let v976 : BitVec 32 := Scalar.addi c0_i32_617 v975
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_618 : BitVec 32 := 2#32
  let v977 : BitVec 32 := Scalar.muli v9 c2_i32_618
  let v978 : BitVec 32 := Scalar.addi v976 v977
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_619 : BitVec 32 := 1#32
  let v979 : BitVec 32 := Scalar.muli v8 c1_i32_619
  let v980 : BitVec 32 := Scalar.addi v978 v979
  v980.toNat
@[reducible] def k0_t6_loop : Scf.Loop 32 :=
  let c0_i32_643 : BitVec 32 := 0#32
  let c16_i32_644 : BitVec 32 := 16#32
  let v1000 : BitVec 32 := Scalar.addi c0_i32_643 c16_i32_644
  let c1_i32_645 : BitVec 32 := 1#32
  ⟨c0_i32_643, v1000, c1_i32_645⟩
def k0_cond10 (k0_t6 : Fin k0_t6_loop.trips) : BitVec 1 :=
  let c0_i32_643 : BitVec 32 := 0#32
  let c1_i32_645 : BitVec 32 := 1#32
  let arg23 : BitVec 32 := Scf.iv c0_i32_643 c1_i32_645 k0_t6
  let c1_i32_1153 : BitVec 32 := 1#32
  let v1856 : BitVec 32 := Scalar.addi arg23 c1_i32_1153
  let c16_i32_1154 : BitVec 32 := 16#32
  let v1857 : BitVec 1 := Scalar.cmpi .slt v1856 c16_i32_1154
  let v1858 : BitVec 32 := Scalar.extui v1857
  let c0_i32_1155 : BitVec 32 := 0#32
  let v1859 : BitVec 1 := Scalar.cmpi .ne v1858 c0_i32_1155
  v1859

def k0_off47 (k0_t6 : Fin k0_t6_loop.trips) : Fin 1 → Nat :=
  let c1_i32_1152 : BitVec 32 := 1#32
  let c0_i32_643 : BitVec 32 := 0#32
  let c1_i32_645 : BitVec 32 := 1#32
  let arg23 : BitVec 32 := Scf.iv c0_i32_643 c1_i32_645 k0_t6
  let c2_i32_1151 : BitVec 32 := 2#32
  let v1854 : BitVec 32 := Scalar.remsi arg23 c2_i32_1151
  let v1855 : BitVec 32 := Scalar.subi c1_i32_1152 v1854
  ![v1855.toNat]
def k0_off48 (k0_t6 : Fin k0_t6_loop.trips) : Fin 3 → Nat :=
  let c1_i32_1152 : BitVec 32 := 1#32
  let c0_i32_643 : BitVec 32 := 0#32
  let c1_i32_645 : BitVec 32 := 1#32
  let arg23 : BitVec 32 := Scf.iv c0_i32_643 c1_i32_645 k0_t6
  let c2_i32_1151 : BitVec 32 := 2#32
  let v1854 : BitVec 32 := Scalar.remsi arg23 c2_i32_1151
  let v1855 : BitVec 32 := Scalar.subi c1_i32_1152 v1854
  let c0_i32_1169 : BitVec 32 := 0#32
  let c0_i32_1170 : BitVec 32 := 0#32
  ![v1855.toNat, 0, 0]
def k0_off49 (k0_t6 : Fin k0_t6_loop.trips) : Fin 3 → Nat :=
  let c0_i32_643 : BitVec 32 := 0#32
  let c1_i32_645 : BitVec 32 := 1#32
  let arg23 : BitVec 32 := Scf.iv c0_i32_643 c1_i32_645 k0_t6
  let c1_i32_1168 : BitVec 32 := 1#32
  let v1877 : BitVec 32 := Scalar.addi arg23 c1_i32_1168
  let c0_i32_1171 : BitVec 32 := 0#32
  let c0_i32_1172 : BitVec 32 := 0#32
  ![v1877.toNat, 0, 0]
def k0_off50 (k0_t6 : Fin k0_t6_loop.trips) : Fin 1 → Nat :=
  let c0_i32_643 : BitVec 32 := 0#32
  let c1_i32_645 : BitVec 32 := 1#32
  let arg23 : BitVec 32 := Scf.iv c0_i32_643 c1_i32_645 k0_t6
  let c2_i32_1151 : BitVec 32 := 2#32
  let v1854 : BitVec 32 := Scalar.remsi arg23 c2_i32_1151
  ![v1854.toNat]
def k0_off51 (k0_t6 : Fin k0_t6_loop.trips) : Fin 3 → Nat :=
  let c0_i32_643 : BitVec 32 := 0#32
  let c1_i32_645 : BitVec 32 := 1#32
  let arg23 : BitVec 32 := Scf.iv c0_i32_643 c1_i32_645 k0_t6
  let c2_i32_1151 : BitVec 32 := 2#32
  let v1854 : BitVec 32 := Scalar.remsi arg23 c2_i32_1151
  let c0_i32_1156 : BitVec 32 := 0#32
  let c0_i32_1157 : BitVec 32 := 0#32
  ![v1854.toNat, 0, 0]
def k0_off52 (k0_t6 : Fin k0_t6_loop.trips) : Fin 3 → Nat :=
  let c0_i32_643 : BitVec 32 := 0#32
  let c1_i32_645 : BitVec 32 := 1#32
  let arg23 : BitVec 32 := Scf.iv c0_i32_643 c1_i32_645 k0_t6
  let c0_i32_1158 : BitVec 32 := 0#32
  let c0_i32_1159 : BitVec 32 := 0#32
  ![arg23.toNat, 0, 0]
def k0_off53 (k0_t6 : Fin k0_t6_loop.trips) : Fin 3 → Nat :=
  let c0_i32_643 : BitVec 32 := 0#32
  let c1_i32_645 : BitVec 32 := 1#32
  let arg23 : BitVec 32 := Scf.iv c0_i32_643 c1_i32_645 k0_t6
  let c2_i32_1151 : BitVec 32 := 2#32
  let v1854 : BitVec 32 := Scalar.remsi arg23 c2_i32_1151
  let v1867 : Index := Scalar.indexCast v1854
  let c0_1162 : Index := 0#32
  let c0_1163 : Index := 0#32
  ![v1867.toNat, 0, 0]
def k0_off54 (k0_t6 : Fin k0_t6_loop.trips) : Fin 3 → Nat :=
  let c1_1166 : Index := 1#32
  let c0_1167 : Index := 0#32
  let c0_i32_643 : BitVec 32 := 0#32
  let c1_i32_645 : BitVec 32 := 1#32
  let arg23 : BitVec 32 := Scf.iv c0_i32_643 c1_i32_645 k0_t6
  let c512_i32_1165 : BitVec 32 := 512#32
  let v1872 : BitVec 32 := Scalar.muli arg23 c512_i32_1165
  let v1873 : Index := Scalar.indexCast v1872
  ![1, 0, v1873.toNat]
def k0_dev14 (d0 : Dev nD) : Nat :=
  let c0_i32_655 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_654 : BitVec 32 := 4#32
  let v1003 : BitVec 32 := Scalar.muli v2 c4_i32_654
  let v1004 : BitVec 32 := Scalar.addi c0_i32_655 v1003
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_656 : BitVec 32 := 2#32
  let v1005 : BitVec 32 := Scalar.muli v9 c2_i32_656
  let v1006 : BitVec 32 := Scalar.addi v1004 v1005
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_657 : BitVec 32 := 1#32
  let v1007 : BitVec 32 := Scalar.muli v8 c1_i32_657
  let v1008 : BitVec 32 := Scalar.addi v1006 v1007
  v1008.toNat
def k0_dev15 (d0 : Dev nD) : Nat :=
  let c0_i32_750 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_749 : BitVec 32 := 4#32
  let v1195 : BitVec 32 := Scalar.muli v2 c4_i32_749
  let v1196 : BitVec 32 := Scalar.addi c0_i32_750 v1195
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_751 : BitVec 32 := 2#32
  let v1197 : BitVec 32 := Scalar.muli v9 c2_i32_751
  let v1198 : BitVec 32 := Scalar.addi v1196 v1197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_752 : BitVec 32 := 1#32
  let v1199 : BitVec 32 := Scalar.muli v8 c1_i32_752
  let v1200 : BitVec 32 := Scalar.addi v1198 v1199
  v1200.toNat
@[reducible] def k0_t7_loop : Scf.Loop 32 :=
  let c0_i32_776 : BitVec 32 := 0#32
  let c16_i32_777 : BitVec 32 := 16#32
  let v1220 : BitVec 32 := Scalar.addi c0_i32_776 c16_i32_777
  let c1_i32_778 : BitVec 32 := 1#32
  ⟨c0_i32_776, v1220, c1_i32_778⟩
def k0_cond11 (k0_t7 : Fin k0_t7_loop.trips) : BitVec 1 :=
  let c0_i32_776 : BitVec 32 := 0#32
  let c1_i32_778 : BitVec 32 := 1#32
  let arg23 : BitVec 32 := Scf.iv c0_i32_776 c1_i32_778 k0_t7
  let c1_i32_1153 : BitVec 32 := 1#32
  let v1856 : BitVec 32 := Scalar.addi arg23 c1_i32_1153
  let c16_i32_1154 : BitVec 32 := 16#32
  let v1857 : BitVec 1 := Scalar.cmpi .slt v1856 c16_i32_1154
  let v1858 : BitVec 32 := Scalar.extui v1857
  let c0_i32_1155 : BitVec 32 := 0#32
  let v1859 : BitVec 1 := Scalar.cmpi .ne v1858 c0_i32_1155
  v1859

def k0_off55 (k0_t7 : Fin k0_t7_loop.trips) : Fin 1 → Nat :=
  let c1_i32_1152 : BitVec 32 := 1#32
  let c0_i32_776 : BitVec 32 := 0#32
  let c1_i32_778 : BitVec 32 := 1#32
  let arg23 : BitVec 32 := Scf.iv c0_i32_776 c1_i32_778 k0_t7
  let c2_i32_1151 : BitVec 32 := 2#32
  let v1854 : BitVec 32 := Scalar.remsi arg23 c2_i32_1151
  let v1855 : BitVec 32 := Scalar.subi c1_i32_1152 v1854
  ![v1855.toNat]
def k0_off56 (k0_t7 : Fin k0_t7_loop.trips) : Fin 3 → Nat :=
  let c1_i32_1152 : BitVec 32 := 1#32
  let c0_i32_776 : BitVec 32 := 0#32
  let c1_i32_778 : BitVec 32 := 1#32
  let arg23 : BitVec 32 := Scf.iv c0_i32_776 c1_i32_778 k0_t7
  let c2_i32_1151 : BitVec 32 := 2#32
  let v1854 : BitVec 32 := Scalar.remsi arg23 c2_i32_1151
  let v1855 : BitVec 32 := Scalar.subi c1_i32_1152 v1854
  let c0_i32_1169 : BitVec 32 := 0#32
  let c0_i32_1170 : BitVec 32 := 0#32
  ![v1855.toNat, 0, 0]
def k0_off57 (k0_t7 : Fin k0_t7_loop.trips) : Fin 3 → Nat :=
  let c0_i32_776 : BitVec 32 := 0#32
  let c1_i32_778 : BitVec 32 := 1#32
  let arg23 : BitVec 32 := Scf.iv c0_i32_776 c1_i32_778 k0_t7
  let c1_i32_1168 : BitVec 32 := 1#32
  let v1877 : BitVec 32 := Scalar.addi arg23 c1_i32_1168
  let c0_i32_1171 : BitVec 32 := 0#32
  let c0_i32_1172 : BitVec 32 := 0#32
  ![v1877.toNat, 0, 0]
def k0_off58 (k0_t7 : Fin k0_t7_loop.trips) : Fin 1 → Nat :=
  let c0_i32_776 : BitVec 32 := 0#32
  let c1_i32_778 : BitVec 32 := 1#32
  let arg23 : BitVec 32 := Scf.iv c0_i32_776 c1_i32_778 k0_t7
  let c2_i32_1151 : BitVec 32 := 2#32
  let v1854 : BitVec 32 := Scalar.remsi arg23 c2_i32_1151
  ![v1854.toNat]
def k0_off59 (k0_t7 : Fin k0_t7_loop.trips) : Fin 3 → Nat :=
  let c0_i32_776 : BitVec 32 := 0#32
  let c1_i32_778 : BitVec 32 := 1#32
  let arg23 : BitVec 32 := Scf.iv c0_i32_776 c1_i32_778 k0_t7
  let c2_i32_1151 : BitVec 32 := 2#32
  let v1854 : BitVec 32 := Scalar.remsi arg23 c2_i32_1151
  let c0_i32_1156 : BitVec 32 := 0#32
  let c0_i32_1157 : BitVec 32 := 0#32
  ![v1854.toNat, 0, 0]
def k0_off60 (k0_t7 : Fin k0_t7_loop.trips) : Fin 3 → Nat :=
  let c0_i32_776 : BitVec 32 := 0#32
  let c1_i32_778 : BitVec 32 := 1#32
  let arg23 : BitVec 32 := Scf.iv c0_i32_776 c1_i32_778 k0_t7
  let c0_i32_1158 : BitVec 32 := 0#32
  let c0_i32_1159 : BitVec 32 := 0#32
  ![arg23.toNat, 0, 0]
def k0_off61 (k0_t7 : Fin k0_t7_loop.trips) : Fin 3 → Nat :=
  let c0_i32_776 : BitVec 32 := 0#32
  let c1_i32_778 : BitVec 32 := 1#32
  let arg23 : BitVec 32 := Scf.iv c0_i32_776 c1_i32_778 k0_t7
  let c2_i32_1151 : BitVec 32 := 2#32
  let v1854 : BitVec 32 := Scalar.remsi arg23 c2_i32_1151
  let v1867 : Index := Scalar.indexCast v1854
  let c0_1162 : Index := 0#32
  let c0_1163 : Index := 0#32
  ![v1867.toNat, 0, 0]
def k0_off62 (k0_t7 : Fin k0_t7_loop.trips) : Fin 3 → Nat :=
  let c0_1166 : Index := 0#32
  let c0_1167 : Index := 0#32
  let c0_i32_776 : BitVec 32 := 0#32
  let c1_i32_778 : BitVec 32 := 1#32
  let arg23 : BitVec 32 := Scf.iv c0_i32_776 c1_i32_778 k0_t7
  let c512_i32_1165 : BitVec 32 := 512#32
  let v1872 : BitVec 32 := Scalar.muli arg23 c512_i32_1165
  let v1873 : Index := Scalar.indexCast v1872
  ![0, 0, v1873.toNat]
def k0_dev16 (d0 : Dev nD) : Nat :=
  let c0_i32_788 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_787 : BitVec 32 := 4#32
  let v1223 : BitVec 32 := Scalar.muli v2 c4_i32_787
  let v1224 : BitVec 32 := Scalar.addi c0_i32_788 v1223
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_789 : BitVec 32 := 2#32
  let v1225 : BitVec 32 := Scalar.muli v9 c2_i32_789
  let v1226 : BitVec 32 := Scalar.addi v1224 v1225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_790 : BitVec 32 := 1#32
  let v1227 : BitVec 32 := Scalar.muli v8 c1_i32_790
  let v1228 : BitVec 32 := Scalar.addi v1226 v1227
  v1228.toNat
def k0_dev17 (d0 : Dev nD) : Nat :=
  let c0_i32_883 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_882 : BitVec 32 := 4#32
  let v1415 : BitVec 32 := Scalar.muli v2 c4_i32_882
  let v1416 : BitVec 32 := Scalar.addi c0_i32_883 v1415
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_884 : BitVec 32 := 2#32
  let v1417 : BitVec 32 := Scalar.muli v9 c2_i32_884
  let v1418 : BitVec 32 := Scalar.addi v1416 v1417
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_885 : BitVec 32 := 1#32
  let v1419 : BitVec 32 := Scalar.muli v8 c1_i32_885
  let v1420 : BitVec 32 := Scalar.addi v1418 v1419
  v1420.toNat
@[reducible] def k0_t8_loop : Scf.Loop 32 :=
  let c0_i32_909 : BitVec 32 := 0#32
  let c16_i32_910 : BitVec 32 := 16#32
  let v1440 : BitVec 32 := Scalar.addi c0_i32_909 c16_i32_910
  let c1_i32_911 : BitVec 32 := 1#32
  ⟨c0_i32_909, v1440, c1_i32_911⟩
def k0_cond12 (k0_t8 : Fin k0_t8_loop.trips) : BitVec 1 :=
  let c0_i32_909 : BitVec 32 := 0#32
  let c1_i32_911 : BitVec 32 := 1#32
  let arg23 : BitVec 32 := Scf.iv c0_i32_909 c1_i32_911 k0_t8
  let c1_i32_1153 : BitVec 32 := 1#32
  let v1856 : BitVec 32 := Scalar.addi arg23 c1_i32_1153
  let c16_i32_1154 : BitVec 32 := 16#32
  let v1857 : BitVec 1 := Scalar.cmpi .slt v1856 c16_i32_1154
  let v1858 : BitVec 32 := Scalar.extui v1857
  let c0_i32_1155 : BitVec 32 := 0#32
  let v1859 : BitVec 1 := Scalar.cmpi .ne v1858 c0_i32_1155
  v1859

def k0_off63 (k0_t8 : Fin k0_t8_loop.trips) : Fin 1 → Nat :=
  let c1_i32_1152 : BitVec 32 := 1#32
  let c0_i32_909 : BitVec 32 := 0#32
  let c1_i32_911 : BitVec 32 := 1#32
  let arg23 : BitVec 32 := Scf.iv c0_i32_909 c1_i32_911 k0_t8
  let c2_i32_1151 : BitVec 32 := 2#32
  let v1854 : BitVec 32 := Scalar.remsi arg23 c2_i32_1151
  let v1855 : BitVec 32 := Scalar.subi c1_i32_1152 v1854
  ![v1855.toNat]
def k0_off64 (k0_t8 : Fin k0_t8_loop.trips) : Fin 3 → Nat :=
  let c1_i32_1152 : BitVec 32 := 1#32
  let c0_i32_909 : BitVec 32 := 0#32
  let c1_i32_911 : BitVec 32 := 1#32
  let arg23 : BitVec 32 := Scf.iv c0_i32_909 c1_i32_911 k0_t8
  let c2_i32_1151 : BitVec 32 := 2#32
  let v1854 : BitVec 32 := Scalar.remsi arg23 c2_i32_1151
  let v1855 : BitVec 32 := Scalar.subi c1_i32_1152 v1854
  let c0_i32_1169 : BitVec 32 := 0#32
  let c0_i32_1170 : BitVec 32 := 0#32
  ![v1855.toNat, 0, 0]
def k0_off65 (k0_t8 : Fin k0_t8_loop.trips) : Fin 3 → Nat :=
  let c0_i32_909 : BitVec 32 := 0#32
  let c1_i32_911 : BitVec 32 := 1#32
  let arg23 : BitVec 32 := Scf.iv c0_i32_909 c1_i32_911 k0_t8
  let c1_i32_1168 : BitVec 32 := 1#32
  let v1877 : BitVec 32 := Scalar.addi arg23 c1_i32_1168
  let c0_i32_1171 : BitVec 32 := 0#32
  let c0_i32_1172 : BitVec 32 := 0#32
  ![v1877.toNat, 0, 0]
def k0_off66 (k0_t8 : Fin k0_t8_loop.trips) : Fin 1 → Nat :=
  let c0_i32_909 : BitVec 32 := 0#32
  let c1_i32_911 : BitVec 32 := 1#32
  let arg23 : BitVec 32 := Scf.iv c0_i32_909 c1_i32_911 k0_t8
  let c2_i32_1151 : BitVec 32 := 2#32
  let v1854 : BitVec 32 := Scalar.remsi arg23 c2_i32_1151
  ![v1854.toNat]
def k0_off67 (k0_t8 : Fin k0_t8_loop.trips) : Fin 3 → Nat :=
  let c0_i32_909 : BitVec 32 := 0#32
  let c1_i32_911 : BitVec 32 := 1#32
  let arg23 : BitVec 32 := Scf.iv c0_i32_909 c1_i32_911 k0_t8
  let c2_i32_1151 : BitVec 32 := 2#32
  let v1854 : BitVec 32 := Scalar.remsi arg23 c2_i32_1151
  let c0_i32_1156 : BitVec 32 := 0#32
  let c0_i32_1157 : BitVec 32 := 0#32
  ![v1854.toNat, 0, 0]
def k0_off68 (k0_t8 : Fin k0_t8_loop.trips) : Fin 3 → Nat :=
  let c0_i32_909 : BitVec 32 := 0#32
  let c1_i32_911 : BitVec 32 := 1#32
  let arg23 : BitVec 32 := Scf.iv c0_i32_909 c1_i32_911 k0_t8
  let c0_i32_1158 : BitVec 32 := 0#32
  let c0_i32_1159 : BitVec 32 := 0#32
  ![arg23.toNat, 0, 0]
def k0_off69 (k0_t8 : Fin k0_t8_loop.trips) : Fin 3 → Nat :=
  let c0_i32_909 : BitVec 32 := 0#32
  let c1_i32_911 : BitVec 32 := 1#32
  let arg23 : BitVec 32 := Scf.iv c0_i32_909 c1_i32_911 k0_t8
  let c2_i32_1151 : BitVec 32 := 2#32
  let v1854 : BitVec 32 := Scalar.remsi arg23 c2_i32_1151
  let v1867 : Index := Scalar.indexCast v1854
  let c0_1162 : Index := 0#32
  let c0_1163 : Index := 0#32
  ![v1867.toNat, 0, 0]
def k0_off70 (k0_t8 : Fin k0_t8_loop.trips) : Fin 3 → Nat :=
  let c1_1166 : Index := 1#32
  let c0_1167 : Index := 0#32
  let c0_i32_909 : BitVec 32 := 0#32
  let c1_i32_911 : BitVec 32 := 1#32
  let arg23 : BitVec 32 := Scf.iv c0_i32_909 c1_i32_911 k0_t8
  let c512_i32_1165 : BitVec 32 := 512#32
  let v1872 : BitVec 32 := Scalar.muli arg23 c512_i32_1165
  let v1873 : Index := Scalar.indexCast v1872
  ![1, 0, v1873.toNat]
def k0_dev18 (d0 : Dev nD) : Nat :=
  let c0_i32_921 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_920 : BitVec 32 := 4#32
  let v1443 : BitVec 32 := Scalar.muli v2 c4_i32_920
  let v1444 : BitVec 32 := Scalar.addi c0_i32_921 v1443
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_922 : BitVec 32 := 2#32
  let v1445 : BitVec 32 := Scalar.muli v9 c2_i32_922
  let v1446 : BitVec 32 := Scalar.addi v1444 v1445
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_923 : BitVec 32 := 1#32
  let v1447 : BitVec 32 := Scalar.muli v8 c1_i32_923
  let v1448 : BitVec 32 := Scalar.addi v1446 v1447
  v1448.toNat
def k0_dev19 (d0 : Dev nD) : Nat :=
  let c0_i32_933 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_932 : BitVec 32 := 4#32
  let v1457 : BitVec 32 := Scalar.muli v2 c4_i32_932
  let v1458 : BitVec 32 := Scalar.addi c0_i32_933 v1457
  let c1_i32_3 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.subi c1_i32_3 v5
  let c2_i32_934 : BitVec 32 := 2#32
  let v1459 : BitVec 32 := Scalar.muli v9 c2_i32_934
  let v1460 : BitVec 32 := Scalar.addi v1458 v1459
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_935 : BitVec 32 := 1#32
  let v1461 : BitVec 32 := Scalar.muli v8 c1_i32_935
  let v1462 : BitVec 32 := Scalar.addi v1460 v1461
  v1462.toNat
-- ==== ReferenceIdeal.lean ====
abbrev S2048x4096 : Shape := ⟨2, ![2048, 4096]⟩
abbrev S4096x16384 : Shape := ⟨2, ![4096, 16384]⟩
abbrev S2048x16384 : Shape := ⟨2, ![2048, 16384]⟩
abbrev S_ : Shape := ⟨0, ![]⟩
abbrev S2048 : Shape := ⟨1, ![2048]⟩
abbrev S2048x1 : Shape := ⟨2, ![2048, 1]⟩

abbrev nBuf : Space → Nat
  | .hbm => 15
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x16384, .f32⟩
  | .hbm, ⟨2, _⟩ => ⟨S2048x16384, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x16384, .f32⟩
  | .hbm, ⟨7, _⟩ => ⟨S2048x16384, .f32⟩
  | .hbm, ⟨8, _⟩ => ⟨S2048x16384, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S2048x16384, .f32⟩
  | .hbm, ⟨13, _⟩ => ⟨S2048x16384, .f32⟩
  | .hbm, ⟨14, _⟩ => ⟨S2048x16384, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.KernelIdeal.Prog.lean ====
/- The kernel body restated as a structured program. The printed body is cut by statement count and repeats
   the same few steps for each of its eight row blocks; here every step is one definition, taking the
   block, chunk or slot it works on, and the body is their sequence (`bodyP`). The last theorem says the
   printed body is this program. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 65536

noncomputable section

namespace Cert.KernelIdeal.Body

open Cert.KernelIdeal Cert.KernelIdeal.Gen
open Idealize.ShloMosaic Idealize.ShloMosaic.TcCoe
open Idealize.SL.Sem

variable {F : FTy → Type} [FloatOps F]

/-- Programs of the kernel body's effects. -/
abbrev PG (F : FTy → Type) (α : Type) := Prog (TpuEff nD τ sig (Elt F) Λ₀ .tc) α

/-! ## The buffers -/

/-- The activations, this device's block of the weights, the result and the bf16 copy of the weights. -/
abbrev xH : Memref sig .tc .hbm S2048x4096 .f32 := Memref.whole main_arg0
abbrev wH : Memref sig .tc .hbm S4096x8192 .f32 := Memref.whole main_arg1
abbrev oH : Memref sig .tc .hbm S2048x16384 .bf16 := Memref.whole main_v1_0
abbrev bH : Memref sig .tc .hbm S16x4096x512 .bf16 := Memref.whole main_v1_1
/-- The staging buffers: a row block of x in f32 and bf16, two slots of weights in f32 and bf16, two slots of
    this device's logits and of the partner's, a result chunk. -/
abbrev xF : Memref sig .tc .vmem S256x4096 .f32 := Memref.whole cc0_scratch0
abbrev xB : Memref sig .tc .vmem S256x4096 .bf16 := Memref.whole cc0_scratch1
abbrev wF : Memref sig .tc .vmem S2x4096x512 .f32 := Memref.whole cc0_scratch2
abbrev wB : Memref sig .tc .vmem S2x4096x512 .bf16 := Memref.whole cc0_scratch3
abbrev lgM : Memref sig .tc .vmem S2x256x8192 .bf16 := Memref.whole cc0_scratch4
abbrev cmM : Memref sig .tc .vmem S2x256x8192 .bf16 := Memref.whole cc0_scratch5
abbrev oB : Memref sig .tc .vmem S64x16384 .bf16 := Memref.whole cc0_scratch6

/-! ## Views, by their offsets -/

/-- A slot of a two-slot weight buffer. -/
def slotV {e : EltTy} (m : Memref sig .tc .vmem S2x4096x512 e) (o : Fin 3 → Nat) (h : ∀ a, o a + S1x4096x512.size a ≤ S2x4096x512.size a) :
    Memref sig .tc .vmem S4096x512 e :=
  (m.slice (Rect.unit (s := S2x4096x512) o S1x4096x512.size h) (fun _ => rfl)).squeeze S4096x512 squeezes_S1x4096x512_S4096x512
/-- A chunk of the bf16 weight copy. -/
def chunkV (o : Fin 3 → Nat) (h : ∀ a, o a + S1x4096x512.size a ≤ S16x4096x512.size a) : Memref sig .tc .hbm S4096x512 .bf16 :=
  (bH.slice (Rect.unit (s := S16x4096x512) o S1x4096x512.size h) (fun _ => rfl)).squeeze S4096x512 squeezes_S1x4096x512_S4096x512
/-- 512 columns of the weights. -/
def colsV (o : Fin 2 → Nat) (h : ∀ a, o a + S4096x512.size a ≤ S4096x8192.size a) : Memref sig .tc .hbm S4096x512 .f32 :=
  wH.slice (Rect.unit (s := S4096x8192) o S4096x512.size h) (fun _ => rfl)
/-- 256 rows of the activations. -/
def rowsV (o : Fin 2 → Nat) (h : ∀ a, o a + S256x4096.size a ≤ S2048x4096.size a) : Memref sig .tc .hbm S256x4096 .f32 :=
  xH.slice (Rect.unit (s := S2048x4096) o S256x4096.size h) (fun _ => rfl)
/-- 64 rows of the result. -/
def outV (o : Fin 2 → Nat) (h : ∀ a, o a + S64x16384.size a ≤ S2048x16384.size a) : Memref sig .tc .hbm S64x16384 .bf16 :=
  oH.slice (Rect.unit (s := S2048x16384) o S64x16384.size h) (fun _ => rfl)
/-- A quarter of a slot of a logits buffer (2048 columns). -/
def quarterV (m : Memref sig .tc .vmem S2x256x8192 .bf16) (o : Fin 3 → Nat) (h : ∀ a, o a + S1x256x2048.size a ≤ S2x256x8192.size a) :
    Memref sig .tc .vmem S256x2048 .bf16 :=
  (m.slice (Rect.unit (s := S2x256x8192) o S1x256x2048.size h) (fun _ => rfl)).squeeze S256x2048 squeezes_S1x256x2048_S256x2048
/-- A whole slot of a logits buffer. -/
def fullV (m : Memref sig .tc .vmem S2x256x8192 .bf16) (o : Fin 3 → Nat) (h : ∀ a, o a + S1x256x8192.size a ≤ S2x256x8192.size a) :
    Memref sig .tc .vmem S256x8192 .bf16 :=
  (m.slice (Rect.unit (s := S2x256x8192) o S1x256x8192.size h) (fun _ => rfl)).squeeze S256x8192 squeezes_S1x256x8192_S256x8192
/-- Half the rows of a slot of a logits buffer. -/
def halfV (m : Memref sig .tc .vmem S2x256x8192 .bf16) (o : Fin 3 → Nat) (h : ∀ a, o a + S1x128x8192.size a ≤ S2x256x8192.size a) :
    Memref sig .tc .vmem S128x8192 .bf16 :=
  (m.slice (Rect.unit (s := S2x256x8192) o S1x128x8192.size h) (fun _ => rfl)).squeeze S128x8192 squeezes_S1x128x8192_S128x8192

/-- Element of a semaphore array of two, and of four. -/
def sem2 (a : DmaSems sig S2) (o : Fin 1 → Nat) (h : ∀ i, o i + S1.size i ≤ S2.size i) : DmaSem sig :=
  ((a.slice (Rect.unit (s := S2) o S1.size h)).squeeze S_ squeezes_S1_S_).sem
def sem4 (a : DmaSems sig S4) (o : Fin 1 → Nat) (h : ∀ i, o i + S1.size i ≤ S4.size i) : DmaSem sig :=
  ((a.slice (Rect.unit (s := S4) o S1.size h)).squeeze S_ squeezes_S1_S_).sem
/-- The credit semaphore of a slot. -/
def creditS (o : Fin 1 → Nat) (h : ∀ i, o i + S1.size i ≤ S2.size i) : Sem sig :=
  ((cc0_scratch18.slice (Rect.unit (s := S2) o S1.size h)).squeeze S_ squeezes_S1_S_).sem

/-! ## Offsets: evidence that they stay inside -/

/-- An entry below two lies within a semaphore array of two. -/
theorem inb2 {k : Nat} (h : k < 2) : ∀ i, (![k] : Fin 1 → Nat) i + S1.size i ≤ S2.size i := by
  intro i; fin_cases i; simp; omega

/-- An entry below four lies within a semaphore array of four. -/
theorem inb4 {k : Nat} (h : k < 4) : ∀ i, (![k] : Fin 1 → Nat) i + S1.size i ≤ S4.size i := by
  intro i; fin_cases i; simp; omega

/-- A slot below two lies within a two-slot weight buffer. -/
theorem inbSlot {k : Nat} (h : k < 2) : ∀ a, (![k, 0, 0] : Fin 3 → Nat) a + S1x4096x512.size a ≤ S2x4096x512.size a := by
  intro i; fin_cases i <;> simp; omega

/-- A chunk below sixteen lies within the bf16 weight copy. -/
theorem inbChunk {k : Nat} (h : k < 16) : ∀ a, (![k, 0, 0] : Fin 3 → Nat) a + S1x4096x512.size a ≤ S16x4096x512.size a := by
  intro i; fin_cases i <;> simp; omega

/-- The 512 columns of a chunk below sixteen lie within the weights. -/
theorem inbCols {k : Nat} (h : k < 16) : ∀ a, (![0, 512 * k] : Fin 2 → Nat) a + S4096x512.size a ≤ S4096x8192.size a := by
  intro i; fin_cases i <;> simp; omega

/-- The 256 rows of a block below eight lie within the activations. -/
theorem inbRows {b : Nat} (h : b < 8) : ∀ a, (![256 * b, 0] : Fin 2 → Nat) a + S256x4096.size a ≤ S2048x4096.size a := by
  intro i; fin_cases i <;> simp; omega

/-- The 64 rows of a chunk below thirty-two lie within the result. -/
theorem inbOut {n : Nat} (h : n < 32) : ∀ a, (![64 * n, 0] : Fin 2 → Nat) a + S64x16384.size a ≤ S2048x16384.size a := by
  intro i; fin_cases i <;> simp; omega

/-- A quarter below four lies within a logits buffer. -/
theorem inbQuarter {q : Nat} (h : q < 4) : ∀ a, (![0, 0, 2048 * q] : Fin 3 → Nat) a + S1x256x2048.size a ≤ S2x256x8192.size a := by
  intro i; fin_cases i <;> simp; omega

/-- A slot below two lies within a logits buffer. -/
theorem inbFull {s : Nat} (h : s < 2) : ∀ a, (![s, 0, 0] : Fin 3 → Nat) a + S1x256x8192.size a ≤ S2x256x8192.size a := by
  intro i; fin_cases i <;> simp; omega

/-- Either half of the second slot's rows lies within a logits buffer. -/
theorem inbHalf {s : Nat} (h : s < 2) : ∀ a, (![1, 128 * s, 0] : Fin 3 → Nat) a + S1x128x8192.size a ≤ S2x256x8192.size a := by
  intro i; fin_cases i <;> simp; omega

/-- A band of 64 rows of a slot lies within a logits buffer. -/
theorem inbBand {s j : Nat} (h : s < 2) (hj : j < 4) : ∀ a, (![s, 64 * j, 0] : Fin 3 → Nat) a + S1x64x8192.size a ≤ S2x256x8192.size a := by
  intro i; fin_cases i <;> simp <;> omega

/-! ## Views, by the block, chunk or slot -/

abbrev rowsB (b : Fin 8) := rowsV ![256 * b.val, 0] (inbRows b.isLt)
abbrev outN (n : Fin 32) := outV ![64 * n.val, 0] (inbOut n.isLt)
abbrev semS (a : DmaSems sig S2) (s : Fin 2) := sem2 a ![s.val] (inb2 s.isLt)
abbrev semQ (a : DmaSems sig S4) (q : Fin 4) := sem4 a ![q.val] (inb4 q.isLt)
abbrev credS (s : Fin 2) := creditS ![s.val] (inb2 s.isLt)
abbrev quarter (m : Memref sig .tc .vmem S2x256x8192 .bf16) (q : Fin 4) := quarterV m ![0, 0, 2048 * q.val] (inbQuarter q.isLt)
abbrev full (m : Memref sig .tc .vmem S2x256x8192 .bf16) (s : Fin 2) := fullV m ![s.val, 0, 0] (inbFull s.isLt)
abbrev half (m : Memref sig .tc .vmem S2x256x8192 .bf16) (s : Fin 2) := halfV m ![1, 128 * s.val, 0] (inbHalf s.isLt)
abbrev bandR (s : Fin 2) (j : Fin 4) : Rect S2x256x8192 := Rect.unit (s := S2x256x8192) ![s.val, 64 * j.val, 0] S1x64x8192.size (inbBand s.isLt j.isLt)
abbrev xR : Rect S256x4096 := Rect.unit (s := S256x4096) ![0, 0] S256x4096.size inb_S256x4096_S256x4096_0_0
/-- The columns of a result chunk that this device's logits give, and the partner's. -/
abbrev mineR (d : Dev nD) : Rect S64x16384 := Rect.unit (s := S64x16384) (k0_off21 d) S64x8192.size (k0_off21_inb d)
abbrev theirsR (d : Dev nD) : Rect S64x16384 := Rect.unit (s := S64x16384) (k0_off22 d) S64x8192.size (k0_off22_inb d)

/-! ## The steps -/

/-- Start a local copy. -/
def copyTo {sp sp' : Space} {s : Shape} {e : EltTy} (src : Memref sig .tc sp s e) (dst : Memref sig .tc sp' s e) (sm : DmaSem sig)
    (h₁ : src.view.WordExact) (h₂ : dst.view.WordExact) (h : (DmaTarget.here (nD := nD) (τ := τ) (p := .tc) dst).Typed sp (.dma sm)) : PG F PUnit :=
  Prog.lift (.enqueueDma src (.here dst) (.dma sm) h₁ h₂ h)
/-- Start a copy to device `d`, the sender's semaphore and the receiver's. -/
def sendTo {s : Shape} {e : EltTy} (d : Dev nD) (src dst : Memref sig .tc .vmem s e) (sS sR : DmaSem sig)
    (h₁ : src.view.WordExact) (h₂ : dst.view.WordExact) : PG F PUnit :=
  Prog.lift (.enqueueDma src (.remote (Dev.tc d) dst (.dma sS)) (.dma sR) h₁ h₂ ⟨⟨rfl, Or.inl rfl⟩, trivial⟩)
/-- Wait for a copy into `dst`. -/
def waitOn {sp : Space} {s : Shape} {e : EltTy} (sm : DmaSem sig) (dst : Memref sig .tc sp s e) : PG F PUnit :=
  Prog.lift (.waitDma sm dst.view.ref s e (.inr dst.hasMemref))

/-- The device that holds the other half of the vocabulary: the second mesh axis flipped. -/
def partner (d : Dev nD) : Dev nD := ⟨k0_dev1 d, k0_dev1_lt d⟩

/-- Start fetching row block `b` of the activations, and wait for it. -/
def startX (b : Fin 8) : PG F PUnit := copyTo (rowsB b) xF cc0_scratch7.sem (View.wordExact_bits rfl) (Memref.isWhole_whole _).wordExact ⟨Or.inl rfl, trivial⟩
def waitX : PG F PUnit := waitOn cc0_scratch7.sem xF
/-- Cast the fetched row block to bf16. -/
def castX : PG F PUnit := do
  let v : Vec F S256x4096 .f32 ← Prog.lift (.load xF xR.toLoadRect (View.loadsAt_vmem h_S256x4096))
  let _ : Vec F S256x4096 .bf16 ← Prog.lift (.load xB xR.toLoadRect (View.loadsAt_vmem h_S256x4096))
  Prog.lift (.store xB xR (k0_pay3 v) Finset.univ (View.stores_vmem h_S256x4096 ((Memref.isWhole_whole _).storeExact_slice rfl _ packedbf16_S256x4096_S256x4096_0_0) (fun _ => rfl)) (.inl rfl))

/-! ## Evidence that a copy's ends are whole words -/

/-- A slot of the bf16 weight buffer is made of whole words. -/
theorem words_slot {o : Fin 3 → Nat} {h} (e : o = ![o 0, 0, 0]) : (Rect.unit (s := S2x4096x512) o S1x4096x512.size h).WholeWords (EltTy.packing .bf16) := by
  refine .inr ⟨by decide, rfl, ?_, rfl⟩
  show o 1 = 0
  rw [e]; rfl

/-- A chunk of the bf16 weight copy is made of whole words. -/
theorem words_chunk {o : Fin 3 → Nat} {h} (e : o = ![o 0, 0, 0]) : (Rect.unit (s := S16x4096x512) o S1x4096x512.size h).WholeWords (EltTy.packing .bf16) := by
  refine .inr ⟨by decide, rfl, ?_, rfl⟩
  show o 1 = 0
  rw [e]; rfl

/-- The view of a bf16 weight slot covers whole words. -/
theorem slotV_words {o : Fin 3 → Nat} {h} (e : o = ![o 0, 0, 0]) : (slotV wB o h).view.WordExact :=
  ((Memref.isWhole_whole _).wordExact_slice rfl _ (words_slot e)).reshape _ _

/-- The view of a chunk of the bf16 weight copy covers whole words. -/
theorem chunkV_words {o : Fin 3 → Nat} {h} (e : o = ![o 0, 0, 0]) : (chunkV o h).view.WordExact :=
  ((Memref.isWhole_whole _).wordExact_slice rfl _ (words_chunk e)).reshape _ _

/-- A chunk of the result is made of whole words. -/
theorem words_out {n : Nat} {h} : (Rect.unit (s := S2048x16384) ![64 * n, 0] S64x16384.size h).WholeWords (EltTy.packing .bf16) :=
  .inl (.inr ⟨by decide, rfl, .inl ⟨⟨32 * n, by show 64 * n = 2 * (32 * n); omega⟩, ⟨32, rfl⟩⟩⟩)

/-- The view of a chunk of the result covers whole words. -/
theorem outV_words (n : Fin 32) : (outN n).view.WordExact := (Memref.isWhole_whole _).wordExact_slice rfl _ words_out

/-- The view of a quarter of a logits buffer covers whole words. -/
theorem quarterV_words {b : Ref sig .tc} (m : Memref sig .tc .vmem S2x256x8192 .bf16) (hm : m.IsWhole) (q : Fin 4) : (quarter m q).view.WordExact :=
  (hm.wordExact_slice rfl _ (.inr ⟨by decide, rfl, rfl, rfl⟩)).reshape _ _

/-- The view of a slot of a logits buffer covers whole words. -/
theorem fullV_words (m : Memref sig .tc .vmem S2x256x8192 .bf16) (hm : m.IsWhole) (s : Fin 2) : (full m s).view.WordExact :=
  (hm.wordExact_slice rfl _ (.inr ⟨by decide, rfl, rfl, rfl⟩)).reshape _ _

/-- The view of half the rows of the second slot covers whole words. -/
theorem halfV_words (m : Memref sig .tc .vmem S2x256x8192 .bf16) (hm : m.IsWhole) (s : Fin 2) : (half m s).view.WordExact :=
  (hm.wordExact_slice rfl _ (.inl (.inr ⟨by decide, rfl, .inl ⟨⟨64 * s.val, by show 128 * s.val = 2 * (64 * s.val); omega⟩, ⟨64, rfl⟩⟩⟩))).reshape _ _

/-! ## Sends -/

/-- Send quarter `q` of the first row block's logits; a whole slot; half the rows of the second slot. -/
def sendQ (d : Dev nD) (q : Fin 4) : PG F PUnit :=
  sendTo (partner d) (quarter lgM q) (quarter cmM q) (semQ cc0_scratch13 q) (semQ cc0_scratch14 q)
    (quarterV_words (b := cc0_scratch4) _ (Memref.isWhole_whole _) q) (quarterV_words (b := cc0_scratch5) _ (Memref.isWhole_whole _) q)
def sendF (d : Dev nD) (s : Fin 2) : PG F PUnit :=
  sendTo (partner d) (full lgM s) (full cmM s) (semS cc0_scratch11 s) (semS cc0_scratch12 s)
    (fullV_words _ (Memref.isWhole_whole _) s) (fullV_words _ (Memref.isWhole_whole _) s)
def sendH (d : Dev nD) (s : Fin 2) : PG F PUnit :=
  sendTo (partner d) (half lgM s) (half cmM s) (semS cc0_scratch15 s) (semS cc0_scratch16 s)
    (halfV_words _ (Memref.isWhole_whole _) s) (halfV_words _ (Memref.isWhole_whole _) s)

/-! ## The softmax of a chunk of 64 rows -/

def waitOut : PG F PUnit := waitOn cc0_scratch17.sem (outN 0)
/-- Rows `64 j` of slot `s` normalised into the result chunk buffer, which then is copied to chunk `n` of the result;
    `w` waits for the copy before. -/
def chunk (d : Dev nD) (s : Fin 2) (j : Fin 4) (n : Fin 32) (w : PG F PUnit) : PG F PUnit := do
  let a : Vec F S1x64x8192 .bf16 ← Prog.lift (.load lgM (bandR s j).toLoadRect (View.loadsAt_vmem h_S1x64x8192))
  let b : Vec F S1x64x8192 .bf16 ← Prog.lift (.load cmM (bandR s j).toLoadRect (View.loadsAt_vmem h_S1x64x8192))
  w
  let _ : Vec F S64x8192 .bf16 ← Prog.lift (.load oB (mineR d).toLoadRect (View.loadsAt_vmem h_S64x8192))
  Prog.lift (.store oB (mineR d) (k0_pay13 (k0_pay7 a) b) Finset.univ (View.stores_vmem h_S64x8192 ((Memref.isWhole_whole _).storeExact_slice rfl _ (k0_off21_packedbf16 d)) (fun _ => rfl)) (.inl rfl))
  let _ : Vec F S64x8192 .bf16 ← Prog.lift (.load oB (theirsR d).toLoadRect (View.loadsAt_vmem h_S64x8192))
  Prog.lift (.store oB (theirsR d) (k0_pay14 (k0_pay7 a) b) Finset.univ (View.stores_vmem h_S64x8192 ((Memref.isWhole_whole _).storeExact_slice rfl _ (k0_off22_packedbf16 d)) (fun _ => rfl)) (.inl rfl))
  copyTo oB (outN n) cc0_scratch17.sem (Memref.isWhole_whole _).wordExact (outV_words n) ⟨Or.inl rfl, trivial⟩

/-! ## The loops over the 16 weight chunks -/

/-- Start fetching the first f32 chunk of the weights; the first bf16 chunk. -/
def startW : PG F PUnit :=
  copyTo (colsV ![0, 0] (inbCols (k := 0) (by decide))) (slotV wF ![0, 0, 0] (inbSlot (by decide))) (semS cc0_scratch8 0) (View.wordExact_bits rfl) ((View.wordExact_bits rfl).reshape _ _) ⟨Or.inl rfl, trivial⟩
def startB : PG F PUnit :=
  copyTo (chunkV ![0, 0, 0] (inbChunk (by decide))) (slotV wB ![0, 0, 0] (inbSlot (by decide))) (semS cc0_scratch9 0) (chunkV_words rfl) (slotV_words rfl) ⟨Or.inl rfl, trivial⟩
/-- Wait for the write-back of chunk `k`. -/
def waitBack (s : Fin 2) (k : Fin 16) : PG F PUnit := waitOn (semS cc0_scratch10 s) (chunkV ![k.val, 0, 0] (inbChunk k.isLt))

/-- A step under a condition, then the rest. -/
def whenThen {α : Type} (c : Prop) [Decidable c] (p : c → PG F PUnit) (k : PG F α) : PG F α :=
  if hc : c then (do p hc; k) else k

/-- One trip of the loops of blocks 1 to 7, over its offsets. -/
def tripB (c : Prop) [Decidable c] (o13 : Fin 1 → Nat) (o14 o15 : Fin 3 → Nat) (o16 : Fin 1 → Nat) (o17 o19 o20 : Fin 3 → Nat)
    (h13 : c → ∀ i, o13 i + S1.size i ≤ S2.size i) (h14 : c → ∀ a, o14 a + S1x4096x512.size a ≤ S2x4096x512.size a)
    (h15 : c → ∀ a, o15 a + S1x4096x512.size a ≤ S16x4096x512.size a) (h16 : ∀ i, o16 i + S1.size i ≤ S2.size i)
    (h17 : ∀ a, o17 a + S1x4096x512.size a ≤ S2x4096x512.size a) (h19 : ∀ a, o19 a + S1x4096x512.size a ≤ S2x4096x512.size a)
    (h20 : ∀ a, o20 a + S1x256x512.size a ≤ S2x256x8192.size a)
    (w14 : ∀ hc : c, (slotV wB o14 (h14 hc)).view.WordExact) (w15 : ∀ hc : c, (chunkV o15 (h15 hc)).view.WordExact)
    (p20 : (Rect.unit (s := S2x256x8192) o20 S1x256x512.size h20).PackedRows (EltTy.packing .bf16)) : PG F Unit := do
  whenThen c (fun hc => copyTo (chunkV o15 (h15 hc)) (slotV wB o14 (h14 hc)) (sem2 cc0_scratch9 o13 (h13 hc)) (w15 hc) (w14 hc) ⟨Or.inl rfl, trivial⟩) do
  waitOn (sem2 cc0_scratch9 o16 h16) (slotV wB o17 h17)
  let x : Vec F S256x4096 .bf16 ← Prog.lift (.load xB xR.toLoadRect (View.loadsAt_vmem h_S256x4096))
  let w : Vec F S1x4096x512 .bf16 ← Prog.lift (.load wB (Rect.unit (s := S2x4096x512) o19 S1x4096x512.size h19).toLoadRect (View.loadsAt_vmem h_S1x4096x512))
  let _ : Vec F S1x256x512 .bf16 ← Prog.lift (.load lgM (Rect.unit (s := S2x256x8192) o20 S1x256x512.size h20).toLoadRect (View.loadsAt_vmem h_S1x256x512))
  Prog.lift (.store lgM (Rect.unit (s := S2x256x8192) o20 S1x256x512.size h20) (k0_pay6 x w) Finset.univ (View.stores_vmem h_S1x256x512 ((Memref.isWhole_whole _).storeExact_slice rfl _ p20) (fun _ => rfl)) (.inl rfl))
  pure ⟨⟩

/-- One trip of block 0's loop, over its offsets: the weights arrive in f32, are cast, and go back in bf16; three
    quarters of the logits are sent as they are done. -/
def tripA (d : Dev nD) (iv : BitVec 32) (c1 c2 c3 c4 c5 : Prop) [Decidable c1] [Decidable c2] [Decidable c3] [Decidable c4] [Decidable c5]
    (o1 : Fin 1 → Nat) (o2 : Fin 3 → Nat) (o3 : Fin 2 → Nat) (o4 : Fin 1 → Nat) (o5 : Fin 3 → Nat)
    (o7 : Fin 1 → Nat) (o8 o10 o11 o12 : Fin 3 → Nat)
    (h1 : c1 → ∀ i, o1 i + S1.size i ≤ S2.size i) (h2 : c1 → ∀ a, o2 a + S1x4096x512.size a ≤ S2x4096x512.size a)
    (h3 : c1 → ∀ a, o3 a + S4096x512.size a ≤ S4096x8192.size a) (h4 : ∀ i, o4 i + S1.size i ≤ S2.size i)
    (h5 : ∀ a, o5 a + S1x4096x512.size a ≤ S2x4096x512.size a)
    (h7 : c2 → ∀ i, o7 i + S1.size i ≤ S2.size i) (h8 : c2 → ∀ a, o8 a + S1x4096x512.size a ≤ S16x4096x512.size a)
    (h10 : ∀ a, o10 a + S1x4096x512.size a ≤ S2x4096x512.size a)
    (h11 : ∀ a, o11 a + S1x256x512.size a ≤ S2x256x8192.size a) (h12 : ∀ a, o12 a + S1x4096x512.size a ≤ S16x4096x512.size a)
    (p10 : (Rect.unit (s := S2x4096x512) o10 S1x4096x512.size h10).PackedRows (EltTy.packing .bf16))
    (p11 : (Rect.unit (s := S2x256x8192) o11 S1x256x512.size h11).PackedRows (EltTy.packing .bf16))
    (w5 : (slotV wB o5 h5).view.WordExact) (w12 : (chunkV o12 h12).view.WordExact) : PG F Unit := do
  let ⟨_, r, _⟩ : Σ' (_ : BitVec 32) (_ : FVec F S256x512 .bf16), Vec F S1x256x512 .bf16 ← (whenThen c1 (fun hc => copyTo (colsV o3 (h3 hc)) (slotV wF o2 (h2 hc)) (sem2 cc0_scratch8 o1 (h1 hc)) (View.wordExact_bits rfl) ((View.wordExact_bits rfl).reshape _ _) ⟨Or.inl rfl, trivial⟩) do
    waitOn (sem2 cc0_scratch8 o4 h4) (slotV wF o5 h5)
    whenThen c2 (fun hc => waitOn (sem2 cc0_scratch10 o7 (h7 hc)) (chunkV o8 (h8 hc))) do
    let wf : Vec F S1x4096x512 .f32 ← Prog.lift (.load wF (Rect.unit (s := S2x4096x512) o10 S1x4096x512.size h10).toLoadRect (View.loadsAt_vmem h_S1x4096x512))
    let _ : Vec F S1x4096x512 .bf16 ← Prog.lift (.load wB (Rect.unit (s := S2x4096x512) o10 S1x4096x512.size h10).toLoadRect (View.loadsAt_vmem h_S1x4096x512))
    Prog.lift (.store wB (Rect.unit (s := S2x4096x512) o10 S1x4096x512.size h10) (k0_pay1 wf) Finset.univ (View.stores_vmem h_S1x4096x512 ((Memref.isWhole_whole _).storeExact_slice rfl _ p10) (fun _ => rfl)) (.inl rfl))
    let x : Vec F S256x4096 .bf16 ← Prog.lift (.load xB xR.toLoadRect (View.loadsAt_vmem h_S256x4096))
    let w : Vec F S1x4096x512 .bf16 ← Prog.lift (.load wB (Rect.unit (s := S2x4096x512) o10 S1x4096x512.size h10).toLoadRect (View.loadsAt_vmem h_S1x4096x512))
    let l : Vec F S1x256x512 .bf16 ← Prog.lift (.load lgM (Rect.unit (s := S2x256x8192) o11 S1x256x512.size h11).toLoadRect (View.loadsAt_vmem h_S1x256x512))
    pure ⟨iv, k0_pay2 x w, l⟩)
  Prog.lift (.store lgM (Rect.unit (s := S2x256x8192) o11 S1x256x512.size h11) (k0_pay4 r) Finset.univ (View.stores_vmem h_S1x256x512 ((Memref.isWhole_whole _).storeExact_slice rfl _ p11) (fun _ => rfl)) (.inl rfl))
  copyTo (slotV wB o5 h5) (chunkV o12 h12) (sem2 cc0_scratch10 o4 h4) w5 w12 ⟨Or.inl rfl, trivial⟩
  whenThen c3 (fun _ => sendQ d 0) do
  whenThen c4 (fun _ => sendQ d 1) do
  whenThen c5 (fun _ => sendQ d 2) do
  pure ⟨⟩

/-- Block 0's trip at the printed offsets; block 1's; block 2's, which is that of blocks 4 and 6 also. -/
def trip1 (d : Dev nD) (t : Fin k0_t1_loop.trips) : PG F Unit :=
  tripA d (Scf.iv 0#32 1#32 t) (k0_cond1 t = 1#1) (k0_cond2 t = 1#1) (k0_cond3 t = 1#1) (k0_cond4 t = 1#1) (k0_cond5 t = 1#1)
    (k0_off1 t) (k0_off2 t) (k0_off3 t) (k0_off4 t) (k0_off5 t) (k0_off7 t) (k0_off8 t) (k0_off10 t) (k0_off11 t) (k0_off12 t)
    (k0_off1_inb t) (k0_off2_inb t) (k0_off3_inb t) (k0_off4_inb t) (k0_off5_inb t) (k0_off7_inb t) (k0_off8_inb t) (k0_off10_inb t) (k0_off11_inb t) (k0_off12_inb t)
    (k0_off10_packedbf16 t) (k0_off11_packedbf16 t)
    (((Memref.isWhole_whole _).wordExact_slice rfl _ (k0_off5_wordsbf16 t)).reshape _ _)
    (((Memref.isWhole_whole _).wordExact_slice rfl _ (k0_off12_wordsbf16 t)).reshape _ _)
def trip2 (t : Fin k0_t2_loop.trips) : PG F Unit :=
  tripB (k0_cond6 t = 1#1) (k0_off13 t) (k0_off14 t) (k0_off15 t) (k0_off16 t) (k0_off17 t) (k0_off19 t) (k0_off20 t)
    (k0_off13_inb t) (k0_off14_inb t) (k0_off15_inb t) (k0_off16_inb t) (k0_off17_inb t) (k0_off19_inb t) (k0_off20_inb t)
    (fun hc => ((Memref.isWhole_whole _).wordExact_slice rfl _ (k0_off14_wordsbf16 t hc)).reshape _ _)
    (fun hc => ((Memref.isWhole_whole _).wordExact_slice rfl _ (k0_off15_wordsbf16 t hc)).reshape _ _) (k0_off20_packedbf16 t)
def trip3 (t : Fin k0_t3_loop.trips) : PG F Unit :=
  tripB (k0_cond7 t = 1#1) (k0_off23 t) (k0_off24 t) (k0_off25 t) (k0_off26 t) (k0_off27 t) (k0_off29 t) (k0_off30 t)
    (k0_off23_inb t) (k0_off24_inb t) (k0_off25_inb t) (k0_off26_inb t) (k0_off27_inb t) (k0_off29_inb t) (k0_off30_inb t)
    (fun hc => ((Memref.isWhole_whole _).wordExact_slice rfl _ (k0_off24_wordsbf16 t hc)).reshape _ _)
    (fun hc => ((Memref.isWhole_whole _).wordExact_slice rfl _ (k0_off25_wordsbf16 t hc)).reshape _ _) (k0_off30_packedbf16 t)

/-! ## The blocks -/

/-- The loops of block 0, of the odd blocks and of the even ones. -/
def loop0 (d : Dev nD) : PG F Unit := Scf.Loop.for k0_t1_loop k0_t1_ok ⟨⟩ fun t _ => trip1 d t
def loopOdd : PG F Unit := Scf.Loop.for k0_t2_loop k0_t2_ok ⟨⟩ fun t _ => trip2 t
def loopEven : PG F Unit := Scf.Loop.for k0_t3_loop k0_t3_ok ⟨⟩ fun t _ => trip3 t

/-- The four chunks of a row block after the first. -/
def soft (d : Dev nD) (s : Fin 2) (n₀ n₁ n₂ n₃ : Fin 32) : PG F PUnit := do
  chunk d s 0 n₀ waitOut
  chunk d s 1 n₁ waitOut
  chunk d s 2 n₂ waitOut
  chunk d s 3 n₃ waitOut
def soft0 (d : Dev nD) : PG F PUnit := do
  chunk d 0 0 0 (pure ⟨⟩)
  chunk d 0 1 1 waitOut
  chunk d 0 2 2 waitOut
  chunk d 0 3 3 waitOut

/-- A credit to the partner for slot `s`; and the wait for one. -/
def giveCredit (d : Dev nD) (s : Fin 2) : PG F PUnit := semSignalWord (partner d) (credS s) 1#32
def takeCredit (s : Fin 2) : PG F PUnit := semWaitWord (credS s) 1#32
def waitRecvQ (q : Fin 4) : PG F PUnit := waitOn (semQ cc0_scratch14 q) (quarter cmM q)
def waitSendQ (q : Fin 4) : PG F PUnit := waitOn (semQ cc0_scratch13 q) (quarter lgM q)
def waitRecvF (s : Fin 2) : PG F PUnit := waitOn (semS cc0_scratch12 s) (full cmM s)
def waitSendF (s : Fin 2) : PG F PUnit := waitOn (semS cc0_scratch11 s) (full lgM s)
def waitRecvH (s : Fin 2) : PG F PUnit := waitOn (semS cc0_scratch16 s) (half cmM s)
def waitSendH (s : Fin 2) : PG F PUnit := waitOn (semS cc0_scratch15 s) (half lgM s)

/-- The barrier with the partner. -/
abbrev barS := (SemArray.scalar (sig.barrier 0 rfl) : Sems sig S_).sem
def barrierP (d : Dev nD) : PG F PUnit := do
  semSignalWord (partner d) barS 1#32
  semWaitWord barS 1#32

/-- Block `b`'s logits for `b` from 2 on: while the sends of block `b - 2` end, the next row block is fetched and
    cast; then the products; then the credit for the slot at the partner. -/
def stage (d : Dev nD) (b : Fin 8) (s : Fin 2) (w : PG F PUnit) (l : PG F Unit) : PG F PUnit := do
  giveCredit d s
  startX b
  w
  waitX
  castX
  startB
  l
  takeCredit s

/-- The body. -/
def bodyP : PG F PUnit := do
  let d : Dev nD ← Prog.lift .deviceId
  barrierP d
  startX 0
  waitX
  castX
  startW
  loop0 d
  waitBack 0 14
  waitBack 1 15
  sendQ d 3
  startX 1
  waitX
  castX
  startB
  loopOdd
  sendF d 1
  waitRecvQ 0
  waitRecvQ 1
  waitRecvQ 2
  waitRecvQ 3
  soft0 d
  stage d 2 0 (do waitSendQ 0; waitSendQ 1; waitSendQ 2; waitSendQ 3) loopEven
  sendF d 0
  waitRecvF 1
  soft d 1 4 5 6 7
  stage d 3 1 (waitSendF 1) loopOdd
  sendF d 1
  waitRecvF 0
  soft d 0 8 9 10 11
  stage d 4 0 (waitSendF 0) loopEven
  sendF d 0
  waitRecvF 1
  soft d 1 12 13 14 15
  stage d 5 1 (waitSendF 1) loopOdd
  sendF d 1
  waitRecvF 0
  soft d 0 16 17 18 19
  stage d 6 0 (waitSendF 0) loopEven
  sendF d 0
  waitRecvF 1
  soft d 1 20 21 22 23
  stage d 7 1 (waitSendF 1) loopOdd
  sendH d 0
  sendH d 1
  waitRecvF 0
  soft d 0 24 25 26 27
  waitRecvH 0
  chunk d 1 0 28 waitOut
  chunk d 1 1 29 waitOut
  waitRecvH 1
  chunk d 1 2 30 waitOut
  chunk d 1 3 31 waitOut
  waitSendF 0
  waitSendH 0
  waitSendH 1
  waitOut

end Cert.KernelIdeal.Body

end
-- ==== Proof.KernelIdeal.Geom.lean ====
/- What the kernel's buffers hold, and which elements the views it copies and accesses through reach: the
   contents of every staging buffer as functions of the device's own block of the arguments, the element
   sets of the views, and what each view reads of those contents. -/
module

public import proofs.«01_k».proof.Proof.KernelIdeal.Prog
public import Idealize.ShloMosaic.Lib.ValueLayout

@[expose] public section

set_option maxRecDepth 65536

noncomputable section

namespace Cert.KernelIdeal.Body

open Cert.KernelIdeal Cert.KernelIdeal.Gen
open Idealize.ShloMosaic Idealize.ShloMosaic.TcCoe
open Idealize.SL.Sem
open Idealize.ShloMosaic.ValueIdx

variable {F : FTy → Type} [FloatOps F]

/-! ## The contents -/

/-- Values of an element type over a shape. -/
abbrev Tn (F : FTy → Type) (s : Shape) (e : EltTy) := s.Idx → Elt F e

/-- Row block `b` of the activations as it is staged, and cast to bf16. -/
def xRow (x : Tn F S2048x4096 .f32) (b : Fin 8) : Tn F S256x4096 .f32 := (rowsB b).view.read (Elt F) x
def XB (x : Tn F S2048x4096 .f32) (b : Fin 8) : Tn F S256x4096 .bf16 := k0_pay3 (xRow x b)

/-- Chunk `t` of the weights (512 columns). -/
def Wf (w : Tn F S4096x8192 .f32) (t : Fin 16) : Tn F S1x4096x512 .f32 := fun i =>
  w (ix2 (⟨(i 1).val, (i 1).isLt⟩ : Fin 4096) (⟨512 * t.val + (i 2).val, by have h : (i 2).val < 512 := (i 2).isLt; omega⟩ : Fin 8192))
/-- The same cast to bf16. -/
def WB (w : Tn F S4096x8192 .f32) (t : Fin 16) : Tn F S1x4096x512 .bf16 := k0_pay1 (Wf w t)

/-- An index of a chunk from that of a slot. -/
def ixC (a : Fin 4096) (b : Fin 512) : S1x4096x512.Idx := ix3 (⟨0, Nat.one_pos⟩ : Fin 1) a b

/-- A weight slot that holds chunk `t`, in f32 and in bf16: said of both slots. -/
def wfC (w : Tn F S4096x8192 .f32) (t : Fin 16) : Tn F S2x4096x512 .f32 := fun i => Wf w t (ixC (i 1) (i 2))
def wbC (w : Tn F S4096x8192 .f32) (t : Fin 16) : Tn F S2x4096x512 .bf16 := fun i => WB w t (ixC (i 1) (i 2))
/-- The bf16 copy of the weights, by chunks. -/
def BH (w : Tn F S4096x8192 .f32) : Tn F S16x4096x512 .bf16 := fun i => WB w (i 0) (ixC (i 1) (i 2))

/-- The logits of row block `b` against chunk `t`, and against all of the device's columns; said of both slots. -/
def LGt (x : Tn F S2048x4096 .f32) (w : Tn F S4096x8192 .f32) (b : Fin 8) (t : Fin 16) : Tn F S1x256x512 .bf16 :=
  k0_pay6 (XB x b) (WB w t)
def LG (x : Tn F S2048x4096 .f32) (w : Tn F S4096x8192 .f32) (b : Fin 8) : Tn F S2x256x8192 .bf16 := fun i =>
  LGt x w b (⟨(i 2).val / 512, by have h : (i 2).val < 8192 := (i 2).isLt; omega⟩ : Fin 16)
    (ix3 (⟨0, Nat.one_pos⟩ : Fin 1) (⟨(i 1).val, (i 1).isLt⟩ : Fin 256) (⟨(i 2).val % 512, Nat.mod_lt _ (by decide)⟩ : Fin 512))

/-- 64 rows of a logits slot. -/
def band (f : Tn F S2x256x8192 .bf16) (s : Fin 2) (j : Fin 4) : Tn F S1x64x8192 .bf16 := (lgM.access (bandR s j)).read (Elt F) f

/-- A result chunk from the two devices' logits: `a` in the columns the device `d` holds, `b` in its partner's. -/
def OBof (d : Dev nD) (a b : Tn F S1x64x8192 .bf16) : Tn F S64x16384 .bf16 := fun i =>
  if (i 1).val / 8192 = (d.val / 2) % 2 then
    k0_pay13 (k0_pay7 a) b (ix2 (⟨(i 0).val, (i 0).isLt⟩ : Fin 64) (⟨(i 1).val % 8192, Nat.mod_lt _ (by decide)⟩ : Fin 8192))
  else
    k0_pay14 (k0_pay7 a) b (ix2 (⟨(i 0).val, (i 0).isLt⟩ : Fin 64) (⟨(i 1).val % 8192, Nat.mod_lt _ (by decide)⟩ : Fin 8192))

/-- Chunk `n` of device `d`'s result from the logits of the row blocks, its own and its partner's. -/
def OBn (d : Dev nD) (L L' : Fin 8 → Tn F S2x256x8192 .bf16) (n : Fin 32) : Tn F S64x16384 .bf16 :=
  OBof d (band (L ⟨n.val / 4, by omega⟩) ⟨(n.val / 4) % 2, Nat.mod_lt _ (by decide)⟩ ⟨n.val % 4, Nat.mod_lt _ (by decide)⟩)
    (band (L' ⟨n.val / 4, by omega⟩) ⟨(n.val / 4) % 2, Nat.mod_lt _ (by decide)⟩ ⟨n.val % 4, Nat.mod_lt _ (by decide)⟩)
/-- All of the result. -/
def OUTof (d : Dev nD) (L L' : Fin 8 → Tn F S2x256x8192 .bf16) : Tn F S2048x16384 .bf16 := fun i =>
  OBn d L L' (⟨(i 0).val / 64, by have h : (i 0).val < 2048 := (i 0).isLt; omega⟩ : Fin 32)
    (ix2 (⟨(i 0).val % 64, Nat.mod_lt _ (by decide)⟩ : Fin 64) (⟨(i 1).val, (i 1).isLt⟩ : Fin 16384))

/-! ## Element sets -/

def slotSet (k : ℕ) : Finset S2x4096x512.Idx := Finset.univ.filter fun i => (i 0).val = k
def chunkSet (t : ℕ) : Finset S16x4096x512.Idx := Finset.univ.filter fun i => (i 0).val = t
def colSet (t : ℕ) : Finset S4096x8192.Idx := Finset.univ.filter fun i => 512 * t ≤ (i 1).val ∧ (i 1).val < 512 * t + 512
def rowSet (n : ℕ) : Finset S2048x16384.Idx := Finset.univ.filter fun i => 64 * n ≤ (i 0).val ∧ (i 0).val < 64 * n + 64
/-- Columns `a` to `b` of slot `s` of a logits buffer, and rows. -/
def lgCols (s a b : ℕ) : Finset S2x256x8192.Idx := Finset.univ.filter fun i => (i 0).val = s ∧ a ≤ (i 2).val ∧ (i 2).val < b
def lgRows (s a b : ℕ) : Finset S2x256x8192.Idx := Finset.univ.filter fun i => (i 0).val = s ∧ a ≤ (i 1).val ∧ (i 1).val < b
def lgSlot (s : ℕ) : Finset S2x256x8192.Idx := Finset.univ.filter fun i => (i 0).val = s

/-- The rectangle of slot `k` holds the indices of slot `k`. -/
theorem mem_slotR {k : ℕ} {h} {i : S2x4096x512.Idx} :
    i ∈ (Rect.unit (s := S2x4096x512) ![k, 0, 0] S1x4096x512.size h).set ↔ i ∈ slotSet k := by
  rw [Rect.mem_set_unit, slotSet, Finset.mem_filter]
  have h1 : (i 1).val < 4096 := (i 1).isLt
  have h2 : (i 2).val < 512 := (i 2).isLt
  constructor
  · intro H; have := H 0; simp at this ⊢; omega
  · rintro ⟨-, H⟩ a; fin_cases a <;> simp <;> omega

/-- The view of slot `k` of the f32 weight buffer covers that slot. -/
theorem slotF_set {k : ℕ} {h} : (slotV wF ![k, 0, 0] h).view.set = slotSet k :=
  (View.set_reshape _ _).trans ((View.set_slice_whole _ _).trans (Finset.ext fun i => mem_slotR))

/-- The view of slot `k` of the bf16 weight buffer covers that slot. -/
theorem slotB_set {k : ℕ} {h} : (slotV wB ![k, 0, 0] h).view.set = slotSet k :=
  (View.set_reshape _ _).trans ((View.set_slice_whole _ _).trans (Finset.ext fun i => mem_slotR))

/-- An access to slot `k` of the f32 weight buffer covers that slot. -/
theorem slotFR_set {k : ℕ} {h} : (wF.access (Rect.unit (s := S2x4096x512) ![k, 0, 0] S1x4096x512.size h)).set = slotSet k :=
  (View.set_slice_whole _ _).trans (Finset.ext fun i => mem_slotR)

/-- An access to slot `k` of the bf16 weight buffer covers that slot. -/
theorem slotBR_set {k : ℕ} {h} : (wB.access (Rect.unit (s := S2x4096x512) ![k, 0, 0] S1x4096x512.size h)).set = slotSet k :=
  (View.set_slice_whole _ _).trans (Finset.ext fun i => mem_slotR)

/-- The rectangle of chunk `t` holds the indices of chunk `t`. -/
theorem mem_chunk_set {t : ℕ} {h} {i : S16x4096x512.Idx} :
    i ∈ (Rect.unit (s := S16x4096x512) ![t, 0, 0] S1x4096x512.size h).set ↔ i ∈ chunkSet t := by
  rw [Rect.mem_set_unit, chunkSet, Finset.mem_filter]
  have h1 : (i 1).val < 4096 := (i 1).isLt
  have h2 : (i 2).val < 512 := (i 2).isLt
  constructor
  · intro H; have := H 0; simp at this ⊢; omega
  · rintro ⟨-, H⟩ a; fin_cases a <;> simp <;> omega

/-- The view of chunk `t` of the bf16 weight copy covers that chunk. -/
theorem chunk_set {t : ℕ} {h} : (chunkV ![t, 0, 0] h).view.set = chunkSet t :=
  (View.set_reshape _ _).trans ((View.set_slice_whole _ _).trans (Finset.ext fun i => mem_chunk_set))

/-- The rectangle of the weights' columns of chunk `t` holds those columns. -/
theorem mem_cols_set {t : ℕ} {h} {i : S4096x8192.Idx} :
    i ∈ (Rect.unit (s := S4096x8192) ![0, 512 * t] S4096x512.size h).set ↔ i ∈ colSet t := by
  rw [Rect.mem_set_unit, colSet, Finset.mem_filter]
  have h0 : (i 0).val < 4096 := (i 0).isLt
  constructor
  · intro H; have := H 1; simp at this ⊢; omega
  · rintro ⟨-, H⟩ a; fin_cases a <;> simp <;> omega

/-- The view of the weights' columns of chunk `t` covers those columns. -/
theorem cols_set {t : ℕ} {h} : (colsV ![0, 512 * t] h).view.set = colSet t :=
  (View.set_slice_whole _ _).trans (Finset.ext fun i => mem_cols_set)

/-- The rectangle of the result's chunk `n` holds the rows of that chunk. -/
theorem mem_outN_set {n : Fin 32} {i : S2048x16384.Idx} :
    i ∈ (Rect.unit (s := S2048x16384) ![64 * n.val, 0] S64x16384.size (inbOut n.isLt)).set ↔ i ∈ rowSet n.val := by
  rw [Rect.mem_set_unit, rowSet, Finset.mem_filter]
  have h0 : (i 1).val < 16384 := (i 1).isLt
  constructor
  · intro H; have := H 0; simp at this ⊢; omega
  · rintro ⟨-, H⟩ a; fin_cases a <;> simp <;> omega

/-- The view of the result's chunk `n` covers the rows of that chunk. -/
theorem outN_set {n : Fin 32} : (outN n).view.set = rowSet n.val :=
  (View.set_slice_whole _ _).trans (Finset.ext fun i => mem_outN_set)

/-- The rectangle of quarter `q` holds 2048 columns of the first slot. -/
theorem mem_quarterR {q : Fin 4} {h} {i : S2x256x8192.Idx} :
    i ∈ (Rect.unit (s := S2x256x8192) ![0, 0, 2048 * q.val] S1x256x2048.size h).set ↔ i ∈ lgCols 0 (2048 * q.val) (2048 * q.val + 2048) := by
  rw [Rect.mem_set_unit, lgCols, Finset.mem_filter]
  have h1 : (i 1).val < 256 := (i 1).isLt
  constructor
  · intro H; have := H 0; have := H 2; simp at *; omega
  · rintro ⟨-, H⟩ a; fin_cases a <;> simp <;> omega

/-- The rectangle of a whole slot holds the slot's indices. -/
theorem mem_fullR {s : Fin 2} {h} {i : S2x256x8192.Idx} :
    i ∈ (Rect.unit (s := S2x256x8192) ![s.val, 0, 0] S1x256x8192.size h).set ↔ i ∈ lgSlot s.val := by
  rw [Rect.mem_set_unit, lgSlot, Finset.mem_filter]
  have h1 : (i 1).val < 256 := (i 1).isLt
  have h2 : (i 2).val < 8192 := (i 2).isLt
  constructor
  · intro H; have := H 0; simp at *; omega
  · rintro ⟨-, H⟩ a; fin_cases a <;> simp <;> omega

/-- The rectangle of a half holds 128 rows of the second slot. -/
theorem mem_halfR {s : Fin 2} {h} {i : S2x256x8192.Idx} :
    i ∈ (Rect.unit (s := S2x256x8192) ![1, 128 * s.val, 0] S1x128x8192.size h).set ↔ i ∈ lgRows 1 (128 * s.val) (128 * s.val + 128) := by
  rw [Rect.mem_set_unit, lgRows, Finset.mem_filter]
  have h2 : (i 2).val < 8192 := (i 2).isLt
  constructor
  · intro H; have := H 0; have := H 1; simp at *; omega
  · rintro ⟨-, H⟩ a; fin_cases a <;> simp <;> omega

/-- The view of quarter `q` of the logits covers 2048 columns of the first slot. -/
theorem quarter_set {q : Fin 4} : (quarter lgM q).view.set = lgCols 0 (2048 * q.val) (2048 * q.val + 2048) :=
  (View.set_reshape _ _).trans ((View.set_slice_whole _ _).trans (Finset.ext fun i => mem_quarterR))

/-- The same for the receive buffer. -/
theorem quarterC_set {q : Fin 4} : (quarter cmM q).view.set = lgCols 0 (2048 * q.val) (2048 * q.val + 2048) :=
  (View.set_reshape _ _).trans ((View.set_slice_whole _ _).trans (Finset.ext fun i => mem_quarterR))

/-- The view of a slot of the logits covers the slot. -/
theorem full_set {s : Fin 2} : (full lgM s).view.set = lgSlot s.val :=
  (View.set_reshape _ _).trans ((View.set_slice_whole _ _).trans (Finset.ext fun i => mem_fullR))

/-- The view of a slot of the receive buffer covers the slot. -/
theorem fullC_set {s : Fin 2} : (full cmM s).view.set = lgSlot s.val :=
  (View.set_reshape _ _).trans ((View.set_slice_whole _ _).trans (Finset.ext fun i => mem_fullR))

/-- The view of a half of the logits covers 128 rows of the second slot. -/
theorem half_set {s : Fin 2} : (half lgM s).view.set = lgRows 1 (128 * s.val) (128 * s.val + 128) :=
  (View.set_reshape _ _).trans ((View.set_slice_whole _ _).trans (Finset.ext fun i => mem_halfR))

/-- The view of a half of the receive buffer covers 128 rows of the second slot. -/
theorem halfC_set {s : Fin 2} : (half cmM s).view.set = lgRows 1 (128 * s.val) (128 * s.val + 128) :=
  (View.set_reshape _ _).trans ((View.set_slice_whole _ _).trans (Finset.ext fun i => mem_halfR))

/-- The rectangle of band `j` holds 64 rows of its slot. -/
theorem mem_bandR {s : Fin 2} {j : Fin 4} {i : S2x256x8192.Idx} :
    i ∈ (bandR s j).set ↔ i ∈ lgRows s.val (64 * j.val) (64 * j.val + 64) := by
  rw [Rect.mem_set_unit, lgRows, Finset.mem_filter]
  have h2 : (i 2).val < 8192 := (i 2).isLt
  constructor
  · intro H; have := H 0; have := H 1; simp at *; omega
  · rintro ⟨-, H⟩ a; fin_cases a <;> simp <;> omega

/-- An access to band `j` of the logits covers 64 rows of the slot. -/
theorem band_set {s : Fin 2} {j : Fin 4} : (lgM.access (bandR s j)).set = lgRows s.val (64 * j.val) (64 * j.val + 64) :=
  (View.set_slice_whole _ _).trans (Finset.ext fun i => mem_bandR)

/-- An access to band `j` of the receive buffer covers 64 rows of the slot. -/
theorem bandC_set {s : Fin 2} {j : Fin 4} : (cmM.access (bandR s j)).set = lgRows s.val (64 * j.val) (64 * j.val + 64) :=
  (View.set_slice_whole _ _).trans (Finset.ext fun i => mem_bandR)

/-- The rectangle a chunk's logits are stored to holds that chunk's columns of the slot. -/
theorem mem_lgCol_set {s t : ℕ} {h} {i : S2x256x8192.Idx} :
    i ∈ (Rect.unit (s := S2x256x8192) ![s, 0, 512 * t] S1x256x512.size h).set ↔ i ∈ lgCols s (512 * t) (512 * t + 512) := by
  rw [Rect.mem_set_unit, lgCols, Finset.mem_filter]
  have h1 : (i 1).val < 256 := (i 1).isLt
  constructor
  · intro H; have := H 0; have := H 2; simp at *; omega
  · rintro ⟨-, H⟩ a; fin_cases a <;> simp <;> omega
/-- The elements of a logits slot that a trip writes. -/
theorem lgCol_set {s t : ℕ} {h} : (lgM.access (Rect.unit (s := S2x256x8192) ![s, 0, 512 * t] S1x256x512.size h)).set = lgCols s (512 * t) (512 * t + 512) :=
  (View.set_slice_whole _ _).trans (Finset.ext fun i => mem_lgCol_set)

/-! ## What the views read -/

/-- An f32 slot that holds chunk `t` reads as the weights' columns of the chunk. -/
theorem read_slotF {w : Tn F S4096x8192 .f32} {t : Fin 16} {k : ℕ} {h h'} :
    (slotV wF ![k, 0, 0] h).view.read (Elt F) (wfC w t) = (colsV ![0, 512 * t.val] h').view.read (Elt F) w := by
  funext j
  obtain ⟨a, b, rfl⟩ : ∃ (a : Fin 4096) (b : Fin 512), j = ix2 a b := ⟨j 0, j 1, eq_ix2 j⟩
  have e : Shape.reshapeEquiv squeezes_S1x4096x512_S4096x512.numel_eq (ix2 a b) = ix3 (⟨0, Nat.one_pos⟩ : Fin 1) a b :=
    reshapeEquiv_ix2_1ab _ a b
  show wfC w t ((Rect.unit (s := S2x4096x512) ![k, 0, 0] S1x4096x512.size h).emb
    (Shape.reshapeEquiv squeezes_S1x4096x512_S4096x512.numel_eq (ix2 a b))) = w ((Rect.unit (s := S4096x8192) ![0, 512 * t.val] S4096x512.size h').emb (ix2 a b))
  rw [e]
  unfold wfC Wf
  congr 1
  funext i
  apply Fin.ext
  fin_cases i
  · rfl
  · show 512 * t.val + (0 + 1 * b.val) = 512 * t.val + 1 * b.val
    omega

/-- A bf16 slot that holds chunk `t` reads as that chunk of the bf16 copy. -/
theorem read_slotB {w : Tn F S4096x8192 .f32} {t : Fin 16} {k : ℕ} {h h'} :
    (slotV wB ![k, 0, 0] h).view.read (Elt F) (wbC w t) = (chunkV ![t.val, 0, 0] h').view.read (Elt F) (BH w) := by
  funext j
  obtain ⟨a, b, rfl⟩ : ∃ (a : Fin 4096) (b : Fin 512), j = ix2 a b := ⟨j 0, j 1, eq_ix2 j⟩
  have e : Shape.reshapeEquiv squeezes_S1x4096x512_S4096x512.numel_eq (ix2 a b) = ix3 (⟨0, Nat.one_pos⟩ : Fin 1) a b :=
    reshapeEquiv_ix2_1ab _ a b
  show wbC w t ((Rect.unit (s := S2x4096x512) ![k, 0, 0] S1x4096x512.size h).emb
    (Shape.reshapeEquiv squeezes_S1x4096x512_S4096x512.numel_eq (ix2 a b))) = BH w ((Rect.unit (s := S16x4096x512) ![t.val, 0, 0] S1x4096x512.size h').emb
    (Shape.reshapeEquiv squeezes_S1x4096x512_S4096x512.numel_eq (ix2 a b)))
  rw [e]
  unfold wbC BH
  have ht : (Rect.unit (s := S16x4096x512) ![t.val, 0, 0] S1x4096x512.size h').emb (ix3 (⟨0, Nat.one_pos⟩ : Fin 1) a b) 0 = t := by
    apply Fin.ext
    show t.val + 1 * 0 = t.val
    omega
  rw [ht]
  rfl

/-- What the loads read. -/
theorem load_slotF {w : Tn F S4096x8192 .f32} {t : Fin 16} {k : ℕ} {h} :
    (wF.access (Rect.unit (s := S2x4096x512) ![k, 0, 0] S1x4096x512.size h)).read (Elt F) (wfC w t) = Wf w t := by
  funext j
  obtain ⟨z, a, b, rfl⟩ : ∃ (z : Fin 1) (a : Fin 4096) (b : Fin 512), j = ix3 z a b := ⟨j 0, j 1, j 2, eq_ix3 j⟩
  obtain rfl : z = 0 := Subsingleton.elim _ _
  show wfC w t ((Rect.unit (s := S2x4096x512) ![k, 0, 0] S1x4096x512.size h).emb (ix3 (0 : Fin 1) a b)) = _
  unfold wfC
  congr 1
  funext i
  apply Fin.ext
  fin_cases i
  · rfl
  · show 0 + 1 * a.val = a.val
    omega
  · show 0 + 1 * b.val = b.val
    omega

/-- A load of a bf16 slot that holds chunk `t` gives the chunk cast to bf16. -/
theorem load_slotB {w : Tn F S4096x8192 .f32} {t : Fin 16} {k : ℕ} {h} :
    (wB.access (Rect.unit (s := S2x4096x512) ![k, 0, 0] S1x4096x512.size h)).read (Elt F) (wbC w t) = WB w t := by
  funext j
  obtain ⟨z, a, b, rfl⟩ : ∃ (z : Fin 1) (a : Fin 4096) (b : Fin 512), j = ix3 z a b := ⟨j 0, j 1, j 2, eq_ix3 j⟩
  obtain rfl : z = 0 := Subsingleton.elim _ _
  show wbC w t ((Rect.unit (s := S2x4096x512) ![k, 0, 0] S1x4096x512.size h).emb (ix3 (0 : Fin 1) a b)) = _
  unfold wbC
  congr 1
  funext i
  apply Fin.ext
  fin_cases i
  · rfl
  · show 0 + 1 * a.val = a.val
    omega
  · show 0 + 1 * b.val = b.val
    omega
/-- A trip's part of the logits. -/
theorem read_lgCol {x : Tn F S2048x4096 .f32} {w : Tn F S4096x8192 .f32} {b : Fin 8} {t : Fin 16} {s : ℕ} {h} :
    (lgM.access (Rect.unit (s := S2x256x8192) ![s, 0, 512 * t.val] S1x256x512.size h)).read (Elt F) (LG x w b) = LGt x w b t := by
  funext j
  obtain ⟨z, r, q, rfl⟩ : ∃ (z : Fin 1) (r : Fin 256) (q : Fin 512), j = ix3 z r q := ⟨j 0, j 1, j 2, eq_ix3 j⟩
  obtain rfl : z = 0 := Subsingleton.elim _ _
  have hq := q.isLt
  show LG x w b ((Rect.unit (s := S2x256x8192) ![s, 0, 512 * t.val] S1x256x512.size h).emb (ix3 (0 : Fin 1) r q)) = _
  unfold LG
  have e2 : ((Rect.unit (s := S2x256x8192) ![s, 0, 512 * t.val] S1x256x512.size h).emb (ix3 (0 : Fin 1) r q) 2).val = 512 * t.val + q.val := by
    show 512 * t.val + 1 * q.val = _
    omega
  have ht : (⟨((Rect.unit (s := S2x256x8192) ![s, 0, 512 * t.val] S1x256x512.size h).emb (ix3 (0 : Fin 1) r q) 2).val / 512, by rw [e2]; have := t.isLt; omega⟩ : Fin 16) = t :=
    Fin.ext (by show _ / 512 = _; rw [e2]; omega)
  rw [ht]
  congr 1
  funext i
  apply Fin.ext
  fin_cases i
  · rfl
  · show 0 + 1 * r.val = r.val
    omega
  · show ((Rect.unit (s := S2x256x8192) ![s, 0, 512 * t.val] S1x256x512.size h).emb (ix3 (0 : Fin 1) r q) 2).val % 512 = q.val
    rw [e2]; omega

/-- The two halves of a result chunk. -/
theorem read_mine {d : Dev nD} {a b : Tn F S1x64x8192 .bf16} : (oB.access (mineR d)).read (Elt F) (OBof d a b) = k0_pay13 (k0_pay7 a) b := by
  funext j
  obtain ⟨r, q, rfl⟩ : ∃ (r : Fin 64) (q : Fin 8192), j = ix2 r q := ⟨j 0, j 1, eq_ix2 j⟩
  have hq := q.isLt
  show OBof d a b ((mineR d).emb (ix2 r q)) = _
  have e0 : ((mineR d).emb (ix2 r q) 0).val = r.val := by
    show k0_off21 d 0 + 1 * r.val = _
    rw [k0_off21_eq]; show 0 + 1 * r.val = _; omega
  have e1 : ((mineR d).emb (ix2 r q) 1).val = 8192 * (d.val / 2 % 2) + q.val := by
    show k0_off21 d 1 + 1 * q.val = _
    rw [k0_off21_eq]; show 8192 * (d.val / 2 % 2) + 1 * q.val = _; omega
  unfold OBof
  rw [if_pos (by rw [e1]; omega)]
  congr 1
  funext i
  apply Fin.ext
  fin_cases i
  · exact e0
  · show ((mineR d).emb (ix2 r q) 1).val % 8192 = q.val
    rw [e1]; omega

/-- The partner's columns of a result chunk read as the second half of the softmax. -/
theorem read_theirs {d : Dev nD} {a b : Tn F S1x64x8192 .bf16} : (oB.access (theirsR d)).read (Elt F) (OBof d a b) = k0_pay14 (k0_pay7 a) b := by
  funext j
  obtain ⟨r, q, rfl⟩ : ∃ (r : Fin 64) (q : Fin 8192), j = ix2 r q := ⟨j 0, j 1, eq_ix2 j⟩
  have hq := q.isLt
  show OBof d a b ((theirsR d).emb (ix2 r q)) = _
  have e0 : ((theirsR d).emb (ix2 r q) 0).val = r.val := by
    show k0_off22 d 0 + 1 * r.val = _
    rw [k0_off22_eq]; show 0 + 1 * r.val = _; omega
  have e1 : ((theirsR d).emb (ix2 r q) 1).val = 8192 - 8192 * (d.val / 2 % 2) + q.val := by
    show k0_off22 d 1 + 1 * q.val = _
    rw [k0_off22_eq]; show 8192 - 8192 * (d.val / 2 % 2) + 1 * q.val = _; omega
  unfold OBof
  rw [if_neg (by rw [e1]; omega)]
  congr 1
  funext i
  apply Fin.ext
  fin_cases i
  · exact e0
  · show ((theirsR d).emb (ix2 r q) 1).val % 8192 = q.val
    rw [e1]; omega

/-- The columns that a device's own logits give are those of its half. -/
theorem mem_mineR {d : Dev nD} {i : S64x16384.Idx} : i ∈ (mineR d).set ↔ (i 1).val / 8192 = d.val / 2 % 2 := by
  rw [Rect.mem_set_unit, k0_off21_eq]
  have h0 : (i 0).val < 64 := (i 0).isLt
  have h1 : (i 1).val < 16384 := (i 1).isLt
  constructor
  · intro H; have := H 1; simp at *; omega
  · intro H a; fin_cases a <;> simp <;> omega

/-- The columns that the partner's logits give are those of the other half. -/
theorem mem_theirsR {d : Dev nD} {i : S64x16384.Idx} : i ∈ (theirsR d).set ↔ (i 1).val / 8192 ≠ d.val / 2 % 2 := by
  rw [Rect.mem_set_unit, k0_off22_eq]
  have h0 : (i 0).val < 64 := (i 0).isLt
  have h1 : (i 1).val < 16384 := (i 1).isLt
  constructor
  · intro H; have := H 1; simp at *; omega
  · intro H a; fin_cases a <;> simp <;> omega

/-- Writing both halves leaves the result chunk, whatever was there. -/
theorem write_OB {d : Dev nD} {a b : Tn F S1x64x8192 .bf16} (f : Tn F S64x16384 .bf16) :
    (oB.access (theirsR d)).write (Elt F) ((oB.access (mineR d)).write (Elt F) f (k0_pay13 (k0_pay7 a) b) Finset.univ) (k0_pay14 (k0_pay7 a) b) Finset.univ
      = OBof d a b := by
  rw [← read_mine, ← read_theirs, View.write_read_eq_piecewise, View.write_read_eq_piecewise]
  funext (i : S64x16384.Idx)
  have h1 : i ∈ (oB.access (mineR d)).setOn Finset.univ ↔ i ∈ (mineR d).set := by
    rw [View.setOn_univ]; exact Finset.ext_iff.mp (View.set_slice_whole _ _) i
  have h2 : i ∈ (oB.access (theirsR d)).setOn Finset.univ ↔ i ∈ (theirsR d).set := by
    rw [View.setOn_univ]; exact Finset.ext_iff.mp (View.set_slice_whole _ _) i
  by_cases hi : i ∈ (theirsR d).set
  · exact Finset.piecewise_eq_of_mem _ _ _ (h2.mpr hi)
  · refine (Finset.piecewise_eq_of_notMem _ _ _ (fun h => hi (h2.mp h))).trans (Finset.piecewise_eq_of_mem _ _ _ (h1.mpr ?_))
    rw [mem_mineR]
    by_contra h
    exact hi (mem_theirsR.mpr h)

/-- A chunk of the result. -/
theorem read_out {d : Dev nD} {L L' : Fin 8 → Tn F S2x256x8192 .bf16} {n : Fin 32} :
    (outN n).view.read (Elt F) (OUTof d L L') = OBn d L L' n := by
  funext j
  obtain ⟨r, q, rfl⟩ : ∃ (r : Fin 64) (q : Fin 16384), j = ix2 r q := ⟨j 0, j 1, eq_ix2 j⟩
  have hr := r.isLt
  show OUTof d L L' ((Rect.unit (s := S2048x16384) ![64 * n.val, 0] S64x16384.size (inbOut n.isLt)).emb (ix2 r q)) = _
  have e0 : ((Rect.unit (s := S2048x16384) ![64 * n.val, 0] S64x16384.size (inbOut n.isLt)).emb (ix2 r q) 0).val = 64 * n.val + r.val := by
    show 64 * n.val + 1 * r.val = _
    omega
  have e1 : ((Rect.unit (s := S2048x16384) ![64 * n.val, 0] S64x16384.size (inbOut n.isLt)).emb (ix2 r q) 1).val = q.val := by
    show 0 + 1 * q.val = _
    omega
  unfold OUTof
  have hn : (⟨((Rect.unit (s := S2048x16384) ![64 * n.val, 0] S64x16384.size (inbOut n.isLt)).emb (ix2 r q) 0).val / 64, by rw [e0]; have := n.isLt; omega⟩ : Fin 32) = n :=
    Fin.ext (by show _ / 64 = _; rw [e0]; omega)
  rw [hn]
  congr 1
  funext i
  apply Fin.ext
  fin_cases i
  · show ((Rect.unit (s := S2048x16384) ![64 * n.val, 0] S64x16384.size (inbOut n.isLt)).emb (ix2 r q) 0).val % 64 = r.val
    rw [e0]; omega
  · exact e1

end Cert.KernelIdeal.Body

end
-- ==== Proof.KernelIdeal.Sched.lean ====
/- The exchange between a device and its partner, as a schedule of rounds: the cells, who pays which round with
   what, what a device still owes at every point, and the order of levels that makes its waits admissible. -/
module

public import proofs.«01_k».proof.Proof.KernelIdeal.Geom
public import Idealize.ShloMosaic.Lib.Pipeline.Launch
public import Idealize.ShloMosaic.Lib.Pipeline.Kit
public import Idealize.ShloMosaic.Lib.Tactic
public import Idealize.ShloMosaic.Lib.Transfers

@[expose] public section

set_option maxRecDepth 65536

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

/-- The ghost state: the launch's own, the exchange's rounds, and the local copies' counters. -/
abbrev UU : Type := UR sig nD τ × (UR sig nD τ × Counters)

local notation "𝕄" => MT nD τ sig ℕ (Elt F) ℕ UU ℕ

abbrev EP : Emb (UR sig nD τ) (MT nD τ sig ℕ (Elt F) ℕ UU ℕ) := embL
def ER : Emb (UR sig nD τ) (MT nD τ sig ℕ (Elt F) ℕ UU ℕ) := (Emb.inl : Emb (UR sig nD τ) (UR sig nD τ × Counters)).trans embR
instance ER_landsIn : (ER (F := F)).LandsIn (upEmb : UEmb _ 𝕄) := by unfold ER; infer_instance
abbrev EC : UEmb Counters (MT nD τ sig ℕ (Elt F) ℕ UU ℕ) := countersEmb

variable (m : (ℓ : Loc nD τ sig) → Buf (Elt F) ℓ) (ρ : Dev nD → PrngReg)

/-! ## The partner -/

/-- The partner's number, worked out as the kernel does. -/
theorem partner_val (c : Dev nD) : (partner c).val = (4 * (c.val / 4) + (c.val % 2) + 2) - 2 * ((c.val / 2) % 2) := k0_dev1_eq c

/-- The partner's partner is the device itself. -/
theorem partner_partner (c : Dev nD) : partner (partner c) = c := by
  apply Fin.ext
  have := c.isLt
  rw [partner_val, partner_val]
  change c.val < 8 at this
  omega
/-- The pairing as a permutation of the devices. -/
def swap : Dev nD ≃ Dev nD := ⟨partner, partner, partner_partner, partner_partner⟩

/-! ## A device's arguments and logits -/

def xA (c : Dev nD) : Tn F S2048x4096 .f32 := m ((c : Thread nD τ).loc main_arg0)
def wA (c : Dev nD) : Tn F S4096x8192 .f32 := m ((c : Thread nD τ).loc main_arg1)
def Lg (c : Dev nD) (b : Fin 8) : Tn F S2x256x8192 .bf16 := LG (xA m c) (wA m c) b

/-! ## The cells -/

/-- The cells of the exchange on a device: the barrier, the quarters' arrivals and departures, the slots', the
    halves', and the slots' credits. -/
inductive Ck
  | bar | hr (q : Fin 4) | hs (q : Fin 4) | rv (s : Fin 2) | sd (s : Fin 2) | rr (s : Fin 2) | rs (s : Fin 2) | cr (s : Fin 2)
  deriving DecidableEq

namespace Ck

/-- The cells listed. -/
def all : List Ck := [bar, hr 0, hr 1, hr 2, hr 3, hs 0, hs 1, hs 2, hs 3, rv 0, rv 1, sd 0, sd 1, rr 0, rr 1, rs 0, rs 1, cr 0, cr 1]

/-- The list of cells leaves none out. -/
theorem mem_all (k : Ck) : k ∈ all := by
  rcases k with _ | q | q | s | s | s | s | s
  · decide
  iterate 2 (revert q; decide)
  all_goals (revert s; decide)
instance : Fintype Ck := ⟨⟨all, by decide⟩, mem_all⟩

def sm : Ck → SemLoc sig
  | bar => .reg barS
  | hr q => .dma (semQ cc0_scratch14 q)
  | hs q => .dma (semQ cc0_scratch13 q)
  | rv s => .dma (semS cc0_scratch12 s)
  | sd s => .dma (semS cc0_scratch11 s)
  | rr s => .dma (semS cc0_scratch16 s)
  | rs s => .dma (semS cc0_scratch15 s)
  | cr s => .reg (credS s)

/-- Different cells are different semaphores. -/
theorem sm_inj : Function.Injective sm := by
  have h : ∀ a b : Ck, a.sm = b.sm → a = b := by decide +kernel
  exact fun a b => h a b

/-- The rounds of a cell. -/
def rounds : Ck → ℕ
  | rv _ | sd _ | cr _ => 3
  | _ => 1

end Ck

abbrev kcell (c : Dev nD) (k : Ck) : GSem nD τ sig := ((c : Thread nD τ), k.sm)

/-- Cells that agree are of the same device and the same kind. -/
theorem kcell_inj {c c' : Dev nD} {k k' : Ck} (h : kcell c k = kcell c' k') : c = c' ∧ k = k' :=
  ⟨congrArg (fun g : GSem nD τ sig => g.1.1) h, Ck.sm_inj (congrArg Prod.snd h)⟩

/-- The cell a semaphore is, if it is of the exchange. -/
def kindOf (s : SemLoc sig) : Option Ck := open Classical in if h : ∃ k : Ck, k.sm = s then some h.choose else none

/-- The semaphore of a cell is recognised as that cell. -/
theorem kindOf_sm (k : Ck) : kindOf k.sm = some k := by
  have h : ∃ k' : Ck, k'.sm = k.sm := ⟨k, rfl⟩
  unfold kindOf
  rw [dif_pos h]
  exact congrArg some (Ck.sm_inj h.choose_spec)

/-- The units a copy of a quarter, of a whole slot, of a half is worth. -/
@[irreducible] def nQ : ℕ := (quarter cmM 0).view.dmaCredit
@[irreducible] def nF : ℕ := (full cmM 0).view.dmaCredit
@[irreducible] def nH : ℕ := (half cmM 0).view.dmaCredit
theorem nQ_pos : 0 < nQ := by unfold nQ; exact View.dmaCredit_pos _ (by decide)

/-- A copy of a whole slot is worth something. -/
theorem nF_pos : 0 < nF := by unfold nF; exact View.dmaCredit_pos _ (by decide)

/-- A copy of a half is worth something. -/
theorem nH_pos : 0 < nH := by unfold nH; exact View.dmaCredit_pos _ (by decide)

/-- The units of a round of a cell. -/
def Ck.amt : Ck → ℕ
  | .bar | .cr _ => 1
  | .hr _ | .hs _ => nQ
  | .rv _ | .sd _ => nF
  | .rr _ | .rs _ => nH

/-- Every round is worth something. -/
theorem Ck.amt_pos (k : Ck) : 0 < k.amt := by
  cases k <;> simp only [Ck.amt] <;> first | exact Nat.one_pos | exact nQ_pos | exact nF_pos | exact nH_pos

/-! ## What the rounds hand over -/

/-- The row block round `r` of slot `s`'s arrivals and departures is of. -/
def blkF (s : Fin 2) (r : ℕ) : Fin 8 := ⟨(2 * r + 2 - s.val) % 8, Nat.mod_lt _ (by decide)⟩

/-- Elements `S` of this device's logits buffer, of its receive buffer. -/
abbrev lgPt (c : Dev nD) (S : Finset S2x256x8192.Idx) (q : PosShare TreeShare) (f : Tn F S2x256x8192 .bf16) : sProp 𝕄 :=
  ((c : Thread nD τ).loc cc0_scratch4 ↦[S]{q} f)
abbrev cmPt (c : Dev nD) (S : Finset S2x256x8192.Idx) (f : Tn F S2x256x8192 .bf16) : sProp 𝕄 :=
  ((c : Thread nD τ).loc cc0_scratch5 ↦[S]{fullShare} f)

abbrev setQ (q : Fin 4) : Finset S2x256x8192.Idx := lgCols 0 (2048 * q.val) (2048 * q.val + 2048)
abbrev setH (s : Fin 2) : Finset S2x256x8192.Idx := lgRows 1 (128 * s.val) (128 * s.val + 128)

/-- What round `r` of device `c`'s cell `k` hands to `c`. -/
def pay (c : Dev nD) (k : Ck) (r : ℕ) : sProp 𝕄 := match k with
  | .bar => iprop(∃ f, cmPt (partner c) Finset.univ f)
  | .hr q => cmPt c (setQ q) (Lg m (partner c) 0)
  | .hs q => lgPt c (setQ q) fullShare.right (Lg m c 0)
  | .rv s => iprop(cmPt c (lgSlot s.val) (Lg m (partner c) (blkF s r)) ∗ reached ER (kcell (partner c) (.cr s)) (r + 1 - s.val))
  | .sd s => lgPt c (lgSlot s.val) fullShare.right (Lg m c (blkF s r))
  | .rr s => cmPt c (setH s) (Lg m (partner c) 7)
  | .rs s => lgPt c (setH s) fullShare.right (Lg m c 7)
  | .cr s => iprop((∃ f, cmPt (partner c) (lgSlot s.val) f) ∗ reached ER (kcell (partner c) (.rv s)) (r + s.val))

instance pay_storable (c : Dev nD) (k : Ck) (r : ℕ) : BI.Storable (upEmb : UEmb _ 𝕄) (pay (F := F) m c k r) := by
  unfold pay; cases k <;> dsimp only <;> infer_instance

/-- The schedule: every round of a cell of the exchange has one payer. -/
def Rd : Rounds.Schedule (GSem nD τ sig) Unit 𝕄 where
  duties g r := match kindOf g.2 with
    | some k => if g.1.2 = .tc ∧ r < k.rounds then {()} else ∅
    | none => ∅
  unitless _ := False
  amount g _ _ := match kindOf g.2 with
    | some k => k.amt
    | none => 1
  payload g r _ := match kindOf g.2 with
    | some k => pay m g.1.1 k r
    | none => iprop(emp)
  amount_pos g _ _ _ := by
    cases kindOf g.2 with
    | none => exact Nat.one_pos
    | some k => exact k.amt_pos

instance Rd_storable (g : GSem nD τ sig) (r : ℕ) (d : Unit) : BI.Storable (upEmb : UEmb _ 𝕄) ((Rd (F := F) m).payload g r d) := by
  show BI.Storable upEmb (match kindOf g.2 with | some k => pay m g.1.1 k r | none => iprop(emp))
  cases kindOf g.2 <;> dsimp only <;> infer_instance

section Sched
variable (c : Dev nD) (k : Ck)

/-- A round of a cell has one payer. -/
theorem duties_k {r : ℕ} (h : r < k.rounds) : (Rd (F := F) m).duties (kcell c k) r = {()} := by
  dsimp only [Rd]; rw [kindOf_sm]; exact if_pos ⟨rfl, h⟩

/-- After its rounds a cell has no payer. -/
theorem duties_later : ∀ r, k.rounds ≤ r → (Rd (F := F) m).duties (kcell c k) r = ∅ := fun r h => by
  dsimp only [Rd]; rw [kindOf_sm]; exact if_neg fun h' => by omega

/-- A payer of a cell pays the cell's amount. -/
theorem amount_k (r : ℕ) (u : Unit) : (Rd (F := F) m).amount (kcell c k) r u = k.amt := by
  dsimp only [Rd]; rw [kindOf_sm]

/-- A round of a cell hands over what `pay` says. -/
theorem payload_k (r : ℕ) (u : Unit) : (Rd (F := F) m).payload (kcell c k) r u = pay m c k r := by
  dsimp only [Rd]; rw [kindOf_sm]

/-- The one payer is among a round's payers. -/
theorem mem_duties {r : ℕ} (h : r < k.rounds) : () ∈ (Rd (F := F) m).duties (kcell c k) r := by
  rw [duties_k m c k h]; exact Finset.mem_singleton_self _

/-- A round expects the cell's amount. -/
theorem expect_k {r : ℕ} (h : r < k.rounds) : (Rd (F := F) m).expect (kcell c k) r = k.amt := by
  unfold Schedule.expect Schedule.amountOf; rw [duties_k m c k h, Finset.sum_singleton, amount_k]

/-- What a round hands over in all is what `pay` says. -/
theorem rest_k {r : ℕ} (h : r < k.rounds) :
    bigSep ((Rd (F := F) m).duties (kcell c k) r \ ∅) (fun u => (Rd (F := F) m).payload (kcell c k) r u) = pay m c k r := by
  rw [Finset.sdiff_empty, duties_k m c k h, bigSep_singleton, payload_k]

end Sched

/-! ## What a device owes, in the order it pays -/

/-- A payment to the partner: a round of a cell. -/
abbrev Pay := Ck × ℕ

/-- What is owed while the payments `l` to the partner are still to come. -/
def owe (c : Dev nD) : List Pay → CellTallies nD τ sig ℕ
  | [] => 0
  | p :: l => owe c l + tallyAt (kcell (partner c) p.1) p.2 p.1.amt

/-- All payments. -/
def pays : List Pay :=
  [(.bar, 0), (.hr 0, 0), (.hr 1, 0), (.hr 2, 0), (.hr 3, 0), (.rv 1, 0), (.cr 0, 0), (.rv 0, 0), (.cr 1, 0), (.rv 1, 1),
   (.cr 0, 1), (.rv 0, 1), (.cr 1, 1), (.rv 1, 2), (.cr 0, 2), (.rv 0, 2), (.cr 1, 2), (.rr 0, 0), (.rr 1, 0)]

/-- The levels. -/
def Ck.lev : Ck → ℕ → ℕ
  | .bar, _ => 1
  | .hr _, _ => 2
  | .rv s, r => 2 * (2 * r + 2 - s.val) + 2
  | .cr s, r => 2 * (2 * r + s.val) + 3
  | .rr _, _ => 16
  | _, _ => 0

def L (g : GSem nD τ sig) : Finset ℕ := if g.1.2 = .tc then Finset.range 4 else ∅
def lv (g : GSem nD τ sig) (i : ℕ) : ℕ := match kindOf g.2 with
  | some k => k.lev i
  | none => 0

/-- A thread other than a core's own has no levels. -/
theorem L_of_ne (g : GSem nD τ sig) (h : g.1.2 ≠ .tc) : L g = ∅ := if_neg h

/-- The levels below four are all there on a core's semaphores. -/
theorem mem_L (c : Dev nD) (s : SemLoc sig) {i : ℕ} (h : i < 4) : i ∈ L ((c : Thread nD τ), s) := by
  unfold L; rw [if_pos rfl]; exact Finset.mem_range.mpr h

/-- The level of a round of a cell is the one listed for it. -/
theorem lv_k (c : Dev nD) (k : Ck) (i : ℕ) : lv (kcell c k) i = k.lev i := by unfold lv; rw [kindOf_sm]

/-- What is owed is one of the payments to come. -/
theorem owe_pos {c : Dev nD} {l : List Pay} {g : GSem nD τ sig} {i : ℕ} (h : 0 < owe c l g i) :
    ∃ p ∈ l, g = kcell (partner c) p.1 ∧ i = p.2 := by
  induction l with
  | nil => exact absurd h (Nat.lt_irrefl 0)
  | cons p l ih =>
    unfold owe at h
    rw [Pi.add_apply, Finsupp.add_apply, tallyAt_apply] at h
    by_cases hp : g = kcell (partner c) p.1 ∧ i = p.2
    · exact ⟨p, List.mem_cons_self, hp⟩
    · rw [if_neg hp, Nat.add_zero] at h
      obtain ⟨p', hp', h'⟩ := ih h
      exact ⟨p', List.mem_cons_of_mem _ hp', h'⟩

/-- A wait on a cell below all that is still owed is admissible. -/
theorem mayWait (c : Dev nD) (sm : SemLoc sig) (i : ℕ) (hi : i < 4) (l : List Pay) (hl : ∀ p ∈ l, p.2 < 4 ∧ lv ((c : Thread nD τ), sm) i < p.1.lev p.2) :
    (levAts L lv : sProp 𝕄) ⊢ MayWait (c : Thread nD τ) sm i (owe c l) :=
  MayOwe.of_cut (L := L) (lev := lv) (lv ((c : Thread nD τ), sm) i)
    (fun p hp => by rw [Finset.mem_singleton.mp hp]; exact mem_L c sm hi)
    (fun g u hg => by
      obtain ⟨p, hp, rfl, rfl⟩ := owe_pos hg
      exact mem_L _ _ (hl p hp).1)
    (fun p hp => by rw [Finset.mem_singleton.mp hp])
    (fun g u hg => by
      obtain ⟨p, hp, rfl, rfl⟩ := owe_pos hg
      rw [lv_k]
      exact (hl p hp).2)

end Cert.KernelIdeal.Body

end
-- ==== Proof.KernelIdeal.Steps.lean ====
/- The rules for the steps of the body: local copies and their waits, the sends, the credits and the waits of the
   exchange, over a device's state in the exchange (what it still owes, the tokens, credits and positions it holds). -/
module

public import proofs.«01_k».proof.Proof.KernelIdeal.Sched

@[expose] public section

set_option maxRecDepth 65536

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

local notation "𝕄" => MT nD τ sig ℕ (Elt F) ℕ UU ℕ

abbrev 𝒱₀ : Variants := Variants.none

/-! ## Triples -/

/-- The weakest precondition of a program on device `c`. -/
abbrev WP {α : Type} (c : Dev nD) (p : PG F α) (Q : α → sProp 𝕄) : sProp 𝕄 :=
  wp frame (wpE (defs₀ (F := F)) 𝒱₀ (c : Thread nD τ) none) Set.univ p Q

/-- From `P` the program `p` gives `P'`. -/
def Tri (c : Dev nD) (P : sProp 𝕄) (p : PG F PUnit) (P' : sProp 𝕄) : Prop :=
  ∀ Q : PUnit → sProp 𝕄, P ⊢ iprop((P' -∗ Q ⟨⟩) -∗ WP c p Q)

/-- A triple gives the first step of a program, the rest then starting from what the triple ends in. -/
theorem Tri.bind {c : Dev nD} {P P' : sProp 𝕄} {p : PG F PUnit} (h : Tri c P p P') {α : Type} {k : PUnit → PG F α} {Q : α → sProp 𝕄} :
    P ⊢ iprop((P' -∗ WP c (k ⟨⟩) Q) -∗ WP c (p >>= k) Q) := by
  unfold WP; rw [wp_bind]; exact h (fun a => wp frame (wpE (defs₀ (F := F)) 𝒱₀ (c : Thread nD τ) none) Set.univ (k a) Q)

/-- A triple gives a whole program. -/
theorem Tri.run {c : Dev nD} {P P' : sProp 𝕄} {p : PG F PUnit} (h : Tri c P p P') {Q : PUnit → sProp 𝕄} :
    P ⊢ iprop((P' -∗ Q ⟨⟩) -∗ WP c p Q) := h Q

/-- A triple may start from more and end in less. -/
theorem Tri.mono {c : Dev nD} {P P' R R' : sProp 𝕄} {p : PG F PUnit} (h : Tri c P p P') (h₁ : R ⊢ P) (h₂ : P' ⊢ R') : Tri c R p R' := by
  intro Q
  iintro H HQ
  iapply (h Q) $$ [H]
  · iapply h₁; iexact H
  iintro H
  iapply HQ; iapply h₂; iexact H

/-- Two triples follow each other. -/
theorem Tri.seq {c : Dev nD} {P P' P'' : sProp 𝕄} {p : PG F PUnit} (h : Tri c P p P') {k : PUnit → PG F PUnit} (h' : Tri c P' (k ⟨⟩) P'') : Tri c P (p >>= k) P'' := by
  intro Q
  iintro H HQ
  iapply h.bind $$ H
  iintro H
  iapply (h' Q) $$ H HQ

/-- The empty program changes nothing. -/
theorem Tri.skip (c : Dev nD) (P : sProp 𝕄) : Tri c P (pure ⟨⟩) P := by
  intro Q
  iintro H HQ
  unfold WP
  rw [Prog.pure_eq_ret, wp_ret]
  imodintro
  iapply HQ; iexact H

/-- What a program does not use stays as it is. -/
theorem Tri.frame {c : Dev nD} {P P' : sProp 𝕄} {p : PG F PUnit} (h : Tri c P p P') (R : sProp 𝕄) : Tri c iprop(P ∗ R) p iprop(P' ∗ R) := by
  intro Q
  iintro ⟨H, HR⟩ HQ
  iapply (h Q) $$ H
  iintro H
  iapply HQ
  isplitl [H] <;> iassumption

variable (m : (ℓ : Loc nD τ sig) → Buf (Elt F) ℓ)

/-! ## A device's state in the exchange -/

/-- The cell whose round a send pays on the sender's side. -/
def Ck.own : Ck → Option Ck
  | .hr q => some (.hs q)
  | .rv s => some (.sd s)
  | .rr s => some (.rs s)
  | _ => none
/-- Whether a cell's rounds are paid by the device itself. -/
def Ck.isOwn : Ck → Bool
  | .hs _ | .sd _ | .rs _ => true
  | _ => false

/-- The waits of the exchange, in the order the device makes them. -/
def waits : List Pay :=
  [(.bar, 0), (.hr 0, 0), (.hr 1, 0), (.hr 2, 0), (.hr 3, 0), (.hs 0, 0), (.hs 1, 0), (.hs 2, 0), (.hs 3, 0), (.cr 0, 0),
   (.rv 1, 0), (.sd 1, 0), (.cr 1, 0), (.rv 0, 0), (.sd 0, 0), (.cr 0, 1), (.rv 1, 1), (.sd 1, 1), (.cr 1, 1), (.rv 0, 1),
   (.sd 0, 1), (.cr 0, 2), (.rv 1, 2), (.sd 1, 2), (.cr 1, 2), (.rv 0, 2), (.rr 0, 0), (.rr 1, 0), (.sd 0, 2), (.rs 0, 0), (.rs 1, 0)]

/-- The tokens of a payment. -/
def tok (c : Dev nD) (p : Pay) : sProp 𝕄 :=
  iprop(dutyTok ER (kcell (partner c) p.1) p.2 () ∗ (match p.1.own with | some k => dutyTok ER (kcell c k) p.2 () | none => iprop(emp)))
def toks (c : Dev nD) : List Pay → sProp 𝕄
  | [] => iprop(emp)
  | p :: l => iprop(tok c p ∗ toks c l)
/-- The credits of waits. -/
def crd (c : Dev nD) (p : Pay) : sProp 𝕄 := if p.1.isOwn then iprop(emp) else cred (tallyAt (kcell c p.1) p.2 p.1.amt)
def crds (c : Dev nD) : List Pay → sProp 𝕄
  | [] => iprop(emp)
  | p :: l => iprop(crd c p ∗ crds c l)
/-- The round a cell is at after `n` waits. -/
def rnd (n : ℕ) (k : Ck) : ℕ := (waits.take n).countP fun p => p.1 = k
def posn (c : Dev nD) (n : ℕ) : sProp 𝕄 := bigSep Finset.univ fun k : Ck => iprop(atPos ER (kcell c k) (rnd n k) ∅ 0 ∗ reached ER (kcell c k) (rnd n k))

def Ow (c : Dev nD) (i : ℕ) : sProp 𝕄 := iprop(∃ W, owes (c : Thread nD τ) (owe c (pays.drop i)) W)
/-- After `i` payments and `n` waits. -/
def St (c : Dev nD) (i n : ℕ) : sProp 𝕄 := iprop(Ow c i ∗ toks c (pays.drop i) ∗ crds c (waits.drop n) ∗ posn c n)

/-- What every device knows. -/
def Ctx (K : Dev nD × Ck → ℕ) : sProp 𝕄 :=
  iprop(bigSep Finset.univ (fun ck : Dev nD × Ck => cellInv ER (Rd m) (K ck) (kcell ck.1 ck.2))
    ∗ bigSep Finset.univ (fun ck : Dev nD × Ck => reached ER (kcell ck.1 ck.2) 0) ∗ levAts L lv)

variable (K : Dev nD × Ck → ℕ)

instance Ctx_persistent : BI.Persistent (Ctx (F := F) m K) := by
  unfold Ctx
  infer_instance

/-- One cell's invariant out of those of all cells. -/
theorem all_inv (ck : Dev nD × Ck) : bigSep Finset.univ (fun ck : Dev nD × Ck => cellInv ER (Rd (F := F) m) (K ck) (kcell ck.1 ck.2))
    ⊢ cellInv ER (Rd m) (K ck) (kcell ck.1 ck.2) := bigSep_elim (Finset.mem_univ ck)

/-- One cell's first round reached, out of those of all cells. -/
theorem all_reached (ck : Dev nD × Ck) : bigSep Finset.univ (fun ck : Dev nD × Ck => (reached ER (kcell ck.1 ck.2) 0 : sProp 𝕄))
    ⊢ reached ER (kcell ck.1 ck.2) 0 := bigSep_elim (Finset.mem_univ ck)

/-- What every device knows includes the invariant of each cell. -/
theorem ctx_inv (c : Dev nD) (k : Ck) : Ctx (F := F) m K ⊢ cellInv ER (Rd m) (K (c, k)) (kcell c k) := by
  unfold Ctx
  iintro ⟨H, -, -⟩
  iapply (all_inv m K (c, k)) $$ H

/-- What every device knows includes that each cell has reached its first round. -/
theorem ctx_reached (c : Dev nD) (k : Ck) : Ctx (F := F) m K ⊢ reached ER (kcell c k) 0 := by
  unfold Ctx
  iintro ⟨-, H, -⟩
  iapply (all_reached (c, k)) $$ H

/-- What every device knows includes the levels. -/
theorem ctx_lev : Ctx (F := F) m K ⊢ levAts L lv := by
  unfold Ctx
  iintro ⟨-, -, H⟩
  iexact H

/-- The payments from the `i`-th on are the `i`-th and those after it. -/
theorem drop_of_get {l : List Pay} {i : ℕ} {p : Pay} (h : l[i]? = some p) : l.drop i = p :: l.drop (i + 1) := by
  obtain ⟨hi, rfl⟩ := List.getElem?_eq_some_iff.mp h
  exact List.drop_eq_getElem_cons hi

/-- A wait moves its own cell on by one round and no other. -/
theorem rnd_succ {n : ℕ} {k : Ck} {r : ℕ} (h : waits[n]? = some (k, r)) (k' : Ck) : rnd (n + 1) k' = rnd n k' + if k = k' then 1 else 0 := by
  unfold rnd
  rw [List.take_succ, h, List.countP_append]
  simp [List.countP_cons]

/-- A cell's position after `n` waits. -/
abbrev posI (c : Dev nD) (n : ℕ) (k : Ck) : sProp 𝕄 := iprop(atPos ER (kcell c k) (rnd n k) ∅ 0 ∗ reached ER (kcell c k) (rnd n k))

/-- The positions of all cells are that of one cell and those of the others. -/
theorem posn_split (c : Dev nD) (n : ℕ) (k : Ck) : posn (F := F) c n = iprop(posI c n k ∗ bigSep (Finset.univ.erase k) (posI c n)) :=
  bigSep_erase (Finset.mem_univ k)

/-- The positions after `n` waits give that of the cell waited on next, and take it back a round further. -/
theorem posn_succ {c : Dev nD} {n : ℕ} {k : Ck} {r : ℕ} (h : waits[n]? = some (k, r)) (hr : rnd n k = r) :
    posn (F := F) c n ⊢ iprop((atPos ER (kcell c k) r ∅ 0 ∗ reached ER (kcell c k) r)
      ∗ ((atPos ER (kcell c k) (r + 1) ∅ 0 ∗ reached ER (kcell c k) (r + 1)) -∗ posn c (n + 1))) := by
  have e : bigSep (Finset.univ.erase k) (posI (F := F) c (n + 1)) = bigSep (Finset.univ.erase k) (posI c n) :=
    bigSep_congr fun k' hk' => by unfold posI; rw [rnd_succ h, if_neg (Ne.symm (Finset.ne_of_mem_erase hk')), Nat.add_zero]
  rw [posn_split c n k, posn_split c (n + 1) k, e]
  unfold posI
  rw [rnd_succ h, if_pos rfl, hr]
  iintro ⟨H, Hr⟩
  isplitl [H]; · iexact H
  iintro H
  isplitl [H] <;> iassumption

/-! ## Local copies -/

/-- A local copy into `dst` under way, which gives `D` when waited for. -/
def Fl {sp : Space} {s : Shape} {e : EltTy} (c : Dev nD) (sm : DmaSem sig) (dst : Memref sig .tc sp s e) (D : sProp 𝕄) : sProp 𝕄 :=
  Flight EC (c : Thread nD τ) (.dma sm) 0 (dst.view.ref.dmaCredit s e) D

/-- The rest at zero of a local semaphore. -/
abbrev sv (c : Dev nD) (sm : DmaSem sig) : sProp 𝕄 := semVal ((c : Thread nD τ), .dma sm) 0

/-- A local copy starts from its source, its target and a semaphore at rest, and is then under way. -/
theorem tri_copy {sp sp' : Space} {s : Shape} {e : EltTy} (c : Dev nD) {src : Memref sig .tc sp s e} {dst : Memref sig .tc sp' s e} {sm : DmaSem sig}
    {h₁ : src.view.WordExact} {h₂ : dst.view.WordExact} {h : (DmaTarget.here (nD := nD) (τ := τ) (p := .tc) dst).Typed sp (.dma sm)}
    {I J : Finset _} {q : PosShare TreeShare} (fs : Buf (Elt F) (src.view.loc (c : Thread nD τ))) (fd g : Buf (Elt F) (dst.view.loc (c : Thread nD τ)))
    (hI : src.view.set = I) (hJ : dst.view.set = J) (h0 : 0 < s.numel)
    (hg : dst.view.read (Elt F) g = src.view.read (Elt F) fs) :
    Tri c iprop((src.view.loc (c : Thread nD τ) ↦[I]{q} fs) ∗ (dst.view.loc (c : Thread nD τ) ↦[J]{fullShare} fd) ∗ sv c sm)
      (copyTo src dst sm h₁ h₂ h)
      (Fl c sm dst iprop((dst.view.loc (c : Thread nD τ) ↦[J]{fullShare} g) ∗ (src.view.loc (c : Thread nD τ) ↦[I]{q} fs))) := by
  subst hI hJ
  intro Q
  unfold copyTo Fl WP
  simp only [Prog.lift]
  iintro ⟨Hs, Hd, Hv⟩ HQ
  iapply (wp_dmaLocal EC 𝒱₀ (c : Thread nD τ) none 0 (dst.view.ref.dmaCredit s e) rfl (View.dmaCredit_pos _ h0) (Finset.Subset.refl _)) $$ [Hs Hd Hv]
  · isplitl [Hs]; · iexact Hs
    isplitl [Hd] <;> iassumption
  iintro HF
  rw [wp_ret]
  imodintro
  iapply HQ
  iapply (Flight_mono (EC (F := F)) (c : Thread nD τ) (ι := 0) (N := dst.view.ref.dmaCredit s e) ?_) $$ HF
  iintro ⟨Hd, Hs⟩
  isplitl [Hd]
  · iapply (Entails.of_eq (pointsTo_congr (g := g) ?_)) $$ Hd
    intro i hi
    rw [show (ReadAs.same : ReadAs (Elt F) s e s e).apply (src.view.read (Elt F) fs) = src.view.read (Elt F) fs from rfl, ← hg, View.write_read_eq_piecewise]
    exact Finset.piecewise_eq_of_mem _ _ _ (by rw [View.setOn_univ]; exact hi)
  · iexact Hs

/-- A copy under way depends on its target only through the buffer. -/
theorem Fl_dst {sp : Space} {s : Shape} {e : EltTy} (c : Dev nD) (sm : DmaSem sig) {dst dst' : Memref sig .tc sp s e} (h : dst.view.ref = dst'.view.ref) (D : sProp 𝕄) :
    Fl c sm dst D = Fl c sm dst' D := by unfold Fl; rw [h]

/-- A semaphore that is no cell's is of no kind. -/
theorem kindOf_none {s : SemLoc sig} (h : ∀ k : Ck, k.sm ≠ s) : kindOf s = none := by
  unfold kindOf; exact dif_neg fun ⟨k, hk⟩ => h k hk

/-- Every payment is of a round below four, and its level is above zero. -/
theorem pays_lev : ∀ p ∈ pays, p.2 < 4 ∧ 0 < p.1.lev p.2 := by decide

/-- A wait for a local copy. -/
theorem tri_waitLocal {sp : Space} {s : Shape} {e : EltTy} (c : Dev nD) {sm : DmaSem sig} {dst : Memref sig .tc sp s e} {D : sProp 𝕄} {i n : ℕ}
    (hsm : kindOf (.dma sm) = none) :
    Tri c iprop(levAts L lv ∗ Fl c sm dst D ∗ St c i n) (waitOn sm dst) iprop(D ∗ sv c sm ∗ St c i n) := by
  intro Q
  unfold waitOn Fl WP St Ow
  simp only [Prog.lift]
  iintro ⟨#Hl, HF, ⟨%W, HO⟩, Hr⟩ HQ
  iapply (wp_waitLocalOSized EC 𝒱₀ (c : Thread nD τ) none (b := dst.view.ref) 0 rfl) $$ [HF HO]
  · isplitl [HF]; · iexact HF
    isplitl [HO]; · iexact HO
    iapply (mayWait c (.dma sm) 0 (by decide) (pays.drop i) fun p hp => by
      have h := pays_lev p (List.mem_of_mem_drop hp)
      refine ⟨h.1, ?_⟩
      unfold lv; rw [hsm]; exact h.2)
    iexact Hl
  iintro ⟨HD, Hv, HO⟩
  rw [wp_ret]
  imodintro
  iapply HQ
  isplitl [HD]; · iexact HD
  isplitl [Hv]; · iexact Hv
  isplitl [HO]; · iexists _; iexact HO
  iexact Hr

/-! ## The waits, sends and credits of the exchange -/

/-- No cell has more than four rounds. -/
theorem rounds_le (k : Ck) : k.rounds ≤ 4 := by cases k <;> simp [Ck.rounds]

/-- A wait of the exchange: the position advances and the round's payload arrives. -/
theorem wait_core (c : Dev nD) {i n : ℕ} {k : Ck} {r : ℕ} (h : waits[n]? = some (k, r)) (hn : rnd n k = r) (hr : r < k.rounds)
    (hl : ∀ p ∈ pays.drop i, k.lev r < p.1.lev p.2)
    {w : TpuEff nD τ sig (Elt F) Λ₀ .tc PUnit} {u : ℕ} (hu : u = k.amt)
    (hw : ∀ K : PUnit → sProp 𝕄, wpE (defs₀ (F := F)) 𝒱₀ (c : Thread nD τ) none Set.univ w K = waitSpec (c : Thread nD τ) Set.univ k.sm u K) :
    Tri c iprop(Ctx m K ∗ (if k.isOwn then cred (tallyAt (kcell c k) r k.amt) else iprop(emp)) ∗ St c i n) (Prog.lift w)
      iprop(pay m c k r ∗ reached ER (kcell c k) (r + 1) ∗ St c i (n + 1)) := by
  subst hu
  intro Q
  unfold WP St Ow
  rw [drop_of_get h]
  simp only [Prog.lift, crds]
  iintro ⟨#Hctx, Hc, ⟨%W, HO⟩, Ht, ⟨Hc', Hcs⟩, Hp⟩ HQ
  ihave Hcc : cred (tallyAt (kcell c k) r k.amt) $$ [Hc Hc']
  · unfold crd
    cases k.isOwn <;> simp only [Bool.false_eq_true, if_true, if_false]
    · iexact Hc'
    · iexact Hc
  ihave Hp' := (posn_succ h hn) $$ Hp
  icases Hp' with ⟨⟨Hat, #Hre⟩, Hback⟩
  iapply (Rounds.wp_wait_rest_token 𝒱₀ ER (Rd m) (c : Thread nD τ) none (κ := K (c, k)) hw (Set.mem_univ _) r (O := owe c (pays.drop i)) (W := W) (R := r) (m := 0) (T := ∅)
    (by rw [Nat.zero_add]; exact (expect_k m c k hr).symm)) $$ [Hcc HO Hat]
  · isplitr; · iapply (ctx_inv m K c k) $$ Hctx
    isplitl [Hcc]; · iexact Hcc
    isplitl [HO]; · iexact HO
    isplitr
    · iapply (mayWait c k.sm r (lt_of_lt_of_le hr (rounds_le k)) (pays.drop i) fun p hp => ⟨(pays_lev p (List.mem_of_mem_drop hp)).1, by rw [lv_k]; exact hl p hp⟩)
      iapply (ctx_lev m K) $$ Hctx
    iexact Hat
  iintro ⟨HO, Hat, #Hr', Hpay⟩
  rw [wp_ret]
  imodintro
  iapply HQ
  isplitl [Hpay]; · iapply (Entails.of_eq (rest_k m c k hr)) $$ Hpay
  isplitr; · iexact Hr'
  isplitl [HO]; · iexists _; iexact HO
  isplitl [Ht]; · iexact Ht
  isplitl [Hcs]; · iexact Hcs
  iapply Hback
  isplitl [Hat]; · iexact Hat
  iexact Hr'

/-- A wait for an arrival or a departure. -/
theorem tri_wait (c : Dev nD) {i n : ℕ} {k : Ck} {r : ℕ} (h : waits[n]? = some (k, r)) (hn : rnd n k = r) (hr : r < k.rounds)
    (hl : ∀ p ∈ pays.drop i, k.lev r < p.1.lev p.2) {sp : Space} {s : Shape} {e : EltTy} {sm : DmaSem sig} {dst : Memref sig .tc sp s e}
    (hsm : k.sm = .dma sm) (hu : dst.view.ref.dmaCredit s e = k.amt) :
    Tri c iprop(Ctx m K ∗ (if k.isOwn then cred (tallyAt (kcell c k) r k.amt) else iprop(emp)) ∗ St c i n) (waitOn sm dst)
      iprop(pay m c k r ∗ reached ER (kcell c k) (r + 1) ∗ St c i (n + 1)) :=
  wait_core m K c h hn hr hl hu fun K => by rw [hsm]; rfl

/-- A wait for a signal. -/
theorem tri_take (c : Dev nD) {i n : ℕ} {k : Ck} {r : ℕ} (h : waits[n]? = some (k, r)) (hn : rnd n k = r) (hr : r < k.rounds)
    (hl : ∀ p ∈ pays.drop i, k.lev r < p.1.lev p.2) {sm : Sem sig} (hsm : k.sm = .reg sm) (hu : 1 = k.amt) :
    Tri c iprop(Ctx m K ∗ (if k.isOwn then cred (tallyAt (kcell c k) r k.amt) else iprop(emp)) ∗ St c i n) (semWaitWord sm 1#32)
      iprop(pay m c k r ∗ reached ER (kcell c k) (r + 1) ∗ St c i (n + 1)) :=
  wait_core m K c h hn hr hl (u := (1#32 : BitVec 32).toNat) (hu.symm.trans (by decide)).symm fun K => by
    rw [hsm]; exact wpE_semWait_eq 𝒱₀ (c : Thread nD τ) none Set.univ K

/-- What is owed before a payment is what is owed after it and the payment. -/
theorem owe_step (c : Dev nD) {i : ℕ} {p : Pay} (h : pays[i]? = some p) :
    owe c (pays.drop i) = owe c (pays.drop (i + 1)) + tallyAt (kcell (partner c) p.1) p.2 p.1.amt := by
  rw [drop_of_get h]; rfl

/-- A signal to the partner. -/
theorem tri_give (c : Dev nD) {i n : ℕ} {k : Ck} {r : ℕ} (h : pays[i]? = some (k, r)) (hr : r < k.rounds) {sm : Sem sig} (hsm : k.sm = .reg sm) (hu : k.amt = 1) :
    Tri c iprop(Ctx m K ∗ pay m (partner c) k r ∗ reached ER (kcell (partner c) k) r ∗ St c i n) (semSignalWord (partner c) sm 1#32) (St c (i + 1) n) := by
  intro Q
  have hk : kcell (partner c) k = ((partner c : Thread nD τ), SemLoc.reg sm) := by rw [kcell, hsm]
  have hd := mem_duties (F := F) m (partner c) k hr
  have ha := amount_k (F := F) m (partner c) k r ()
  have hp := payload_k (F := F) m (partner c) k r ()
  have hi := ctx_inv (F := F) m K (partner c) k
  have ho : owe c (pays.drop i) = owe c (pays.drop (i + 1)) + tallyAt (kcell (partner c) k) r (1#32 : BitVec 32).toNat :=
    (owe_step c h).trans (by rw [show ((k, r) : Pay).1.amt = (1#32 : BitVec 32).toNat from hu.trans (by decide)])
  rw [hk] at hd ha hp hi ho
  unfold St Ow WP
  rw [ho, drop_of_get h, hk, ← hp]
  simp only [toks, tok, hk, semSignalWord, Prog.lift]
  iintro ⟨#Hctx, Hpay, #Hre, ⟨%W, HO⟩, ⟨⟨Ht, -⟩, Hts⟩, Hr⟩ HQ
  iapply (Rounds.wp_signal 𝒱₀ ER (Rd m) (c : Thread nD τ) none (dst := (partner c : Thread nD τ)) (κ := K (partner c, k))
      hd (ha.trans (hu.trans (by decide))) r (owe c (pays.drop (i + 1))) rfl) $$ [HO Ht Hpay]
  · isplitr; · iapply hi $$ Hctx
    isplitl [HO]; · iexact HO
    isplitl [Ht]; · iexact Ht
    isplitl [Hpay]; · iexact Hpay
    iexact Hre
  iintro HO
  rw [wp_ret]
  imodintro
  iapply HQ
  isplitl [HO]; · iexists _; iexact HO
  isplitl [Hts]; · iexact Hts
  iexact Hr

/-- A send to the partner. -/
theorem tri_send (c : Dev nD) {i n : ℕ} {k k' : Ck} {r : ℕ} (h : pays[i]? = some (k, r)) (hr : r < k.rounds) (hown : k.own = some k') (hr' : r < k'.rounds)
    {s : Shape} {e : EltTy} {src dst : Memref sig .tc .vmem s e} {sS sR : DmaSem sig} {h₁ : src.view.WordExact} {h₂ : dst.view.WordExact}
    (hR : k.sm = .dma sR) (hS : k'.sm = .dma sS) (hu : dst.view.dmaCredit = k.amt) (hu' : k'.amt = k.amt)
    {I J : Finset _} (hI : src.view.set = I) (hJ : dst.view.set = J)
    {q : PosShare TreeShare} {fs : Buf (Elt F) (src.view.loc (c : Thread nD τ))} {fd : Buf (Elt F) (dst.view.loc (partner c : Thread nD τ))} {R : sProp 𝕄}
    (hp₁ : (src.view.loc (c : Thread nD τ) ↦[I]{q} fs) ⊢ pay m c k' r)
    (hp₂ : iprop((dst.view.loc (partner c : Thread nD τ) ↦[J]{fullShare} (dst.view.write (Elt F) fd (src.view.read (Elt F) fs) Finset.univ)) ∗ R) ⊢ pay m (partner c) k r) :
    Tri c iprop(Ctx m K ∗ (src.view.loc (c : Thread nD τ) ↦[I]{q} fs) ∗ (dst.view.loc (partner c : Thread nD τ) ↦[J]{fullShare} fd) ∗ R
        ∗ reached ER (kcell c k') r ∗ reached ER (kcell (partner c) k) r ∗ St c i n) (sendTo (partner c) src dst sS sR h₁ h₂)
      iprop(cred (tallyAt (kcell c k') r k'.amt) ∗ St c (i + 1) n) := by
  subst hI hJ
  intro Q
  have hk : kcell (partner c) k = ((partner c : Thread nD τ), SemLoc.dma sR) := by rw [kcell, hR]
  have hk' : kcell c k' = ((c : Thread nD τ), SemLoc.dma sS) := by rw [kcell, hS]
  have hd := mem_duties (F := F) m (partner c) k hr
  have ha := amount_k (F := F) m (partner c) k r ()
  have hp := payload_k (F := F) m (partner c) k r ()
  have hi := ctx_inv (F := F) m K (partner c) k
  have ho := owe_step c h
  have hd' := mem_duties (F := F) m c k' hr'
  have ha' := amount_k (F := F) m c k' r ()
  have hp' := payload_k (F := F) m c k' r ()
  have hi' := ctx_inv (F := F) m K c k'
  rw [hk] at hd ha hp hi ho
  rw [hk'] at hd' ha' hp' hi'
  rw [← hp'] at hp₁
  rw [← hp] at hp₂
  unfold St Ow WP
  rw [ho, drop_of_get h, hk, hk', hu']
  simp only [toks, tok, hown, hk, hk', sendTo, Prog.lift]
  iintro ⟨#Hctx, Hs, Hd, HR, #Hre', #Hre, ⟨%W, HO⟩, ⟨⟨Ht, Ht'⟩, Hts⟩, Hr⟩ HQ
  iapply (Rounds.wp_send_pointsTo_with 𝒱₀ ER (Rd m) (c : Thread nD τ) none (c' := (partner c : Thread nD τ)) (κ₁ := K (c, k')) (κ₂ := K (partner c, k))
      (r₁ := r) (r₂ := r) (d₁ := ()) (d₂ := ()) (fd := fd) (F := R) hd' hd r r k.amt hu (ha'.trans hu') ha (owe c (pays.drop (i + 1))) rfl hp₁ hp₂) $$ [Hs Hd HR HO Ht Ht']
  · isplitr; · iapply hi' $$ Hctx
    isplitr; · iapply hi $$ Hctx
    isplitl [Hs]; · iexact Hs
    isplitl [Hd HR]
    · isplitl [Hd] <;> iassumption
    isplitl [HO]; · iexact HO
    isplitl [Ht']; · iexact Ht'
    isplitr; · iexact Hre'
    isplitl [Ht]; · iexact Ht
    iexact Hre
  iintro ⟨Hc, HO⟩
  rw [wp_ret]
  imodintro
  iapply HQ
  isplitl [Hc]; · iexact Hc
  isplitl [HO]; · iexists _; iexact HO
  isplitl [Hts]; · iexact Hts
  iexact Hr

end Cert.KernelIdeal.Body

end
-- ==== Proof.KernelIdeal.LoopB.lean ====
/- The loops of the blocks after the first: the bf16 weights arrive chunk by chunk and are multiplied into the
   logits. Also the fetch and cast of a row block of the activations. -/
module

public import proofs.«01_k».proof.Proof.KernelIdeal.Steps

@[expose] public section

set_option maxRecDepth 65536

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

local notation "𝕄" => MT nD τ sig ℕ (Elt F) ℕ UU ℕ

variable (m : (ℓ : Loc nD τ sig) → Buf (Elt F) ℓ)

/-! ## Buffers and local semaphores -/

/-- Elements `S` of a buffer of device `c`, in full. -/
abbrev pt (c : Dev nD) (b : Ref sig .tc) (S : Finset b.ty.Idx) (f : b.ty.Contents (Elt F)) : sProp 𝕄 := ((c : Thread nD τ).loc b ↦[S]{fullShare} f)
/-- The same at some contents. -/
abbrev ptE (c : Dev nD) (b : Ref sig .tc) (S : Finset b.ty.Idx) : sProp 𝕄 := iprop(∃ f, pt c b S f)

/-- A trip's own slot is one of two. -/
theorem k2 {t : ℕ} : t % 2 < 2 := Nat.mod_lt _ (by decide)

/-- The other slot is one of two. -/
theorem k2' {t : ℕ} : 1 - t % 2 < 2 := by omega

/-- The semaphore of the activations' copies is not of the exchange. -/
theorem local7 : kindOf (.dma cc0_scratch7.sem) = none := kindOf_none (by decide +kernel)

/-- The semaphore of the result's copies is not of the exchange. -/
theorem local17 : kindOf (.dma cc0_scratch17.sem) = none := kindOf_none (by decide +kernel)

/-- No cell of the exchange is a semaphore of the f32 weights' copies. -/
theorem local8' : ∀ (s : Fin 2) (k : Ck), k.sm ≠ .dma (semS cc0_scratch8 s) := by decide +kernel

/-- No cell of the exchange is a semaphore of the bf16 weights' copies. -/
theorem local9' : ∀ (s : Fin 2) (k : Ck), k.sm ≠ .dma (semS cc0_scratch9 s) := by decide +kernel

/-- No cell of the exchange is a semaphore of the write-back. -/
theorem local10' : ∀ (s : Fin 2) (k : Ck), k.sm ≠ .dma (semS cc0_scratch10 s) := by decide +kernel

/-- The semaphores of the f32 weights' copies are not of the exchange. -/
theorem local8 {k : ℕ} (h : k < 2) : kindOf (.dma (sem2 cc0_scratch8 ![k] (inb2 h))) = none := kindOf_none (local8' ⟨k, h⟩)

/-- The semaphores of the bf16 weights' copies are not of the exchange. -/
theorem local9 {k : ℕ} (h : k < 2) : kindOf (.dma (sem2 cc0_scratch9 ![k] (inb2 h))) = none := kindOf_none (local9' ⟨k, h⟩)

/-- The semaphores of the write-back are not of the exchange. -/
theorem local10 {k : ℕ} (h : k < 2) : kindOf (.dma (sem2 cc0_scratch10 ![k] (inb2 h))) = none := kindOf_none (local10' ⟨k, h⟩)

/-- A step under a condition. -/
theorem Tri.when {c : Dev nD} {P P' : sProp 𝕄} {cnd : Prop} [Decidable cnd] {p : cnd → PG F PUnit} (h₁ : ∀ hc, Tri c P (p hc) P') (h₂ : ¬cnd → P ⊢ P')
    {α : Type} {k : PG F α} {Q : α → sProp 𝕄} : P ⊢ iprop((P' -∗ WP c k Q) -∗ WP c (whenThen cnd p k) Q) := by
  unfold whenThen
  by_cases hc : cnd
  · rw [dif_pos hc]; exact (h₁ hc).bind (k := fun _ => k) (Q := Q)
  · rw [dif_neg hc]
    iintro H HQ
    iapply HQ
    iapply (h₂ hc) $$ H

/-! ## The activations -/

/-- The row block buffer and the activations, nothing under way. -/
def Xst (c : Dev nD) : sProp 𝕄 := iprop(ptE c cc0_scratch0 Finset.univ ∗ sv c cc0_scratch7.sem ∗ pt c main_arg0 Finset.univ (xA m c))
/-- Row block `b` under way. -/
def Xfly (c : Dev nD) (b : Fin 8) : sProp 𝕄 :=
  iprop(Fl c cc0_scratch7.sem xF iprop(pt c cc0_scratch0 Finset.univ (xRow (xA m c) b) ∗ pt c main_arg0 (rowsB b).view.set (xA m c))
    ∗ pt c main_arg0 (Finset.univ \ (rowsB b).view.set) (xA m c))

/-- Starting the fetch of row block `b` leaves it under way. -/
theorem tri_startX (c : Dev nD) (b : Fin 8) : Tri c (Xst m c) (startX b) (Xfly m c b) := by
  intro Q
  unfold Xst startX Xfly
  iintro ⟨⟨%f, Hf⟩, Hs, Hx⟩ HQ
  ihave Hx' := (pointsTo_split_subset (Finset.subset_univ (rowsB b).view.set)).1 $$ Hx
  icases Hx' with ⟨Hx, Hrest⟩
  iapply (tri_copy c (src := rowsB b) (dst := xF) (xA m c) f (xRow (xA m c) b) rfl (View.set_whole _) (by decide) rfl Q) $$ [Hx Hf Hs]
  · isplitl [Hx]; · iexact Hx
    isplitl [Hf]; · iexact Hf
    iexact Hs
  iintro HF
  iapply HQ
  isplitl [HF]; · iexact HF
  iexact Hrest

/-- The offset of a whole buffer is zero. -/
theorem hz : (![0, 0] : Fin 2 → Nat) = fun _ => 0 := funext fun a => by fin_cases a <;> rfl

/-- A load of the f32 row block buffer gives all its contents. -/
theorem read_xF (f : Tn F S256x4096 .f32) : (xF : Memref sig .tc .vmem S256x4096 .f32).view.readAt (Elt F) xR.toLoadRect f = f :=
  Memref.readAt_unit_zero (Elt F) cc0_scratch0 hz _ f

/-- A load of the bf16 row block buffer gives all its contents. -/
theorem read_xB (f : Tn F S256x4096 .bf16) : (xB : Memref sig .tc .vmem S256x4096 .bf16).view.readAt (Elt F) xR.toLoadRect f = f :=
  Memref.readAt_unit_zero (Elt F) cc0_scratch1 hz _ f

/-- A store to the bf16 row block buffer replaces all its contents. -/
theorem write_xB (f w : Tn F S256x4096 .bf16) : (xB.access xR : View sig .tc _ _ _).write (Elt F) f w Finset.univ = w :=
  Memref.write_access_unit_zero_univ (Elt F) cc0_scratch1 hz _ f w

/-- The fetched row block, in f32. -/
def Xgot (c : Dev nD) (b : Fin 8) : sProp 𝕄 :=
  iprop(pt c cc0_scratch0 Finset.univ (xRow (xA m c) b) ∗ sv c cc0_scratch7.sem ∗ pt c main_arg0 Finset.univ (xA m c))

/-- The wait for row block `b` gives it in f32. -/
theorem tri_waitX (c : Dev nD) (b : Fin 8) {i n : ℕ} : Tri c iprop(levAts L lv ∗ Xfly m c b ∗ St c i n) waitX iprop(Xgot m c b ∗ St c i n) := by
  intro Q
  unfold Xfly waitX Xgot
  iintro ⟨#Hl, ⟨HF, Hrest⟩, HS⟩ HQ
  iapply (tri_waitLocal c local7 Q) $$ [HF HS]
  · isplitr; · iexact Hl
    isplitl [HF] <;> iassumption
  iintro ⟨⟨Hf, Hx⟩, Hs, HS⟩
  iapply HQ
  isplitr [HS]
  · isplitl [Hf]; · iexact Hf
    isplitl [Hs]; · iexact Hs
    iapply (pointsTo_split_subset (Finset.subset_univ (rowsB b).view.set)).2
    isplitl [Hx] <;> iassumption
  iexact HS

/-- The cast leaves row block `b` in bf16, and the f32 buffer ready for the next. -/
theorem tri_castX (c : Dev nD) (b : Fin 8) : Tri c iprop(Xgot m c b ∗ ptE c cc0_scratch1 Finset.univ) castX iprop(Xst m c ∗ pt c cc0_scratch1 Finset.univ (XB (xA m c) b)) := by
  intro Q
  unfold Xgot castX Xst WP
  simp only [Prog.lift, Prog.bind_op, Prog.bind_ret]
  iintro ⟨⟨Hf, Hs, Hx⟩, ⟨%g, Hg⟩⟩ HQ
  iapply (wp_load 𝒱₀ (c : Thread nD τ) none Set.univ (m := xF) (Finset.subset_univ _)) $$ Hf; iintro Hf
  iapply (wp_load 𝒱₀ (c : Thread nD τ) none Set.univ (m := xB) (Finset.subset_univ _)) $$ Hg; iintro Hg
  iapply (wp_store 𝒱₀ (c : Thread nD τ) none Set.univ (m := xB) (r := xR) (Mk := Finset.univ) (Finset.subset_univ _)) $$ Hg; iintro Hg
  rw [wp_ret]
  imodintro
  iapply HQ
  rw [write_xB, read_xF]
  isplitr [Hg]
  · isplitl [Hf]; · iexists _; iexact Hf
    isplitl [Hs] <;> iassumption
  iexact Hg

/-! ## A stream of chunks through two slots -/

section Stream
variable {I : Type} [Fintype I] [DecidableEq I]
variable (fly : ∀ (_ : Fin 16) (k : ℕ) (_ : k < 2), sProp (MT nD τ sig ℕ (Elt F) ℕ UU ℕ))
variable (free : ∀ (k : ℕ) (_ : k < 2), sProp (MT nD τ sig ℕ (Elt F) ℕ UU ℕ))
variable (src : Finset I → sProp (MT nD τ sig ℕ (Elt F) ℕ UU ℕ))
variable (cs : ℕ → Finset I)

/-- Before trip `t`: its chunk is under way, the other slot is free. -/
def Sat (t : ℕ) : sProp 𝕄 :=
  iprop(free (1 - t % 2) k2' ∗ if h : t < 16 then iprop(fly ⟨t, h⟩ (t % 2) k2 ∗ src (Finset.univ \ cs t)) else iprop(free (t % 2) k2 ∗ src Finset.univ))
/-- In trip `t`, with the next chunk under way, if there is one, and this one not waited for. -/
def Smid (t : Fin 16) : sProp 𝕄 :=
  iprop(fly t (t.val % 2) k2 ∗ if h : t.val + 1 < 16 then iprop(fly ⟨t.val + 1, h⟩ (1 - t.val % 2) k2' ∗ src ((Finset.univ \ cs t.val) \ cs (t.val + 1)))
    else iprop(free (1 - t.val % 2) k2' ∗ src (Finset.univ \ cs t.val)))
/-- This chunk has arrived: the state of the next trip, but for this trip's slot. -/
def Sgot (t : Fin 16) : sProp 𝕄 :=
  if h : t.val + 1 < 16 then iprop(fly ⟨t.val + 1, h⟩ (1 - t.val % 2) k2' ∗ src (Finset.univ \ cs (t.val + 1))) else iprop(free (1 - t.val % 2) k2' ∗ src Finset.univ)

variable (hsrc : ∀ S T, T ⊆ S → src S ⊣⊢ iprop(src T ∗ src (S \ T))) (hcs : ∀ t t', t ≠ t' → cs t' ⊆ Finset.univ \ cs t)
include hsrc hcs

/-- The next chunk, if there is one, is started. -/
theorem next_start (c : Dev nD) (t : Fin 16) {cnd : Prop} [Decidable cnd] (hc : cnd ↔ t.val + 1 < 16) {p : cnd → PG F PUnit}
    (hp : ∀ (h : cnd), Tri c iprop(free (1 - t.val % 2) k2' ∗ src (cs (t.val + 1))) (p h) (fly ⟨t.val + 1, hc.1 h⟩ (1 - t.val % 2) k2'))
    {α : Type} {k : PG F α} {Q : α → sProp 𝕄} : Sat fly free src cs t.val ⊢ iprop((Smid fly free src cs t -∗ WP c k Q) -∗ WP c (whenThen cnd p k) Q) := by
  refine Tri.when (fun h => ?_) (fun h => ?_)
  · intro Q
    unfold Sat Smid
    rw [dif_pos t.isLt, dif_pos (hc.1 h)]
    iintro ⟨Hf, HF, Hb⟩ HQ
    ihave Hb' := (hsrc _ _ (hcs _ _ (Nat.ne_of_lt (Nat.lt_succ_self t.val)))).1 $$ Hb
    icases Hb' with ⟨Hb, Hrest⟩
    iapply (hp h Q) $$ [Hf Hb]
    · isplitl [Hf] <;> iassumption
    iintro HF'
    iapply HQ
    isplitl [HF]; · iexact HF
    isplitl [HF'] <;> iassumption
  · unfold Sat Smid
    rw [dif_pos t.isLt, dif_neg (fun h' => h (hc.2 h'))]
    iintro ⟨Hf, HF, Hb⟩
    isplitl [HF]; · iexact HF
    isplitl [Hf] <;> iassumption

/-- The next chunk under way, if there is one, and the source without it make up the state after the wait. -/
theorem got_rest (t : Fin 16) : iprop(src (cs t.val) ∗
    if h : t.val + 1 < 16 then iprop(fly ⟨t.val + 1, h⟩ (1 - t.val % 2) k2' ∗ src ((Finset.univ \ cs t.val) \ cs (t.val + 1)))
    else iprop(free (1 - t.val % 2) k2' ∗ src (Finset.univ \ cs t.val)))
    ⊢ Sgot fly free src cs t := by
  unfold Sgot
  by_cases h : t.val + 1 < 16
  · rw [dif_pos h, dif_pos h, sdiff_right_comm]
    iintro ⟨Hb, HF, Hr⟩
    isplitl [HF]; · iexact HF
    iapply (hsrc _ _ (hcs _ _ (Nat.ne_of_gt (Nat.lt_succ_self t.val)))).2
    isplitl [Hb] <;> iassumption
  · rw [dif_neg h, dif_neg h]
    iintro ⟨Hb, HF, Hr⟩
    isplitl [HF]; · iexact HF
    iapply (hsrc _ _ (Finset.subset_univ (cs t.val))).2
    isplitl [Hb] <;> iassumption

/-- The chunk of the trip arrives. -/
theorem next_wait (c : Dev nD) (t : Fin 16) {i n : ℕ} {w : PG F PUnit} {G : sProp 𝕄}
    (hw : Tri c iprop(levAts L lv ∗ fly t (t.val % 2) k2 ∗ St c i n) w iprop((G ∗ src (cs t.val)) ∗ St c i n)) :
    Tri c iprop(levAts L lv ∗ Smid fly free src cs t ∗ St c i n) w iprop((G ∗ Sgot fly free src cs t) ∗ St c i n) := by
  intro Q
  unfold Smid
  iintro ⟨#Hl, ⟨HF, Hr⟩, HS⟩ HQ
  iapply (hw Q) $$ [HF HS]
  · isplitr; · iexact Hl
    isplitl [HF] <;> iassumption
  iintro ⟨⟨HG, Hb⟩, HS⟩
  iapply HQ
  isplitr [HS]
  · isplitl [HG]; · iexact HG
    iapply (got_rest fly free src cs hsrc hcs t)
    isplitl [Hb] <;> iassumption
  iexact HS

omit hsrc hcs in
/-- With the slot free again the next trip can begin. -/
theorem got_next (t : Fin 16) : iprop(free (t.val % 2) k2 ∗ Sgot fly free src cs t) ⊢ Sat fly free src cs (t.val + 1) := by
  unfold Sgot Sat
  have e : ∀ {a b : ℕ} (h : a = b) {ha hb}, free a ha = free b hb := fun h _ _ => by subst h; rfl
  have e' : ∀ (t : Fin 16) {a b : ℕ} (h : a = b) {ha hb}, fly t a ha = fly t b hb := fun t _ _ h _ _ => by subst h; rfl
  rw [e (show 1 - (t.val + 1) % 2 = t.val % 2 by omega) (hb := k2), e (show (t.val + 1) % 2 = 1 - t.val % 2 by omega) (hb := k2')]
  simp only [fun t' => e' t' (show (t.val + 1) % 2 = 1 - t.val % 2 by omega) (ha := k2) (hb := k2')]
  exact Entails.refl _

end Stream

/-! ## The bf16 weights -/

/-- The bf16 weights, nothing under way. -/
def Bst (c : Dev nD) : sProp 𝕄 :=
  iprop((ptE c cc0_scratch3 (slotSet 0) ∗ sv c (sem2 cc0_scratch9 ![0] (inb2 (by decide)))) ∗ (ptE c cc0_scratch3 (slotSet 1) ∗ sv c (sem2 cc0_scratch9 ![1] (inb2 (by decide))))
    ∗ pt c main_v1_1 Finset.univ (BH (wA m c)))
/-- Chunk `t` under way into slot `k`. -/
def Bfly (c : Dev nD) (t : Fin 16) (k : ℕ) (h : k < 2) : sProp 𝕄 :=
  Fl c (sem2 cc0_scratch9 ![k] (inb2 h)) (slotV wB ![k, 0, 0] (inbSlot h)) iprop(pt c cc0_scratch3 (slotSet k) (wbC (wA m c) t) ∗ pt c main_v1_1 (chunkSet t.val) (BH (wA m c)))
/-- A free slot. -/
def Bfree (c : Dev nD) (k : ℕ) (h : k < 2) : sProp 𝕄 := iprop(ptE c cc0_scratch3 (slotSet k) ∗ sv c (sem2 cc0_scratch9 ![k] (inb2 h)))

/-- Before trip `t` of a loop. -/
abbrev Bsrc (c : Dev nD) (S : Finset S16x4096x512.Idx) : sProp 𝕄 := pt c main_v1_1 S (BH (wA m c))
abbrev Bat (c : Dev nD) (t : ℕ) : sProp 𝕄 := Sat (Bfly m c) (Bfree c) (Bsrc m c) chunkSet t

/-- Chunks of the bf16 weight copy are some of them and the rest. -/
theorem Bsrc_split (c : Dev nD) (S T : Finset S16x4096x512.Idx) (h : T ⊆ S) : Bsrc m c S ⊣⊢ iprop(Bsrc m c T ∗ Bsrc m c (S \ T)) := pointsTo_split_subset h

/-- One chunk lies among the indices outside another. -/
theorem chunk_ne (t t' : ℕ) (h : t ≠ t') : chunkSet t' ⊆ Finset.univ \ chunkSet t := fun i hi => by
  rw [Finset.mem_sdiff]
  refine ⟨Finset.mem_univ _, fun hi' => h ?_⟩
  rw [chunkSet, Finset.mem_filter] at hi hi'
  exact hi'.2.symm.trans hi.2

/-- A copy of chunk `t` into a free slot is then under way. -/
theorem fly_copy (c : Dev nD) (t : Fin 16) (k : ℕ) (h : k < 2) {h₁ h₂ h₃} :
    Tri c iprop(Bfree c k h ∗ pt c main_v1_1 (chunkSet t.val) (BH (wA m c)))
      (copyTo (chunkV ![t.val, 0, 0] (inbChunk t.isLt)) (slotV wB ![k, 0, 0] (inbSlot h)) (sem2 cc0_scratch9 ![k] (inb2 h)) h₁ h₂ h₃) (Bfly m c t k h) := by
  intro Q
  unfold Bfree Bfly
  iintro ⟨⟨⟨%f, Hf⟩, Hs⟩, Hb⟩ HQ
  iapply (tri_copy c (src := chunkV ![t.val, 0, 0] (inbChunk t.isLt)) (dst := slotV wB ![k, 0, 0] (inbSlot h)) (BH (wA m c)) f (wbC (wA m c) t) chunk_set slotB_set (by decide) read_slotB Q) $$ [Hf Hs Hb]
  · isplitl [Hb]; · iexact Hb
    isplitl [Hf]; · iexact Hf
    iexact Hs
  iexact HQ

/-- The start of the first chunk. -/
theorem tri_startB (c : Dev nD) : Tri c (Bst m c) startB (Bat m c 0) := by
  intro Q
  unfold Bst startB Bat Sat
  rw [dif_pos (by decide)]
  iintro ⟨H0, H1, Hb⟩ HQ
  ihave Hb' := (pointsTo_split_subset (Finset.subset_univ (chunkSet 0))).1 $$ Hb
  icases Hb' with ⟨Hb, Hrest⟩
  iapply (fly_copy m c 0 0 (by decide) Q) $$ [H0 Hb]
  · unfold Bfree
    isplitl [H0]; · iexact H0
    iexact Hb
  iintro HF
  iapply HQ
  isplitl [H1]; · unfold Bfree; iexact H1
  isplitl [HF]; · iexact HF
  iexact Hrest

/-- The wait for chunk `t` gives the chunk in its slot. -/
theorem wait_fly (c : Dev nD) (t : Fin 16) {k : ℕ} (h : k < 2) {i n : ℕ} :
    Tri c iprop(levAts L lv ∗ Bfly m c t k h ∗ St c i n) (waitOn (sem2 cc0_scratch9 ![k] (inb2 h)) (slotV wB ![k, 0, 0] (inbSlot h)))
      iprop(((pt c cc0_scratch3 (slotSet k) (wbC (wA m c) t) ∗ sv c (sem2 cc0_scratch9 ![k] (inb2 h))) ∗ Bsrc m c (chunkSet t.val)) ∗ St c i n) := by
  refine (tri_waitLocal c (local9 h)).mono (Entails.refl _) ?_
  iintro ⟨⟨Hw, Hb⟩, Hs, HS⟩
  isplitr [HS]
  · isplitl [Hw Hs]
    · isplitl [Hw] <;> iassumption
    iexact Hb
  iexact HS

/-- At the end of a loop. -/
theorem at_end (c : Dev nD) : Bat m c 16 ⊢ Bst m c := by
  unfold Bat Bst Sat Bfree
  rw [dif_neg (by decide)]
  iintro ⟨H1, H0, Hb⟩
  isplitl [H0]; · iexact H0
  isplitl [H1] <;> iassumption

/-! ## The logits -/

/-- Slot `s` of the logits with the first `n` columns done. -/
def LGat (c : Dev nD) (s : ℕ) (b : Fin 8) (n : ℕ) : sProp 𝕄 :=
  iprop(lgPt c (lgCols s 0 n) fullShare (Lg m c b) ∗ ∃ f, lgPt c (lgCols s n 8192) fullShare f)

/-- A range of columns is its two parts. -/
theorem cols_split {s a b d : ℕ} (h : a ≤ b) (h' : b ≤ d) : lgCols s a d = lgCols s a b ∪ lgCols s b d := Finset.ext fun i => by
  rw [Finset.mem_union]
  simp only [lgCols, Finset.mem_filter, Finset.mem_univ, true_and]
  constructor
  · rintro ⟨h₁, h₂, h₃⟩
    by_cases hb : (i 2).val < b
    · exact .inl ⟨h₁, h₂, hb⟩
    · exact .inr ⟨h₁, by omega, h₃⟩
  · rintro (⟨h₁, h₂, h₃⟩ | ⟨h₁, h₂, h₃⟩)
    · exact ⟨h₁, h₂, by omega⟩
    · exact ⟨h₁, by omega, h₃⟩

/-- Two ranges of columns that meet at an end share no column. -/
theorem cols_disj {s a b d : ℕ} : Disjoint (lgCols s a b) (lgCols s b d) := Finset.disjoint_left.mpr fun i hi hi' => by
  simp only [lgCols, Finset.mem_filter, Finset.mem_univ, true_and] at hi hi'
  omega

/-- An empty range has no columns. -/
theorem cols_empty {s a : ℕ} : lgCols s a a = ∅ := Finset.eq_empty_of_forall_notMem fun i hi => by
  simp only [lgCols, Finset.mem_filter, Finset.mem_univ, true_and] at hi
  omega

/-- The range of all columns is the slot. -/
theorem cols_all {s : ℕ} : lgCols s 0 8192 = lgSlot s := Finset.ext fun i => by
  have h : (i 2).val < 8192 := (i 2).isLt
  simp only [lgCols, lgSlot, Finset.mem_filter, Finset.mem_univ, true_and]
  exact ⟨fun h => h.1, fun h' => ⟨h', Nat.zero_le _, h⟩⟩

/-- The store of a trip. -/
def lgStore (f : Tn F S2x256x8192 .bf16) (v : Tn F S1x256x512 .bf16) (o : Fin 3 → Nat)
    (h : ∀ a, o a + S1x256x512.size a ≤ S2x256x8192.size a) : Tn F S2x256x8192 .bf16 :=
  (lgM.access (Rect.unit (s := S2x256x8192) o S1x256x512.size h)).write (Elt F) f v Finset.univ

/-- After a trip's store its columns hold the trip's logits. -/
theorem lgStore_in {x : Tn F S2048x4096 .f32} {w : Tn F S4096x8192 .f32} {b : Fin 8} {t : Fin 16} {s : ℕ} {h} (f : Tn F S2x256x8192 .bf16) :
    ∀ i ∈ lgCols s (512 * t.val) (512 * t.val + 512), lgStore f (LGt x w b t) ![s, 0, 512 * t.val] h i = LG x w b i := by
  intro i hi
  unfold lgStore
  rw [← read_lgCol (s := s) (h := h), View.write_read_eq_piecewise, View.setOn_univ, lgCol_set]
  exact Finset.piecewise_eq_of_mem _ _ _ hi

/-- Elements of the logits depend on the contents only at those elements. -/
theorem lgPt_congr {c : Dev nD} {S : Finset S2x256x8192.Idx} {q : PosShare TreeShare} {f g : Tn F S2x256x8192 .bf16} (h : ∀ i ∈ S, f i = g i) :
    lgPt c S q f = lgPt c S q g := pointsTo_congr h

/-- Holding no element of the logits is holding nothing. -/
theorem lgPt_empty {c : Dev nD} {q : PosShare TreeShare} {f : Tn F S2x256x8192 .bf16} : lgPt c ∅ q f = iprop(emp) := pointsTo_empty

/-- Elements of the logits in two separate sets are held together or apart. -/
theorem lgPt_union {c : Dev nD} {S T : Finset S2x256x8192.Idx} {q : PosShare TreeShare} {f : Tn F S2x256x8192 .bf16} (h : Disjoint S T) :
    lgPt c (S ∪ T) q f ⊣⊢ iprop(lgPt c S q f ∗ lgPt c T q f) := pointsTo_union h

/-- The columns of trip `t` done: the first `512 (t + 1)` are. -/
theorem LGat_step (c : Dev nD) (s : ℕ) (b : Fin 8) (t : Fin 16) (h) (f : Tn F S2x256x8192 .bf16) :
    iprop(lgPt c (lgCols s 0 (512 * t.val)) fullShare (Lg m c b) ∗ lgPt c (lgCols s (512 * t.val) 8192) fullShare (lgStore f (LGt (xA m c) (wA m c) b t) ![s, 0, 512 * t.val] h))
      ⊢ LGat m c s b (512 * (t.val + 1)) := by
  have ht := t.isLt
  have hin : ∀ i ∈ lgCols s (512 * t.val) (512 * (t.val + 1)), lgStore f (LGt (xA m c) (wA m c) b t) ![s, 0, 512 * t.val] h i = Lg m c b i :=
    fun i hi => lgStore_in f i (by rwa [show 512 * t.val + 512 = 512 * (t.val + 1) by omega])
  unfold LGat
  rw [cols_split (s := s) (a := 512 * t.val) (b := 512 * (t.val + 1)) (d := 8192) (by omega) (by omega),
    cols_split (s := s) (a := 0) (b := 512 * t.val) (d := 512 * (t.val + 1)) (by omega) (by omega)]
  iintro ⟨Hd, Hr⟩
  ihave Hr' := (lgPt_union cols_disj).1 $$ Hr
  icases Hr' with ⟨Hn, Hr⟩
  isplitr [Hr]
  · iapply (lgPt_union cols_disj).2
    isplitl [Hd]; · iexact Hd
    iapply (Entails.of_eq (lgPt_congr (g := Lg m c b) hin)) $$ Hn
  · iexists _; iexact Hr

/-- When all columns are done the slot holds the row block's logits. -/
theorem LGat_end (c : Dev nD) (s : ℕ) (b : Fin 8) : LGat m c s b (512 * 16) ⊢ lgPt c (lgSlot s) fullShare (Lg m c b) := by
  unfold LGat
  rw [show 512 * 16 = 8192 from rfl, cols_all]
  iintro ⟨H, -⟩
  iexact H

/-- Before the first column is done the slot may hold anything. -/
theorem LGat_start (c : Dev nD) (s : ℕ) (b : Fin 8) (f : Tn F S2x256x8192 .bf16) : lgPt c (lgSlot s) fullShare f ⊢ LGat m c s b (512 * 0) := by
  unfold LGat
  rw [show 512 * 0 = 0 from rfl, cols_all, cols_empty, lgPt_empty]
  iintro H
  isplitr; · iempintro
  iexists f; iexact H

/-! ## The loops -/

/-- Before trip `t` of the loop of block `b` into slot `s`. -/
def LB (c : Dev nD) (b : Fin 8) (s : ℕ) (i n t : ℕ) : sProp 𝕄 :=
  iprop(levAts L lv ∗ Bat m c t ∗ pt c cc0_scratch1 Finset.univ (XB (xA m c) b) ∗ LGat m c s b (512 * t) ∗ St c i n)

/-- A trip of the loops of blocks 1 to 7 leads from the state before it to the next trip's. -/
theorem tripB_spec (c : Dev nD) (b : Fin 8) (s : ℕ) (i n : ℕ) (t : Fin 16) {cnd : Prop} [Decidable cnd] (hc : cnd ↔ t.val + 1 < 16)
    {o13 : Fin 1 → Nat} {o14 o15 : Fin 3 → Nat} {o16 : Fin 1 → Nat} {o17 o19 o20 : Fin 3 → Nat}
    (e13 : o13 = ![1 - t.val % 2]) (e14 : o14 = ![1 - t.val % 2, 0, 0]) (e15 : o15 = ![t.val + 1, 0, 0]) (e16 : o16 = ![t.val % 2])
    (e17 : o17 = ![t.val % 2, 0, 0]) (e19 : o19 = ![t.val % 2, 0, 0]) (e20 : o20 = ![s, 0, 512 * t.val]) {h13 h14 h15 h16 h17 h19 h20 w14 w15 p20} :
    LB m c b s i n t.val ⊢ WP c (tripB cnd o13 o14 o15 o16 o17 o19 o20 h13 h14 h15 h16 h17 h19 h20 w14 w15 p20) (fun _ => LB m c b s i n (t.val + 1)) := by
  subst e13 e14 e15 e16 e17 e19 e20
  unfold LB tripB
  iintro ⟨#Hl, HB, Hx, HL, HS⟩
  iapply (next_start _ _ _ _ (Bsrc_split m c) chunk_ne c t hc (fun h => fly_copy m c ⟨t.val + 1, hc.1 h⟩ (1 - t.val % 2) k2')) $$ HB
  iintro HB
  iapply (next_wait _ _ _ _ (Bsrc_split m c) chunk_ne c t (wait_fly m c t k2)).bind $$ [HB HS]
  · isplitr; · iexact Hl
    isplitl [HB] <;> iassumption
  iintro ⟨HB, HS⟩
  unfold WP LGat
  simp only [Prog.lift, Prog.bind_op, Prog.bind_ret, Prog.pure_eq_ret]
  icases HB with ⟨⟨Hw, Hs⟩, HB⟩
  icases HL with ⟨HL, ⟨%f, Hf⟩⟩
  iapply (wp_load 𝒱₀ (c : Thread nD τ) none Set.univ (m := xB) (Finset.subset_univ _)) $$ Hx; iintro Hx
  iapply (wp_load_rect 𝒱₀ (c : Thread nD τ) none Set.univ (m := wB) (r := Rect.unit (s := S2x4096x512) ![t.val % 2, 0, 0] S1x4096x512.size h19) (S := slotSet (t.val % 2)) slotBR_set.subset) $$ Hw; iintro Hw
  have hsub : lgCols s (512 * t.val) (512 * t.val + 512) ⊆ lgCols s (512 * t.val) 8192 := by
    have ht := t.isLt
    rw [cols_split (s := s) (a := 512 * t.val) (b := 512 * t.val + 512) (d := 8192) (by omega) (by omega)]
    exact Finset.subset_union_left
  iapply (wp_load_rect 𝒱₀ (c : Thread nD τ) none Set.univ (m := lgM) (r := Rect.unit (s := S2x256x8192) ![s, 0, 512 * t.val] S1x256x512.size h20) (S := lgCols s (512 * t.val) 8192) (lgCol_set.subset.trans hsub)) $$ Hf; iintro Hf
  iapply (wp_store 𝒱₀ (c : Thread nD τ) none Set.univ (m := lgM) (r := Rect.unit (s := S2x256x8192) ![s, 0, 512 * t.val] S1x256x512.size h20) (S := lgCols s (512 * t.val) 8192) (Mk := Finset.univ) (by rw [View.setOn_univ, lgCol_set]; exact hsub)) $$ Hf; iintro Hf
  rw [wp_ret]
  imodintro
  isplitr; · iexact Hl
  isplitl [Hw Hs HB]
  · iapply (got_next (Bfly m c) (Bfree c) (Bsrc m c) chunkSet t)
    unfold Bfree
    isplitl [Hw Hs]
    · isplitl [Hw]; · iexists _; iexact Hw
      iexact Hs
    iexact HB
  isplitl [Hx]; · iexact Hx
  isplitr [HS]
  · have hs := LGat_step m c s b t h20 f
    unfold LGat at hs
    iapply hs
    isplitl [HL]; · iexact HL
    unfold lgStore
    rw [read_xB, load_slotB]
    iexact Hf
  iexact HS

/-- The loop of the odd blocks makes sixteen trips. -/
theorem trips2 : k0_t2_loop.trips = 16 := by decide

/-- The loop of the even blocks makes sixteen trips. -/
theorem trips3 : k0_t3_loop.trips = 16 := by decide

/-- The condition of the odd blocks' loop holds in every trip but the last. -/
theorem cond6 : ∀ t, k0_cond6 t = 1#1 ↔ t.val + 1 < 16 := by decide +kernel

/-- The condition of the even blocks' loop holds in every trip but the last. -/
theorem cond7 : ∀ t, k0_cond7 t = 1#1 ↔ t.val + 1 < 16 := by decide +kernel

/-- A trip of the odd blocks' loop as printed leads from its state to the next. -/
theorem trip2_spec (c : Dev nD) (b : Fin 8) (i n : ℕ) (t : Fin k0_t2_loop.trips) :
    LB m c b 1 i n t.val ⊢ WP c (trip2 t) (fun _ => LB m c b 1 i n (t.val + 1)) :=
  tripB_spec m c b 1 i n ⟨t.val, trips2 ▸ t.isLt⟩ (cond6 t) (k0_off13_eq t) (k0_off14_eq t) (k0_off15_eq t) (k0_off16_eq t) (k0_off17_eq t) (k0_off19_eq t) (k0_off20_eq t)

/-- A trip of the even blocks' loop as printed leads from its state to the next. -/
theorem trip3_spec (c : Dev nD) (b : Fin 8) (i n : ℕ) (t : Fin k0_t3_loop.trips) :
    LB m c b 0 i n t.val ⊢ WP c (trip3 t) (fun _ => LB m c b 0 i n (t.val + 1)) :=
  tripB_spec m c b 0 i n ⟨t.val, trips3 ▸ t.isLt⟩ (cond7 t) (k0_off23_eq t) (k0_off24_eq t) (k0_off25_eq t) (k0_off26_eq t) (k0_off27_eq t) (k0_off29_eq t) (k0_off30_eq t)

/-- Before and after the loop of a block. -/
def Lpre (c : Dev nD) (b : Fin 8) (s : ℕ) (i n : ℕ) : sProp 𝕄 :=
  iprop(levAts L lv ∗ Bat m c 0 ∗ pt c cc0_scratch1 Finset.univ (XB (xA m c) b) ∗ (∃ f, lgPt c (lgSlot s) fullShare f) ∗ St c i n)
def Lpost (c : Dev nD) (b : Fin 8) (s : ℕ) (i n : ℕ) : sProp 𝕄 :=
  iprop(Bst m c ∗ pt c cc0_scratch1 Finset.univ (XB (xA m c) b) ∗ lgPt c (lgSlot s) fullShare (Lg m c b) ∗ St c i n)

/-- What precedes a block's loop gives the state before its first trip. -/
theorem LB_start (c : Dev nD) (b : Fin 8) (s i n : ℕ) : Lpre m c b s i n ⊢ LB m c b s i n 0 := by
  unfold Lpre LB
  iintro ⟨Hl, HB, Hx, ⟨%f, Hf⟩, HS⟩
  isplitl [Hl]; · iexact Hl
  isplitl [HB]; · iexact HB
  isplitl [Hx]; · iexact Hx
  isplitl [Hf]; · iapply (LGat_start m c s b f) $$ Hf
  iexact HS

/-- The state after the last trip gives what follows a block's loop. -/
theorem LB_end (c : Dev nD) (b : Fin 8) (s i n : ℕ) : LB m c b s i n 16 ⊢ Lpost m c b s i n := by
  unfold Lpost LB
  iintro ⟨-, HB, Hx, Hf, HS⟩
  isplitl [HB]; · iapply (at_end m c) $$ HB
  isplitl [Hx]; · iexact Hx
  isplitl [Hf]; · iapply (LGat_end m c s b) $$ Hf
  iexact HS

/-- The loop of an odd block. -/
theorem tri_loopOdd (c : Dev nD) (b : Fin 8) (i n : ℕ) : Tri c (Lpre m c b 1 i n) loopOdd (Lpost m c b 1 i n) := by
  intro Q
  unfold loopOdd Scf.Loop.for WP
  iintro H HQ
  iapply (Scf.wp_for frame (wpE (defs₀ (F := F)) 𝒱₀ (c : Thread nD τ) none) Set.univ _ _ _ _ _ _ (fun t _ => LB m c b 1 i n t) (fun t _ => trip2_spec m c b i n t))
  isplitl [H]; · iapply (LB_start m c b 1 i n) $$ H
  iintro %u H
  iapply HQ
  iapply (LB_end m c b 1 i n)
  iexact H
/-- The loop of an even block. -/
theorem tri_loopEven (c : Dev nD) (b : Fin 8) (i n : ℕ) : Tri c (Lpre m c b 0 i n) loopEven (Lpost m c b 0 i n) := by
  intro Q
  unfold loopEven Scf.Loop.for WP
  iintro H HQ
  iapply (Scf.wp_for frame (wpE (defs₀ (F := F)) 𝒱₀ (c : Thread nD τ) none) Set.univ _ _ _ _ _ _ (fun t _ => LB m c b 0 i n t) (fun t _ => trip3_spec m c b i n t))
  isplitl [H]; · iapply (LB_start m c b 0 i n) $$ H
  iintro %u H
  iapply HQ
  iapply (LB_end m c b 0 i n)
  iexact H

end Cert.KernelIdeal.Body

end
-- ==== Proof.KernelIdeal.LoopA.lean ====
/- The loop of block 0: the f32 weights arrive chunk by chunk, are cast to bf16 and written back for the blocks to
   come, and three quarters of the logits are sent as they are done. -/
module

public import proofs.«01_k».proof.Proof.KernelIdeal.LoopB

@[expose] public section

set_option maxRecDepth 65536

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

local notation "𝕄" => MT nD τ sig ℕ (Elt F) ℕ UU ℕ

variable (m : (ℓ : Loc nD τ sig) → Buf (Elt F) ℓ) (K : Dev nD × Ck → ℕ)

/-! ## The f32 weights -/

/-- The f32 weights, nothing under way. -/
def Wst (c : Dev nD) : sProp 𝕄 :=
  iprop((ptE c cc0_scratch2 (slotSet 0) ∗ sv c (sem2 cc0_scratch8 ![0] (inb2 (by decide)))) ∗ (ptE c cc0_scratch2 (slotSet 1) ∗ sv c (sem2 cc0_scratch8 ![1] (inb2 (by decide))))
    ∗ pt c main_arg1 Finset.univ (wA m c))
/-- Chunk `t` under way into slot `k`; a free slot; columns of the weights. -/
def Wfly (c : Dev nD) (t : Fin 16) (k : ℕ) (h : k < 2) : sProp 𝕄 :=
  Fl c (sem2 cc0_scratch8 ![k] (inb2 h)) (slotV wF ![k, 0, 0] (inbSlot h)) iprop(pt c cc0_scratch2 (slotSet k) (wfC (wA m c) t) ∗ pt c main_arg1 (colSet t.val) (wA m c))
def Wfree (c : Dev nD) (k : ℕ) (h : k < 2) : sProp 𝕄 := iprop(ptE c cc0_scratch2 (slotSet k) ∗ sv c (sem2 cc0_scratch8 ![k] (inb2 h)))
abbrev Wsrc (c : Dev nD) (S : Finset S4096x8192.Idx) : sProp 𝕄 := pt c main_arg1 S (wA m c)
abbrev Wat (c : Dev nD) (t : ℕ) : sProp 𝕄 := Sat (Wfly m c) (Wfree c) (Wsrc m c) colSet t

/-- Columns of the f32 weights are some of them and the rest. -/
theorem Wsrc_split (c : Dev nD) (S T : Finset S4096x8192.Idx) (h : T ⊆ S) : Wsrc m c S ⊣⊢ iprop(Wsrc m c T ∗ Wsrc m c (S \ T)) := pointsTo_split_subset h

/-- The columns of one chunk lie among those outside another. -/
theorem col_ne (t t' : ℕ) (h : t ≠ t') : colSet t' ⊆ Finset.univ \ colSet t := fun i hi => by
  rw [Finset.mem_sdiff]
  refine ⟨Finset.mem_univ _, fun hi' => h ?_⟩
  rw [colSet, Finset.mem_filter] at hi hi'
  omega

/-- A copy of chunk `t` into a free slot is then under way. -/
theorem wfly_copy (c : Dev nD) (t : Fin 16) (k : ℕ) (h : k < 2) {o : Fin 2 → Nat} (e : o = ![0, 512 * t.val]) {h₀ h₁ h₂ h₃} :
    Tri c iprop(Wfree c k h ∗ Wsrc m c (colSet t.val))
      (copyTo (colsV o h₀) (slotV wF ![k, 0, 0] (inbSlot h)) (sem2 cc0_scratch8 ![k] (inb2 h)) h₁ h₂ h₃) (Wfly m c t k h) := by
  subst e
  intro Q
  unfold Wfree Wfly
  iintro ⟨⟨⟨%f, Hf⟩, Hs⟩, Hb⟩ HQ
  iapply (tri_copy c (src := colsV ![0, 512 * t.val] h₀) (dst := slotV wF ![k, 0, 0] (inbSlot h)) (wA m c) f (wfC (wA m c) t) cols_set slotF_set (by decide) read_slotF Q) $$ [Hf Hs Hb]
  · isplitl [Hb]; · iexact Hb
    isplitl [Hf]; · iexact Hf
    iexact Hs
  iexact HQ

/-- The start of the first chunk. -/
theorem tri_startW (c : Dev nD) : Tri c (Wst m c) startW (Wat m c 0) := by
  intro Q
  unfold Wst startW Wat Sat
  rw [dif_pos (by decide)]
  iintro ⟨H0, H1, Hb⟩ HQ
  ihave Hb' := (Wsrc_split m c _ _ (Finset.subset_univ (colSet 0))).1 $$ Hb
  icases Hb' with ⟨Hb, Hrest⟩
  iapply (wfly_copy m c 0 0 (by decide) rfl Q) $$ [H0 Hb]
  · unfold Wfree
    isplitl [H0]; · iexact H0
    iexact Hb
  iintro HF
  iapply HQ
  isplitl [H1]; · unfold Wfree; iexact H1
  isplitl [HF]; · iexact HF
  iexact Hrest

/-- The wait for chunk `t` gives the chunk in its slot. -/
theorem wait_wfly (c : Dev nD) (t : Fin 16) {k : ℕ} (h : k < 2) {i n : ℕ} :
    Tri c iprop(levAts L lv ∗ Wfly m c t k h ∗ St c i n) (waitOn (sem2 cc0_scratch8 ![k] (inb2 h)) (slotV wF ![k, 0, 0] (inbSlot h)))
      iprop(((pt c cc0_scratch2 (slotSet k) (wfC (wA m c) t) ∗ sv c (sem2 cc0_scratch8 ![k] (inb2 h))) ∗ Wsrc m c (colSet t.val)) ∗ St c i n) := by
  refine (tri_waitLocal c (local8 h)).mono (Entails.refl _) ?_
  iintro ⟨⟨Hw, Hb⟩, Hs, HS⟩
  isplitr [HS]
  · isplitl [Hw Hs]
    · isplitl [Hw] <;> iassumption
    iexact Hb
  iexact HS

/-- After the last trip nothing of the f32 weights is under way. -/
theorem wat_end (c : Dev nD) : Wat m c 16 ⊢ Wst m c := by
  unfold Wat Wst Sat Wfree
  rw [dif_neg (by decide)]
  iintro ⟨H1, H0, Hb⟩
  isplitl [H0]; · iexact H0
  isplitl [H1] <;> iassumption

/-! ## The write-back of the bf16 weights -/

/-- The bf16 slot that trip `u` will use: its last write-back was of chunk `u - 2`. -/
def Bk (c : Dev nD) (u : ℕ) : sProp 𝕄 :=
  if h : 2 ≤ u ∧ u < 18 then
    Fl c (sem2 cc0_scratch10 ![u % 2] (inb2 k2)) (chunkV ![u - 2, 0, 0] (inbChunk (by omega)))
      iprop(pt c main_v1_1 (chunkSet (u - 2)) (BH (wA m c)) ∗ pt c cc0_scratch3 (slotSet (u % 2)) (wbC (wA m c) ⟨u - 2, by omega⟩))
  else iprop(ptE c cc0_scratch3 (slotSet (u % 2)) ∗ sv c (sem2 cc0_scratch10 ![u % 2] (inb2 k2)))
/-- The slot free. -/
def Bkfree (c : Dev nD) (u : ℕ) : sProp 𝕄 := iprop(ptE c cc0_scratch3 (slotSet (u % 2)) ∗ sv c (sem2 cc0_scratch10 ![u % 2] (inb2 k2)))

/-- Chunks before the `a`-th, and from it on. -/
def chLt (a : ℕ) : Finset S16x4096x512.Idx := Finset.univ.filter fun i => (i 0).val < a
def chGe (a : ℕ) : Finset S16x4096x512.Idx := Finset.univ.filter fun i => a ≤ (i 0).val

/-- The chunks before `a + 1` are those before `a` and the `a`-th. -/
theorem chLt_succ (a : ℕ) : chLt (a + 1) = chLt a ∪ chunkSet a := Finset.ext fun i => by
  simp only [chLt, chunkSet, Finset.mem_union, Finset.mem_filter, Finset.mem_univ, true_and]; omega

/-- The chunks from `a` on are the `a`-th and those after it. -/
theorem chGe_succ (a : ℕ) : chGe a = chunkSet a ∪ chGe (a + 1) := Finset.ext fun i => by
  simp only [chGe, chunkSet, Finset.mem_union, Finset.mem_filter, Finset.mem_univ, true_and]; omega

/-- The `a`-th chunk is not among those before it. -/
theorem chLt_disj (a : ℕ) : Disjoint (chLt a) (chunkSet a) := Finset.disjoint_left.mpr fun i hi hi' => by
  simp only [chLt, chunkSet, Finset.mem_filter, Finset.mem_univ, true_and] at hi hi'; omega

/-- The `a`-th chunk is not among those after it. -/
theorem chGe_disj (a : ℕ) : Disjoint (chunkSet a) (chGe (a + 1)) := Finset.disjoint_left.mpr fun i hi hi' => by
  simp only [chGe, chunkSet, Finset.mem_filter, Finset.mem_univ, true_and] at hi hi'; omega

/-- No chunk is before the first. -/
theorem chLt_zero : chLt 0 = ∅ := Finset.filter_eq_empty_iff.mpr fun i _ => by omega

/-- All chunks are before the end. -/
theorem chLt_all : chLt 16 = Finset.univ := Finset.filter_eq_self.mpr fun i _ => (i 0).isLt

/-- All chunks are from the first on. -/
theorem chGe_zero : chGe 0 = Finset.univ := Finset.filter_eq_self.mpr fun i _ => Nat.zero_le _

abbrev bhPt (c : Dev nD) (S : Finset S16x4096x512.Idx) (f : Tn F S16x4096x512 .bf16) : sProp 𝕄 := pt c main_v1_1 S f

/-- Elements of the bf16 weight copy in two separate sets are held together or apart. -/
theorem bhPt_union {c : Dev nD} {S T : Finset S16x4096x512.Idx} {f : Tn F S16x4096x512 .bf16} (h : Disjoint S T) :
    bhPt c (S ∪ T) f ⊣⊢ iprop(bhPt c S f ∗ bhPt c T f) := pointsTo_union h

/-- Holding no element of the bf16 weight copy is holding nothing. -/
theorem bhPt_empty {c : Dev nD} {f : Tn F S16x4096x512 .bf16} : bhPt c ∅ f = iprop(emp) := pointsTo_empty

/-- The write-back ends: the slot is free and one chunk more is done. -/
theorem tri_back (c : Dev nD) (u : ℕ) (h : 2 ≤ u ∧ u < 18) {i n : ℕ} {o : Fin 3 → Nat} {h₀} :
    Tri c iprop(levAts L lv ∗ (Bk m c u ∗ bhPt c (chLt (u - 2)) (BH (wA m c))) ∗ St c i n)
      (waitOn (sem2 cc0_scratch10 ![u % 2] (inb2 k2)) (chunkV o h₀)) iprop((Bkfree c u ∗ bhPt c (chLt (u - 1)) (BH (wA m c))) ∗ St c i n) := by
  intro Q
  unfold Bk Bkfree
  rw [dif_pos h, show u - 1 = u - 2 + 1 by omega, chLt_succ]
  iintro ⟨#Hl, ⟨HF, Hd⟩, HS⟩ HQ
  iapply (tri_waitLocal c (local10 k2) Q) $$ [HF HS]
  · isplitr; · iexact Hl
    isplitl [HF]
    · iapply (Entails.of_eq (Fl_dst c _ (dst := chunkV ![u - 2, 0, 0] (inbChunk (by omega))) (dst' := chunkV o h₀) rfl _)) $$ HF
    iexact HS
  iintro ⟨⟨Hb, Hw⟩, Hs, HS⟩
  iapply HQ
  isplitr [HS]
  · isplitl [Hw Hs]
    · isplitl [Hw]; · iexists _; iexact Hw
      iexact Hs
    iapply (bhPt_union (chLt_disj _)).2
    isplitl [Hd] <;> iassumption
  iexact HS

/-! ## The logits and the quarters -/

/-- Quarter `q` after `j` quarters are sent: the credit of its send, or the partner's quarter to send into. -/
def Qst (c : Dev nD) (j : ℕ) (q : Fin 4) : sProp 𝕄 :=
  if q.val < j then cred (tallyAt (kcell c (.hs q)) 0 (Ck.hs q).amt) else iprop(∃ f, cmPt (partner c) (setQ q) f)
def Qs (c : Dev nD) (j : ℕ) : sProp 𝕄 := bigSep Finset.univ (Qst c j)

/-- The state of the quarters is that of one and that of the others. -/
theorem Qs_split (c : Dev nD) (j : ℕ) (q : Fin 4) : Qs (F := F) c j = iprop(Qst c j q ∗ bigSep (Finset.univ.erase q) (Qst c j)) := bigSep_erase (Finset.mem_univ q)

/-- A copy of a quarter is worth a quarter's units. -/
theorem quarter_credit (q : Fin 4) : (quarter cmM q).view.dmaCredit = nQ := by unfold nQ; rfl

/-- A copy of a slot is worth a slot's units. -/
theorem full_credit (s : Fin 2) : (full cmM s).view.dmaCredit = nF := by unfold nF; rfl

/-- A copy of a half is worth a half's units. -/
theorem half_credit (s : Fin 2) : (half cmM s).view.dmaCredit = nH := by unfold nH; rfl

/-- Elements of the receive buffer depend on the contents only at those elements. -/
theorem lgPt_cm {c : Dev nD} {S : Finset S2x256x8192.Idx} {f g : Tn F S2x256x8192 .bf16} (h : ∀ i ∈ S, f i = g i) : cmPt c S f = cmPt c S g := pointsTo_congr h

/-- Writing through a view what it reads of another contents gives that contents on the view's elements. -/
theorem write_read_on {κ : Kind} {sp : Space} {sh : Shape} {e : EltTy} (v : View sig κ sp sh e) (f g : v.ref.ty.Contents (Elt F)) :
    ∀ i ∈ v.set, v.write (Elt F) f (v.read (Elt F) g) Finset.univ i = g i := fun i hi => by
  rw [View.write_read_eq_piecewise, View.setOn_univ]
  exact Finset.piecewise_eq_of_mem _ _ _ hi

/-- A send writes at the partner what it reads here: the two views are the same elements of like buffers. -/
theorem write_quarter (q : Fin 4) (f g : Tn F S2x256x8192 .bf16) :
    ∀ i ∈ setQ q, ((quarter cmM q).view.write (Elt F) f ((quarter lgM q).view.read (Elt F) g) Finset.univ : Tn F S2x256x8192 .bf16) i = g i :=
  fun i hi => write_read_on (quarter cmM q).view f g i (by rw [quarterC_set]; exact hi)

/-- Copying a slot gives the sender's contents on the slot. -/
theorem write_full (s : Fin 2) (f g : Tn F S2x256x8192 .bf16) :
    ∀ i ∈ lgSlot s.val, ((full cmM s).view.write (Elt F) f ((full lgM s).view.read (Elt F) g) Finset.univ : Tn F S2x256x8192 .bf16) i = g i :=
  fun i hi => write_read_on (full cmM s).view f g i (by rw [fullC_set]; exact hi)

/-- Copying a half gives the sender's contents on the half. -/
theorem write_half (s : Fin 2) (f g : Tn F S2x256x8192 .bf16) :
    ∀ i ∈ setH s, ((half cmM s).view.write (Elt F) f ((half lgM s).view.read (Elt F) g) Finset.univ : Tn F S2x256x8192 .bf16) i = g i :=
  fun i hi => write_read_on (half cmM s).view f g i (by rw [halfC_set]; exact hi)

/-- The quarters' arrivals are the payments after the barrier's. -/
theorem pays_hr : ∀ q : Fin 4, pays[1 + q.val]? = some (.hr q, 0) := by decide

/-- Quarter `q` is sent. -/
theorem tri_sendQ (c : Dev nD) (q : Fin 4) {n : ℕ} :
    Tri c iprop(Ctx m K ∗ lgPt c (setQ q) fullShare.right (Lg m c 0) ∗ Qs c q.val ∗ St c (1 + q.val) n) (sendQ c q) iprop(Qs c (q.val + 1) ∗ St c (1 + (q.val + 1)) n) := by
  intro Q
  have e : bigSep (Finset.univ.erase q) (Qst (F := F) c (q.val + 1)) = bigSep (Finset.univ.erase q) (Qst c q.val) :=
    bigSep_congr fun q' hq' => by
      have hne : q'.val ≠ q.val := fun h => Finset.ne_of_mem_erase hq' (Fin.ext h)
      unfold Qst
      by_cases h : q'.val < q.val
      · rw [if_pos h, if_pos (by omega)]
      · rw [if_neg h, if_neg (by omega)]
  rw [Qs_split c _ q, Qs_split c _ q, e]
  have h1 : Qst (F := F) c q.val q = iprop(∃ f, cmPt (partner c) (setQ q) f) := if_neg (Nat.lt_irrefl _)
  have h2 : Qst (F := F) c (q.val + 1) q = cred (tallyAt (kcell c (.hs q)) 0 (Ck.hs q).amt) := if_pos (Nat.lt_succ_self _)
  rw [h1, h2]
  unfold sendQ
  iintro ⟨#Hctx, Hlg, ⟨⟨%f, Hcm⟩, HQs⟩, HS⟩ HQ
  iapply (tri_send m K c (i := 1 + q.val) (n := n) (k := .hr q) (k' := .hs q) (r := 0) (pays_hr q) Nat.one_pos rfl Nat.one_pos
    (src := quarter lgM q) (dst := quarter cmM q) rfl rfl (quarter_credit q) rfl (I := setQ q) (J := setQ q) quarter_set quarterC_set (q := fullShare.right) (fs := Lg m c 0) (fd := f) (R := iprop(emp))
    (Entails.refl _) (by
      unfold pay
      rw [partner_partner]
      iintro ⟨H, -⟩
      iapply (Entails.of_eq (lgPt_cm (c := partner c) (write_quarter q f (Lg m c 0)))) $$ [H]
      iexact H) Q) $$ [Hlg Hcm HS]
  · isplitr; · iexact Hctx
    isplitl [Hlg]; · iexact Hlg
    isplitl [Hcm]; · iexact Hcm
    isplitr; · iempintro
    isplitr; · iapply (ctx_reached m K c (.hs q)) $$ Hctx
    isplitr; · iapply (ctx_reached m K (partner c) (.hr q)) $$ Hctx
    iexact HS
  iintro ⟨Hc, HS⟩
  iapply HQ
  isplitr [HS]
  · isplitl [Hc] <;> iassumption
  iexact HS

/-- The first `n` columns of block 0's logits done, `j` quarters of them sent. -/
def LA (c : Dev nD) (n j : ℕ) : sProp 𝕄 :=
  iprop(lgPt c (lgCols 0 0 n) fullShare.left (Lg m c 0) ∗ lgPt c (lgCols 0 (2048 * j) n) fullShare.right (Lg m c 0)
    ∗ (∃ f, lgPt c (lgCols 0 n 8192) fullShare f) ∗ Qs c j ∗ St c (1 + j) 1)

/-- The quarters sent when trip `t` has passed the first `q` of its three sends. -/
def Jq (t q : ℕ) : ℕ := min (t / 4) 3 + if t % 4 = 3 ∧ t / 4 < q then 1 else 0

/-- Before a trip's sends the quarters done in earlier trips are sent. -/
theorem Jq_zero (t : ℕ) : Jq t 0 = min (t / 4) 3 := by unfold Jq; rw [if_neg (by omega), Nat.add_zero]

/-- After a trip's sends the quarters done so far are sent, but for the last. -/
theorem Jq_three (t : ℕ) (ht : t < 16) : Jq t 3 = min ((t + 1) / 4) 3 := by unfold Jq; split_ifs <;> omega

/-- Quarter `q` is sent in the trip that completes it, and in no other. -/
theorem send_when (c : Dev nD) (t : Fin 16) (q : Fin 4) (hq : q.val < 3) {cnd : Prop} [Decidable cnd] (hc : cnd ↔ t.val = 4 * q.val + 3)
    {α : Type} {k : PG F α} {Q : α → sProp 𝕄} :
    iprop(Ctx m K ∗ LA m c (512 * (t.val + 1)) (Jq t.val q.val)) ⊢ iprop((LA m c (512 * (t.val + 1)) (Jq t.val (q.val + 1)) -∗ WP c k Q) -∗ WP c (whenThen cnd (fun _ => sendQ c q) k) Q) := by
  refine Tri.when (fun h => ?_) (fun h => ?_)
  · have ht := hc.1 h
    have e1 : Jq t.val q.val = q.val := by unfold Jq; split_ifs <;> omega
    have e2 : Jq t.val (q.val + 1) = q.val + 1 := by unfold Jq; split_ifs <;> omega
    have e3 : 512 * (t.val + 1) = 2048 * q.val + 2048 := by omega
    intro Q
    unfold LA
    rw [e1, e2, e3, show 2048 * (q.val + 1) = 2048 * q.val + 2048 by omega, cols_empty, lgPt_empty]
    iintro ⟨#Hctx, Hl, Hr, Hf, HQs, HS⟩ HQ
    iapply (tri_sendQ m K c q Q) $$ [Hr HQs HS]
    · isplitr; · iexact Hctx
      isplitl [Hr]; · iexact Hr
      isplitl [HQs] <;> iassumption
    iintro ⟨HQs, HS⟩
    iapply HQ
    isplitl [Hl]; · iexact Hl
    isplitr; · iempintro
    isplitl [Hf]; · iexact Hf
    isplitl [HQs] <;> iassumption
  · have ht : ¬ t.val = 4 * q.val + 3 := fun h' => h (hc.2 h')
    have e : Jq t.val (q.val + 1) = Jq t.val q.val := by unfold Jq; split_ifs <;> omega
    rw [e]
    iintro ⟨-, H⟩
    iexact H

/-! ## The trip -/

/-- Elements of the logits in full are the same elements in two shares. -/
theorem lgPt_share {c : Dev nD} {S : Finset S2x256x8192.Idx} {f : Tn F S2x256x8192 .bf16} :
    lgPt c S fullShare f ⊣⊢ iprop(lgPt c S fullShare.left f ∗ lgPt c S fullShare.right f) := pointsTo_share (PosShare.mem_left_op_right fullShare)

/-- The store of chunk `t`'s logits, the columns then held in two shares. -/
theorem LA_step (c : Dev nD) (t : Fin 16) (j : ℕ) (hj : 2048 * j ≤ 512 * t.val) (h) (f : Tn F S2x256x8192 .bf16) :
    iprop((lgPt c (lgCols 0 0 (512 * t.val)) fullShare.left (Lg m c 0) ∗ lgPt c (lgCols 0 (2048 * j) (512 * t.val)) fullShare.right (Lg m c 0) ∗ Qs c j ∗ St c (1 + j) 1)
        ∗ lgPt c (lgCols 0 (512 * t.val) 8192) fullShare (lgStore f (LGt (xA m c) (wA m c) 0 t) ![0, 0, 512 * t.val] h))
      ⊢ LA m c (512 * (t.val + 1)) j := by
  have ht := t.isLt
  have hin : ∀ i ∈ lgCols 0 (512 * t.val) (512 * (t.val + 1)), lgStore f (LGt (xA m c) (wA m c) 0 t) ![0, 0, 512 * t.val] h i = Lg m c 0 i :=
    fun i hi => lgStore_in f i (by rwa [show 512 * t.val + 512 = 512 * (t.val + 1) by omega])
  unfold LA
  rw [cols_split (s := 0) (a := 512 * t.val) (b := 512 * (t.val + 1)) (d := 8192) (by omega) (by omega),
    cols_split (s := 0) (a := 0) (b := 512 * t.val) (d := 512 * (t.val + 1)) (by omega) (by omega),
    cols_split (s := 0) (a := 2048 * j) (b := 512 * t.val) (d := 512 * (t.val + 1)) hj (by omega)]
  iintro ⟨⟨Hl, Hr, HQs, HS⟩, Hf⟩
  ihave Hf' := (lgPt_union cols_disj).1 $$ Hf
  icases Hf' with ⟨Hn, Hf⟩
  ihave Hn := (Entails.of_eq (lgPt_congr (c := c) (q := fullShare) (g := Lg m c 0) hin)) $$ Hn
  ihave Hn' := (lgPt_share).1 $$ Hn
  icases Hn' with ⟨Hnl, Hnr⟩
  isplitl [Hl Hnl]
  · iapply (lgPt_union cols_disj).2
    isplitl [Hl] <;> iassumption
  isplitl [Hr Hnr]
  · iapply (lgPt_union cols_disj).2
    isplitl [Hr] <;> iassumption
  isplitl [Hf]; · iexists _; iexact Hf
  isplitl [HQs] <;> iassumption

/-- What the bf16 slot holds after the store of the cast chunk. -/
theorem wbStore_in {w : Tn F S4096x8192 .f32} {t : Fin 16} {k : ℕ} {h} (f : Tn F S2x4096x512 .bf16) :
    ∀ i ∈ slotSet k, ((wB.access (Rect.unit (s := S2x4096x512) ![k, 0, 0] S1x4096x512.size h)).write (Elt F) f (WB w t) Finset.univ : Tn F S2x4096x512 .bf16) i = wbC w t i := by
  intro i hi
  have h' := write_read_on (F := F) (wB.access (Rect.unit (s := S2x4096x512) ![k, 0, 0] S1x4096x512.size h)) f (wbC w t) i (by rw [slotBR_set]; exact hi)
  rw [load_slotB] at h'
  exact h'

/-- In trip `t` the write-back of chunk `t` is under way. -/
theorem Bk_add (c : Dev nD) (t : Fin 16) : Bk m c (t.val + 2) =
    Fl c (sem2 cc0_scratch10 ![t.val % 2] (inb2 k2)) (chunkV ![t.val, 0, 0] (inbChunk t.isLt))
      iprop(pt c main_v1_1 (chunkSet t.val) (BH (wA m c)) ∗ pt c cc0_scratch3 (slotSet (t.val % 2)) (wbC (wA m c) t)) := by
  have e : ∀ (a : ℕ) (ha : a = t.val % 2) (h₁),
      Fl c (sem2 cc0_scratch10 ![a] (inb2 h₁)) (chunkV ![t.val, 0, 0] (inbChunk t.isLt))
        iprop(pt c main_v1_1 (chunkSet t.val) (BH (wA m c)) ∗ pt c cc0_scratch3 (slotSet a) (wbC (wA m c) t))
      = Fl c (sem2 cc0_scratch10 ![t.val % 2] (inb2 k2)) (chunkV ![t.val, 0, 0] (inbChunk t.isLt))
        iprop(pt c main_v1_1 (chunkSet t.val) (BH (wA m c)) ∗ pt c cc0_scratch3 (slotSet (t.val % 2)) (wbC (wA m c) t)) := by
    intro a ha h₁; subst ha; rfl
  unfold Bk
  rw [dif_pos (by have := t.isLt; omega)]
  exact e ((t.val + 2) % 2) (by omega) (by omega)

/-- The write-back before the last of the slot ends, if there is one. -/
theorem back_when (c : Dev nD) (t : Fin 16) {cnd : Prop} [Decidable cnd] (hc : cnd ↔ 2 ≤ t.val) {i n : ℕ}
    {o7 : Fin 1 → Nat} {o8 : Fin 3 → Nat} (e7 : cnd → o7 = ![t.val % 2]) (h7 : cnd → _) (h8 : cnd → _)
    {α : Type} {k : PG F α} {Q : α → sProp 𝕄} :
    iprop(levAts L lv ∗ (Bk m c t.val ∗ bhPt c (chLt (t.val - 2)) (BH (wA m c))) ∗ St c i n)
      ⊢ iprop((iprop((Bkfree c t.val ∗ bhPt c (chLt (t.val - 1)) (BH (wA m c))) ∗ St c i n) -∗ WP c k Q)
        -∗ WP c (whenThen cnd (fun hc => waitOn (sem2 cc0_scratch10 o7 (h7 hc)) (chunkV o8 (h8 hc))) k) Q) := by
  refine Tri.when (fun h => ?_) (fun h => ?_)
  · have ht := t.isLt
    have e := e7 h
    subst e
    exact tri_back m c t.val ⟨hc.1 h, by omega⟩
  · have ht : ¬ 2 ≤ t.val := fun h' => h (hc.2 h')
    unfold Bk Bkfree
    rw [dif_neg (fun h' => ht h'.1), show t.val - 1 = t.val - 2 by omega]
    iintro ⟨-, H, HS⟩
    isplitl [H] <;> iassumption

/-- The copy back of the cast chunk. -/
theorem tri_putBack (c : Dev nD) (t : Fin 16) {o5 o12 : Fin 3 → Nat} {o4 : Fin 1 → Nat} (e4 : o4 = ![t.val % 2]) (e5 : o5 = ![t.val % 2, 0, 0]) (e12 : o12 = ![t.val, 0, 0]) {h4 h5 h12 h₁ h₂ h₃} (f) :
    Tri c iprop(pt c cc0_scratch3 (slotSet (t.val % 2)) (wbC (wA m c) t) ∗ bhPt c (chunkSet t.val) f ∗ sv c (sem2 cc0_scratch10 ![t.val % 2] (inb2 k2)))
      (copyTo (slotV wB o5 h5) (chunkV o12 h12) (sem2 cc0_scratch10 o4 h4) h₁ h₂ h₃) (Bk m c (t.val + 2)) := by
  subst e4 e5 e12
  rw [Bk_add]
  exact tri_copy c (src := slotV wB ![t.val % 2, 0, 0] h5) (dst := chunkV ![t.val, 0, 0] h12) (wbC (wA m c) t) f (BH (wA m c)) slotB_set chunk_set (by decide) read_slotB.symm

/-- Before trip `t` of block 0's loop. -/
def LA0 (c : Dev nD) (t : ℕ) : sProp 𝕄 :=
  iprop(Ctx m K ∗ levAts L lv ∗ Wat m c t ∗ (Bk m c t ∗ Bk m c (t + 1) ∗ bhPt c (chLt (t - 2)) (BH (wA m c)) ∗ ∃ f, bhPt c (chGe t) f)
    ∗ pt c cc0_scratch1 Finset.univ (XB (xA m c) 0) ∗ LA m c (512 * t) (min (t / 4) 3))

/-- A trip of block 0's loop leads from the state before it to the next trip's. -/
theorem tripA_spec (c : Dev nD) (t : Fin 16) {iv : BitVec 32} {c1 c2 c3 c4 c5 : Prop} [Decidable c1] [Decidable c2] [Decidable c3] [Decidable c4] [Decidable c5]
    (hc1 : c1 ↔ t.val + 1 < 16) (hc2 : c2 ↔ 2 ≤ t.val) (hc3 : c3 ↔ t.val = 4 * 0 + 3) (hc4 : c4 ↔ t.val = 4 * 1 + 3) (hc5 : c5 ↔ t.val = 4 * 2 + 3)
    {o1 : Fin 1 → Nat} {o2 : Fin 3 → Nat} {o3 : Fin 2 → Nat} {o4 : Fin 1 → Nat} {o5 : Fin 3 → Nat} {o7 : Fin 1 → Nat} {o8 o10 o11 o12 : Fin 3 → Nat}
    (e1 : o1 = ![1 - t.val % 2]) (e2 : o2 = ![1 - t.val % 2, 0, 0]) (e3 : o3 = ![0, 512 * t.val + 512]) (e4 : o4 = ![t.val % 2])
    (e5 : o5 = ![t.val % 2, 0, 0]) (e7 : o7 = ![t.val % 2]) (e10 : o10 = ![t.val % 2, 0, 0]) (e11 : o11 = ![0, 0, 512 * t.val]) (e12 : o12 = ![t.val, 0, 0])
    {h1 h2 h3 h4 h5 h7 h8 h10 h11 h12 p10 p11 w5 w12} :
    LA0 m K c t.val ⊢ WP c (tripA c iv c1 c2 c3 c4 c5 o1 o2 o3 o4 o5 o7 o8 o10 o11 o12 h1 h2 h3 h4 h5 h7 h8 h10 h11 h12 p10 p11 w5 w12) (fun _ => LA0 m K c (t.val + 1)) := by
  subst e1 e2 e4 e5 e10 e11
  have ht := t.isLt
  have hsub : lgCols 0 (512 * t.val) (512 * t.val + 512) ⊆ lgCols 0 (512 * t.val) 8192 := by
    rw [cols_split (s := 0) (a := 512 * t.val) (b := 512 * t.val + 512) (d := 8192) (by omega) (by omega)]
    exact Finset.subset_union_left
  have ebh : ∀ f : Tn F S16x4096x512 .bf16, bhPt c (chGe t.val) f ⊣⊢ iprop(bhPt c (chunkSet t.val) f ∗ bhPt c (chGe (t.val + 1)) f) := fun f => by
    rw [chGe_succ]; exact bhPt_union (chGe_disj _)
  unfold LA0 tripA
  iintro ⟨#Hctx, #Hl, HW, ⟨HB0, HB1, Hd, ⟨%fb, Hbh⟩⟩, Hx, HA⟩
  unfold WP
  rw [wp_bind]
  iapply (next_start _ _ _ _ (Wsrc_split m c) col_ne c t hc1 (fun h => wfly_copy m c ⟨t.val + 1, hc1.1 h⟩ (1 - t.val % 2) k2' (e3.trans (by rw [Nat.mul_succ])))) $$ HW
  iintro HW
  unfold LA
  icases HA with ⟨HLl, HLr, ⟨%f, Hf⟩, HQs, HS⟩
  iapply (next_wait _ _ _ _ (Wsrc_split m c) col_ne c t (wait_wfly m c t k2)).bind $$ [HW HS]
  · isplitr; · iexact Hl
    isplitl [HW] <;> iassumption
  iintro ⟨HW, HS⟩
  iapply (back_when m c t hc2 (fun _ => e7) h7 h8) $$ [HB0 Hd HS]
  · isplitr; · iexact Hl
    isplitr [HS]
    · isplitl [HB0] <;> iassumption
    iexact HS
  unfold Bkfree
  iintro ⟨⟨⟨⟨%fw, Hwb⟩, Hs10⟩, Hd⟩, HS⟩
  unfold WP
  simp only [Prog.lift, Prog.bind_op, Prog.bind_ret, Prog.pure_eq_ret]
  icases HW with ⟨⟨Hw, Hs⟩, HW⟩
  iapply (wp_load_rect 𝒱₀ (c : Thread nD τ) none Set.univ (m := wF) (r := Rect.unit (s := S2x4096x512) ![t.val % 2, 0, 0] S1x4096x512.size h10) (S := slotSet (t.val % 2)) slotFR_set.subset) $$ Hw; iintro Hw
  iapply (wp_load_rect 𝒱₀ (c : Thread nD τ) none Set.univ (m := wB) (r := Rect.unit (s := S2x4096x512) ![t.val % 2, 0, 0] S1x4096x512.size h10) (S := slotSet (t.val % 2)) slotBR_set.subset) $$ Hwb; iintro Hwb
  iapply (wp_store 𝒱₀ (c : Thread nD τ) none Set.univ (m := wB) (r := Rect.unit (s := S2x4096x512) ![t.val % 2, 0, 0] S1x4096x512.size h10) (S := slotSet (t.val % 2)) (Mk := Finset.univ) (by rw [View.setOn_univ, slotBR_set])) $$ Hwb; iintro Hwb
  rw [load_slotF]
  ihave Hwb := (Entails.of_eq (pointsTo_congr (ℓ := (c, cc0_scratch3)) (q := fullShare) (wbStore_in (w := wA m c) (t := t) (h := h10) fw))) $$ [Hwb]
  · iexact Hwb
  iapply (wp_load 𝒱₀ (c : Thread nD τ) none Set.univ (m := xB) (Finset.subset_univ _)) $$ Hx; iintro Hx
  iapply (wp_load_rect 𝒱₀ (c : Thread nD τ) none Set.univ (m := wB) (r := Rect.unit (s := S2x4096x512) ![t.val % 2, 0, 0] S1x4096x512.size h10) (S := slotSet (t.val % 2)) slotBR_set.subset) $$ Hwb; iintro Hwb
  iapply (wp_load_rect 𝒱₀ (c : Thread nD τ) none Set.univ (m := lgM) (r := Rect.unit (s := S2x256x8192) ![0, 0, 512 * t.val] S1x256x512.size h11) (S := lgCols 0 (512 * t.val) 8192) (lgCol_set.subset.trans hsub)) $$ Hf; iintro Hf
  rw [wp_ret]
  imodintro
  dsimp only
  iapply (wp_store 𝒱₀ (c : Thread nD τ) none Set.univ (m := lgM) (r := Rect.unit (s := S2x256x8192) ![0, 0, 512 * t.val] S1x256x512.size h11) (S := lgCols 0 (512 * t.val) 8192) (Mk := Finset.univ) (by rw [View.setOn_univ, lgCol_set]; exact hsub)) $$ Hf; iintro Hf
  rw [read_xB, load_slotB]
  ihave HA := (LA_step m c t (min (t.val / 4) 3) (by omega) h11 f) $$ [HLl HLr HQs HS Hf]
  · isplitr [Hf]
    · isplitl [HLl]; · iexact HLl
      isplitl [HLr]; · iexact HLr
      isplitl [HQs] <;> iassumption
    unfold lgStore
    iexact Hf
  ihave Hbh' := (ebh fb).1 $$ Hbh
  icases Hbh' with ⟨Hch, Hbh⟩
  iapply (tri_putBack m c t rfl rfl e12 fb).bind $$ [Hwb Hch Hs10]
  · isplitl [Hwb]; · iexact Hwb
    isplitl [Hch] <;> iassumption
  iintro HB2
  rw [← Jq_zero]
  iapply (send_when m K c t 0 (by decide) hc3) $$ [HA]
  · isplitr; · iexact Hctx
    iexact HA
  iintro HA
  iapply (send_when m K c t 1 (by decide) hc4) $$ [HA]
  · isplitr; · iexact Hctx
    iexact HA
  iintro HA
  iapply (send_when m K c t 2 (by decide) hc5) $$ [HA]
  · isplitr; · iexact Hctx
    iexact HA
  iintro HA
  unfold WP
  rw [wp_ret]
  imodintro
  isplitr; · iexact Hctx
  isplitr; · iexact Hl
  isplitl [Hw Hs HW]
  · iapply (got_next (Wfly m c) (Wfree c) (Wsrc m c) colSet t)
    unfold Wfree
    isplitl [Hw Hs]
    · isplitl [Hw]; · iexists _; iexact Hw
      iexact Hs
    iexact HW
  isplitr [Hx HA]
  · isplitl [HB1]; · iexact HB1
    isplitl [HB2]; · iexact HB2
    isplitl [Hd]; · iexact Hd
    iexists _; iexact Hbh
  isplitl [Hx]; · iexact Hx
  have e := Jq_three t.val ht
  unfold LA
  rw [← e]
  iexact HA

/-- Block 0's loop makes sixteen trips. -/
theorem trips1 : k0_t1_loop.trips = 16 := by decide

/-- The first condition of block 0's loop holds in every trip but the last. -/
theorem cond1 : ∀ t, k0_cond1 t = 1#1 ↔ t.val + 1 < 16 := by decide +kernel

/-- The second condition holds from the third trip on. -/
theorem cond2 : ∀ t, k0_cond2 t = 1#1 ↔ 2 ≤ t.val := by decide +kernel

/-- The third condition holds in the trip that completes the first quarter. -/
theorem cond3 : ∀ t, k0_cond3 t = 1#1 ↔ t.val = 4 * 0 + 3 := by decide +kernel

/-- The fourth condition holds in the trip that completes the second quarter. -/
theorem cond4 : ∀ t, k0_cond4 t = 1#1 ↔ t.val = 4 * 1 + 3 := by decide +kernel

/-- The fifth condition holds in the trip that completes the third quarter. -/
theorem cond5 : ∀ t, k0_cond5 t = 1#1 ↔ t.val = 4 * 2 + 3 := by decide +kernel

/-- A trip of block 0's loop as printed leads from its state to the next. -/
theorem trip1_spec (c : Dev nD) (t : Fin k0_t1_loop.trips) : LA0 m K c t.val ⊢ WP c (trip1 c t) (fun _ => LA0 m K c (t.val + 1)) :=
  tripA_spec m K c ⟨t.val, trips1 ▸ t.isLt⟩ (cond1 t) (cond2 t) (cond3 t) (cond4 t) (cond5 t) (k0_off1_eq t) (k0_off2_eq t) (k0_off3_eq t) (k0_off4_eq t)
    (k0_off5_eq t) (k0_off7_eq t) (k0_off10_eq t) (k0_off11_eq t) (k0_off12_eq t)

/-- Before and after block 0's loop and the last two waits of the write-back. -/
def Apre (c : Dev nD) : sProp 𝕄 :=
  iprop(Wat m c 0 ∗ (Bkfree c 0 ∗ Bkfree c 1 ∗ ∃ f, pt c main_v1_1 Finset.univ f)
    ∗ pt c cc0_scratch1 Finset.univ (XB (xA m c) 0) ∗ (∃ f, lgPt c (lgSlot 0) fullShare f) ∗ Qs c 0 ∗ St c 1 1)
def Apost (c : Dev nD) : sProp 𝕄 :=
  iprop(Wst m c ∗ (Bkfree c 0 ∗ Bkfree c 1 ∗ pt c main_v1_1 Finset.univ (BH (wA m c)))
    ∗ pt c cc0_scratch1 Finset.univ (XB (xA m c) 0) ∗ lgPt c (lgSlot 0) fullShare.left (Lg m c 0) ∗ Qs c 4 ∗ St c 5 1)

/-- A first slot of logits and the quarters unsent give the state before the first trip. -/
theorem LA_start (c : Dev nD) (f : Tn F S2x256x8192 .bf16) : iprop(lgPt c (lgSlot 0) fullShare f ∗ Qs c 0 ∗ St c 1 1) ⊢ LA m c (512 * 0) (min (0 / 4) 3) := by
  unfold LA
  rw [show min (0 / 4) 3 = 0 from rfl, show 2048 * 0 = 0 from rfl, cols_empty, lgPt_empty, lgPt_empty, cols_all]
  iintro ⟨Hf, HQs, HS⟩
  isplitr; · iempintro
  isplitr; · iempintro
  isplitl [Hf]; · iexists f; iexact Hf
  isplitl [HQs] <;> iassumption

/-- Before the first two trips the write-back slots are free. -/
theorem Bk_free (c : Dev nD) (u : ℕ) (h : u < 2) : Bk m c u = Bkfree c u := by
  unfold Bk Bkfree; rw [dif_neg (by omega)]

/-- What precedes block 0's loop gives the state before its first trip. -/
theorem LA0_start (c : Dev nD) : iprop(Ctx m K ∗ levAts L lv ∗ Apre m c) ⊢ LA0 m K c 0 := by
  unfold Apre LA0
  rw [Bk_free m c 0 (by decide), Bk_free m c (0 + 1) (by decide), show 0 - 2 = 0 from rfl, chLt_zero, chGe_zero, bhPt_empty]
  iintro ⟨Hctx, Hl, HW, ⟨HB0, HB1, ⟨%fb, Hbh⟩⟩, Hx, ⟨%f, Hf⟩, HQs, HS⟩
  isplitl [Hctx]; · iexact Hctx
  isplitl [Hl]; · iexact Hl
  isplitl [HW]; · iexact HW
  isplitl [HB0 HB1 Hbh]
  · isplitl [HB0]; · iexact HB0
    isplitl [HB1]; · iexact HB1
    isplitr; · iempintro
    iexists fb; iexact Hbh
  isplitl [Hx]; · iexact Hx
  iapply (LA_start m c f)
  isplitl [Hf]; · iexact Hf
  isplitl [HQs] <;> iassumption

/-- The loop of block 0. -/
theorem tri_loop0 (c : Dev nD) : Tri c iprop(Ctx m K ∗ levAts L lv ∗ Apre m c) (loop0 c) (LA0 m K c 16) := by
  intro Q
  unfold loop0 Scf.Loop.for WP
  iintro H HQ
  iapply (Scf.wp_for frame (wpE (defs₀ (F := F)) 𝒱₀ (c : Thread nD τ) none) Set.univ _ _ _ _ _ _ (fun t _ => LA0 m K c t) (fun t _ => trip1_spec m K c t))
  isplitl [H]; · iapply (LA0_start m K c) $$ H
  iintro %u H
  iapply HQ
  iexact H

/-- The last two write-backs and the last quarter: all of block 0's work before its softmax. -/
theorem tri_tail0 (c : Dev nD) {α : Type} {k : PG F α} {Q : α → sProp 𝕄} :
    LA0 m K c 16 ⊢ iprop((Apost m c -∗ WP c k Q) -∗ WP c (do waitBack 0 14; waitBack 1 15; sendQ c 3; k) Q) := by
  unfold LA0 LA waitBack
  rw [show min (16 / 4) 3 = (3 : Fin 4).val from rfl, show 512 * 16 = 8192 from rfl, cols_all]
  iintro ⟨#Hctx, #Hl, HW, ⟨HB0, HB1, Hd, -⟩, Hx, ⟨Hl0, Hr, -, HQs, HS⟩⟩ HQ
  iapply (tri_back m c 16 (by decide)).bind $$ [HB0 Hd HS]
  · isplitr; · iexact Hl
    isplitr [HS]
    · isplitl [HB0] <;> iassumption
    iexact HS
  iintro ⟨⟨HB0, Hd⟩, HS⟩
  iapply (tri_back m c 17 (by decide)).bind $$ [HB1 Hd HS]
  · isplitr; · iexact Hl
    isplitr [HS]
    · isplitl [HB1] <;> iassumption
    iexact HS
  iintro ⟨⟨HB1, Hd⟩, HS⟩
  iapply (tri_sendQ m K c 3).bind (k := fun _ => k) $$ [Hr HQs HS]
  · isplitr; · iexact Hctx
    isplitl [Hr]; · iexact Hr
    isplitl [HQs] <;> iassumption
  iintro ⟨HQs, HS⟩
  iapply HQ
  unfold Apost
  isplitl [HW]; · iapply (wat_end m c) $$ HW
  isplitl [HB0 HB1 Hd]
  · isplitl [HB0]; · iexact HB0
    isplitl [HB1]; · iexact HB1
    rw [← chLt_all]
    iexact Hd
  isplitl [Hx]; · iexact Hx
  isplitl [Hl0]; · iexact Hl0
  isplitl [HQs]; · iexact HQs
  iexact HS

end Cert.KernelIdeal.Body

end
-- ==== Proof.KernelIdeal.Chunk.lean ====
/- The softmax of 64 rows at a time: the chunk is normalised into its buffer and copied to the result while the
   next one is computed. -/
module

public import proofs.«01_k».proof.Proof.KernelIdeal.LoopA

@[expose] public section

set_option maxRecDepth 65536

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

local notation "𝕄" => MT nD τ sig ℕ (Elt F) ℕ UU ℕ

variable (m : (ℓ : Loc nD τ sig) → Buf (Elt F) ℓ) (K : Dev nD × Ck → ℕ)

/-! ## The result buffer -/

/-- What device `c`'s result will hold. -/
def RES (c : Dev nD) : Tn F S2048x16384 .bf16 := OUTof c (Lg m c) (Lg m (partner c))
abbrev outPt (c : Dev nD) (S : Finset S2048x16384.Idx) (f : Tn F S2048x16384 .bf16) : sProp 𝕄 := pt c main_v1_0 S f
/-- Rows before chunk `n`, and from it on. -/
def roLt (n : ℕ) : Finset S2048x16384.Idx := Finset.univ.filter fun i => (i 0).val < 64 * n
def roGe (n : ℕ) : Finset S2048x16384.Idx := Finset.univ.filter fun i => 64 * n ≤ (i 0).val

/-- The rows before chunk `n + 1` are those before chunk `n` and those of chunk `n`. -/
theorem roLt_succ (n : ℕ) : roLt (n + 1) = roLt n ∪ rowSet n := Finset.ext fun i => by
  simp only [roLt, rowSet, Finset.mem_union, Finset.mem_filter, Finset.mem_univ, true_and]; omega

/-- The rows from chunk `n` on are those of chunk `n` and those after it. -/
theorem roGe_succ (n : ℕ) : roGe n = rowSet n ∪ roGe (n + 1) := Finset.ext fun i => by
  simp only [roGe, rowSet, Finset.mem_union, Finset.mem_filter, Finset.mem_univ, true_and]; omega

/-- The rows of chunk `n` are not among those before it. -/
theorem roLt_disj (n : ℕ) : Disjoint (roLt n) (rowSet n) := Finset.disjoint_left.mpr fun i hi hi' => by
  simp only [roLt, rowSet, Finset.mem_filter, Finset.mem_univ, true_and] at hi hi'; omega

/-- The rows of chunk `n` are not among those after it. -/
theorem roGe_disj (n : ℕ) : Disjoint (rowSet n) (roGe (n + 1)) := Finset.disjoint_left.mpr fun i hi hi' => by
  simp only [roGe, rowSet, Finset.mem_filter, Finset.mem_univ, true_and] at hi hi'; omega

/-- No row is before the first chunk. -/
theorem roLt_zero : roLt 0 = ∅ := Finset.filter_eq_empty_iff.mpr fun i _ => by omega

/-- All rows are before the end. -/
theorem roLt_all : roLt 32 = Finset.univ := Finset.filter_eq_self.mpr fun i _ => (i 0).isLt

/-- All rows are from the first chunk on. -/
theorem roGe_zero : roGe 0 = Finset.univ := Finset.filter_eq_self.mpr fun i _ => Nat.zero_le _

/-- Elements of the result in two separate sets are held together or apart. -/
theorem outPt_union {c : Dev nD} {S T : Finset S2048x16384.Idx} {f : Tn F S2048x16384 .bf16} (h : Disjoint S T) :
    outPt c (S ∪ T) f ⊣⊢ iprop(outPt c S f ∗ outPt c T f) := pointsTo_union h

/-- Holding no element of the result is holding nothing. -/
theorem outPt_empty {c : Dev nD} {f : Tn F S2048x16384 .bf16} : outPt c ∅ f = iprop(emp) := pointsTo_empty

/-- The semaphore of the result's copies is not of the exchange. -/
theorem local_out : kindOf (.dma cc0_scratch17.sem) = none := by decide

/-- The chunks before `n` are in the result and none is under way; chunk `n` is under way. -/
def outFree (c : Dev nD) (n : ℕ) : sProp 𝕄 :=
  iprop(ptE c cc0_scratch6 Finset.univ ∗ sv c cc0_scratch17.sem ∗ outPt c (roLt n) (RES m c) ∗ ∃ f, outPt c (roGe n) f)
def outFly (c : Dev nD) (n : Fin 32) : sProp 𝕄 :=
  iprop(Fl c cc0_scratch17.sem (outN n) iprop(outPt c (rowSet n.val) (RES m c) ∗ pt c cc0_scratch6 Finset.univ (OBn c (Lg m c) (Lg m (partner c)) n))
    ∗ outPt c (roLt n.val) (RES m c) ∗ ∃ f, outPt c (roGe (n.val + 1)) f)

/-- The wait for the chunk before. -/
theorem tri_waitOut (c : Dev nD) (n : Fin 32) {i k : ℕ} :
    Tri c iprop(levAts L lv ∗ outFly m c n ∗ St c i k) waitOut iprop(outFree m c (n.val + 1) ∗ St c i k) := by
  intro Q
  unfold outFly outFree waitOut
  rw [roLt_succ]
  iintro ⟨#Hl, ⟨HF, Hd, Hr⟩, HS⟩ HQ
  iapply (tri_waitLocal c local_out Q) $$ [HF HS]
  · isplitr; · iexact Hl
    isplitl [HF]
    · iapply (Entails.of_eq (Fl_dst c _ (dst := outN n) (dst' := outN 0) rfl _)) $$ HF
    iexact HS
  iintro ⟨⟨Hn, Ho⟩, Hs, HS⟩
  iapply HQ
  isplitr [HS]
  · isplitl [Ho]; · iexists _; iexact Ho
    isplitl [Hs]; · iexact Hs
    isplitl [Hd Hn]
    · iapply (outPt_union (roLt_disj _)).2
      isplitl [Hd] <;> iassumption
    iexact Hr
  iexact HS

/-- The chunk made from band `j` of block `b`'s logits is chunk `4 b + j` of the result. -/
theorem OBn_eq (c : Dev nD) (b : Fin 8) (s : Fin 2) (j : Fin 4) (n : Fin 32) (hn : n.val = 4 * b.val + j.val) (hs : s.val = b.val % 2) :
    OBof c (band (Lg m c b) s j) (band (Lg m (partner c) b) s j) = OBn c (Lg m c) (Lg m (partner c)) n := by
  have hj := j.isLt
  have e1 : (⟨n.val / 4, by omega⟩ : Fin 8) = b := Fin.ext (by show n.val / 4 = b.val; omega)
  have e2 : (⟨(n.val / 4) % 2, Nat.mod_lt _ (by decide)⟩ : Fin 2) = s := Fin.ext (by show n.val / 4 % 2 = s.val; omega)
  have e3 : (⟨n.val % 4, Nat.mod_lt _ (by decide)⟩ : Fin 4) = j := Fin.ext (by show n.val % 4 = j.val; omega)
  unfold OBn
  rw [e1, e2, e3]

/-- The copy of chunk `n` into the result. -/
theorem tri_putOut (c : Dev nD) (n : Fin 32) {h₁ h₂ h₃} (f) :
    Tri c iprop(pt c cc0_scratch6 Finset.univ (OBn c (Lg m c) (Lg m (partner c)) n) ∗ outPt c (rowSet n.val) f ∗ sv c cc0_scratch17.sem)
      (copyTo oB (outN n) cc0_scratch17.sem h₁ h₂ h₃)
      (Fl c cc0_scratch17.sem (outN n) iprop(outPt c (rowSet n.val) (RES m c) ∗ pt c cc0_scratch6 Finset.univ (OBn c (Lg m c) (Lg m (partner c)) n))) :=
  tri_copy c (src := oB) (dst := outN n) (OBn c (Lg m c) (Lg m (partner c)) n) f (RES m c) (View.set_whole _) outN_set (by decide) (by unfold RES; rw [read_out]; rfl)

/-! ## The chunk -/

/-- A chunk whose buffer `w` frees. -/
theorem tri_chunk (c : Dev nD) (b : Fin 8) (s : Fin 2) (j : Fin 4) (n : Fin 32) (hn : n.val = 4 * b.val + j.val) (hs : s.val = b.val % 2)
    {S S' : Finset S2x256x8192.Idx} (hS : lgRows s.val (64 * j.val) (64 * j.val + 64) ⊆ S) (hS' : lgRows s.val (64 * j.val) (64 * j.val + 64) ⊆ S')
    {q : PosShare TreeShare} {P R : sProp 𝕄} {w : PG F PUnit} (hw : Tri c P w iprop(outFree m c n.val ∗ R)) :
    Tri c iprop(lgPt c S q (Lg m c b) ∗ cmPt c S' (Lg m (partner c) b) ∗ P) (chunk c s j n w)
      iprop(lgPt c S q (Lg m c b) ∗ cmPt c S' (Lg m (partner c) b) ∗ outFly m c n ∗ R) := by
  intro Q
  have ero : ∀ f : Tn F S2048x16384 .bf16, outPt c (roGe n.val) f ⊣⊢ iprop(outPt c (rowSet n.val) f ∗ outPt c (roGe (n.val + 1)) f) := fun f => by
    rw [roGe_succ]; exact outPt_union (roGe_disj _)
  unfold chunk
  iintro ⟨Hl, Hc, HP⟩ HQ
  unfold WP
  simp only [Prog.lift, Prog.bind_op, Prog.bind_ret]
  iapply (wp_load_rect 𝒱₀ (c : Thread nD τ) none Set.univ (m := lgM) (r := bandR s j) (S := S) (band_set.subset.trans hS)) $$ Hl; iintro Hl
  iapply (wp_load_rect 𝒱₀ (c : Thread nD τ) none Set.univ (m := cmM) (r := bandR s j) (S := S') (bandC_set.subset.trans hS')) $$ Hc; iintro Hc
  iapply hw.bind $$ HP
  unfold outFree
  iintro ⟨⟨⟨%f, Ho⟩, Hs, Hd, ⟨%fr, Hr⟩⟩, HR⟩
  unfold WP
  simp only [Prog.lift, Prog.bind_op, Prog.bind_ret]
  iapply (wp_load_rect 𝒱₀ (c : Thread nD τ) none Set.univ (m := oB) (r := mineR c) (S := Finset.univ) (Finset.subset_univ _)) $$ Ho; iintro Ho
  iapply (wp_store 𝒱₀ (c : Thread nD τ) none Set.univ (m := oB) (r := mineR c) (S := Finset.univ) (Mk := Finset.univ) (Finset.subset_univ _)) $$ Ho; iintro Ho
  iapply (wp_load_rect 𝒱₀ (c : Thread nD τ) none Set.univ (m := oB) (r := theirsR c) (S := Finset.univ) (Finset.subset_univ _)) $$ Ho; iintro Ho
  iapply (wp_store 𝒱₀ (c : Thread nD τ) none Set.univ (m := oB) (r := theirsR c) (S := Finset.univ) (Mk := Finset.univ) (Finset.subset_univ _)) $$ Ho; iintro Ho
  have eo := (write_OB (d := c) (a := band (Lg m c b) s j) (b := band (Lg m (partner c) b) s j) f).trans (OBn_eq m c b s j n hn hs)
  ihave Ho := (Entails.of_eq (congrArg (fun g => pt c cc0_scratch6 Finset.univ g) eo)) $$ [Ho]
  · iexact Ho
  ihave Hr' := (ero fr).1 $$ Hr
  icases Hr' with ⟨Hn, Hr⟩
  iapply (tri_putOut m c n fr Q) $$ [Ho Hn Hs]
  · isplitl [Ho]; · iexact Ho
    isplitl [Hn] <;> iassumption
  iintro HF
  iapply HQ
  isplitl [Hl]; · iexact Hl
  isplitl [Hc]; · iexact Hc
  isplitr [HR]
  · unfold outFly
    isplitl [HF]; · iexact HF
    isplitl [Hd]; · iexact Hd
    iexists _; iexact Hr
  iexact HR

/-- Rows of a slot lie in the slot. -/
theorem rows_slot {s a b : ℕ} : lgRows s a b ⊆ lgSlot s := fun i hi => by
  simp only [lgRows, lgSlot, Finset.mem_filter, Finset.mem_univ, true_and] at hi ⊢; exact hi.1

/-- A chunk after another. -/
theorem tri_next (c : Dev nD) (b : Fin 8) (s : Fin 2) (j : Fin 4) (n p : Fin 32) (hn : n.val = 4 * b.val + j.val) (hp : n.val = p.val + 1) (hs : s.val = b.val % 2)
    {S S' : Finset S2x256x8192.Idx} (hS : lgRows s.val (64 * j.val) (64 * j.val + 64) ⊆ S) (hS' : lgRows s.val (64 * j.val) (64 * j.val + 64) ⊆ S')
    {q : PosShare TreeShare} {i k : ℕ} :
    Tri c iprop(lgPt c S q (Lg m c b) ∗ cmPt c S' (Lg m (partner c) b) ∗ levAts L lv ∗ outFly m c p ∗ St c i k) (chunk c s j n waitOut)
      iprop(lgPt c S q (Lg m c b) ∗ cmPt c S' (Lg m (partner c) b) ∗ levAts L lv ∗ outFly m c n ∗ St c i k) := by
  have h : Tri c iprop(levAts L lv ∗ outFly m c p ∗ St c i k) waitOut iprop(outFree m c n.val ∗ levAts L lv ∗ St c i k) := by
    rw [hp]
    intro Q
    iintro ⟨#Hl, HF, HS⟩ HQ
    iapply (tri_waitOut m c p Q) $$ [HF HS]
    · isplitr; · iexact Hl
      isplitl [HF] <;> iassumption
    iintro ⟨HF, HS⟩
    iapply HQ
    isplitl [HF]; · iexact HF
    isplitr; · iexact Hl
    iexact HS
  refine (tri_chunk m c b s j n hn hs hS hS' h).mono (Entails.refl _) ?_
  iintro ⟨Hl, Hc, HF, Hv, HS⟩
  isplitl [Hl]; · iexact Hl
  isplitl [Hc]; · iexact Hc
  isplitl [Hv]; · iexact Hv
  isplitl [HF] <;> iassumption

/-- The four chunks of a row block after the first. -/
theorem tri_soft (c : Dev nD) (b : Fin 8) (s : Fin 2) (p n₀ n₁ n₂ n₃ : Fin 32) (hs : s.val = b.val % 2)
    (h : n₀.val = 4 * b.val ∧ n₁.val = 4 * b.val + 1 ∧ n₂.val = 4 * b.val + 2 ∧ n₃.val = 4 * b.val + 3 ∧ n₀.val = p.val + 1) {q : PosShare TreeShare} {i k : ℕ} :
    Tri c iprop(lgPt c (lgSlot s.val) q (Lg m c b) ∗ cmPt c (lgSlot s.val) (Lg m (partner c) b) ∗ levAts L lv ∗ outFly m c p ∗ St c i k) (soft c s n₀ n₁ n₂ n₃)
      iprop(lgPt c (lgSlot s.val) q (Lg m c b) ∗ cmPt c (lgSlot s.val) (Lg m (partner c) b) ∗ levAts L lv ∗ outFly m c n₃ ∗ St c i k) := by
  obtain ⟨h0, h1, h2, h3, hp⟩ := h
  unfold soft
  exact (tri_next m c b s 0 n₀ p h0 hp hs rows_slot rows_slot).seq ((tri_next m c b s 1 n₁ n₀ h1 (by omega) hs rows_slot rows_slot).seq
    ((tri_next m c b s 2 n₂ n₁ h2 (by omega) hs rows_slot rows_slot).seq (tri_next m c b s 3 n₃ n₂ h3 (by omega) hs rows_slot rows_slot)))

/-- Those of the first row block. -/
theorem tri_soft0 (c : Dev nD) {q : PosShare TreeShare} {i k : ℕ} :
    Tri c iprop(lgPt c (lgSlot 0) q (Lg m c 0) ∗ cmPt c (lgSlot 0) (Lg m (partner c) 0) ∗ levAts L lv ∗ outFree m c 0 ∗ St c i k) (soft0 c)
      iprop(lgPt c (lgSlot 0) q (Lg m c 0) ∗ cmPt c (lgSlot 0) (Lg m (partner c) 0) ∗ levAts L lv ∗ outFly m c 3 ∗ St c i k) := by
  have h : Tri c iprop(levAts L lv ∗ outFree m c 0 ∗ St c i k) (pure ⟨⟩) iprop(outFree m c (0 : Fin 32).val ∗ levAts L lv ∗ St c i k) := by
    refine (Tri.skip c _).mono (Entails.refl _) ?_
    iintro ⟨Hl, HF, HS⟩
    isplitl [HF]; · iexact HF
    isplitl [Hl] <;> iassumption
  have h' := (tri_chunk m c 0 0 0 0 rfl rfl (q := q) (rows_slot (s := 0)) (rows_slot (s := 0)) h).mono (Entails.refl _)
    (R' := iprop(lgPt c (lgSlot 0) q (Lg m c 0) ∗ cmPt c (lgSlot 0) (Lg m (partner c) 0) ∗ levAts L lv ∗ outFly m c 0 ∗ St c i k)) (by
      iintro ⟨Hl, Hc, HF, Hv, HS⟩
      isplitl [Hl]; · iexact Hl
      isplitl [Hc]; · iexact Hc
      isplitl [Hv]; · iexact Hv
      isplitl [HF] <;> iassumption)
  unfold soft0
  exact h'.seq ((tri_next m c 0 0 1 1 0 rfl rfl rfl rows_slot rows_slot).seq
    ((tri_next m c 0 0 2 2 1 rfl rfl rfl rows_slot rows_slot).seq (tri_next m c 0 0 3 3 2 rfl rfl rfl rows_slot rows_slot)))

end Cert.KernelIdeal.Body

end
-- ==== Proof.KernelIdeal.Exchange.lean ====
/- The steps of the exchange: sends, arrivals and departures of quarters, whole slots and halves. -/
module

public import proofs.«01_k».proof.Proof.KernelIdeal.Chunk

@[expose] public section

set_option maxRecDepth 65536

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

local notation "𝕄" => MT nD τ sig ℕ (Elt F) ℕ UU ℕ

variable (m : (ℓ : Loc nD τ sig) → Buf (Elt F) ℓ) (K : Dev nD × Ck → ℕ)

/-- The `n`-th wait is for round `r` of `k` and may be made when `i` payments are made. -/
def WaitOk (i n : ℕ) (k : Ck) (r : ℕ) : Prop := waits[n]? = some (k, r) ∧ rnd n k = r ∧ r < k.rounds ∧ ∀ p ∈ pays.drop i, k.lev r < p.1.lev p.2
instance (i n : ℕ) (k : Ck) (r : ℕ) : Decidable (WaitOk i n k r) := by unfold WaitOk; infer_instance
/-- The `i`-th payment is round `r` of `k`. -/
def PayOk (i : ℕ) (k : Ck) (r : ℕ) : Prop := pays[i]? = some (k, r) ∧ r < k.rounds
instance (i : ℕ) (k : Ck) (r : ℕ) : Decidable (PayOk i k r) := by unfold PayOk; infer_instance

/-- The credit for a round. -/
abbrev crdOf (c : Dev nD) (k : Ck) (r : ℕ) : sProp 𝕄 := cred (tallyAt (kcell c k) r k.amt)

/-- A wait for what the partner sends. -/
theorem tri_got (c : Dev nD) {i n : ℕ} {k : Ck} {r : ℕ} (h : WaitOk i n k r) (ho : k.isOwn = false)
    {sp : Space} {s : Shape} {e : EltTy} {sm : DmaSem sig} {dst : Memref sig .tc sp s e} (hsm : k.sm = .dma sm) (hu : dst.view.ref.dmaCredit s e = k.amt) :
    Tri c iprop(Ctx m K ∗ St c i n) (waitOn sm dst) iprop(pay m c k r ∗ reached ER (kcell c k) (r + 1) ∗ St c i (n + 1)) := by
  refine (tri_wait m K c h.1 h.2.1 h.2.2.1 h.2.2.2 hsm hu).mono ?_ (Entails.refl _)
  rw [ho, if_neg (by decide)]
  iintro ⟨Hctx, HS⟩
  isplitl [Hctx]; · iexact Hctx
  isplitr; · iempintro
  iexact HS
/-- A wait for an own send. -/
theorem tri_sent (c : Dev nD) {i n : ℕ} {k : Ck} {r : ℕ} (h : WaitOk i n k r) (ho : k.isOwn = true)
    {sp : Space} {s : Shape} {e : EltTy} {sm : DmaSem sig} {dst : Memref sig .tc sp s e} (hsm : k.sm = .dma sm) (hu : dst.view.ref.dmaCredit s e = k.amt) :
    Tri c iprop(Ctx m K ∗ crdOf c k r ∗ St c i n) (waitOn sm dst) iprop(pay m c k r ∗ St c i (n + 1)) := by
  refine (tri_wait m K c h.1 h.2.1 h.2.2.1 h.2.2.2 hsm hu).mono ?_ ?_
  · rw [ho, if_pos rfl]
  · iintro ⟨Hp, -, HS⟩
    isplitl [Hp] <;> iassumption
/-- A wait for the partner's signal. -/
theorem tri_signal (c : Dev nD) {i n : ℕ} {k : Ck} {r : ℕ} (h : WaitOk i n k r) (ho : k.isOwn = false) {sm : Sem sig} (hsm : k.sm = .reg sm) (hu : 1 = k.amt) :
    Tri c iprop(Ctx m K ∗ St c i n) (semWaitWord sm 1#32) iprop(pay m c k r ∗ reached ER (kcell c k) (r + 1) ∗ St c i (n + 1)) := by
  refine (tri_take m K c h.1 h.2.1 h.2.2.1 h.2.2.2 hsm hu).mono ?_ (Entails.refl _)
  rw [ho, if_neg (by decide)]
  iintro ⟨Hctx, HS⟩
  isplitl [Hctx]; · iexact Hctx
  isplitr; · iempintro
  iexact HS

/-- The wait for quarter `q`'s arrival gives the partner's logits in that quarter. -/
theorem tri_recvQ (c : Dev nD) (q : Fin 4) {i n : ℕ} (h : WaitOk i n (.hr q) 0) :
    Tri c iprop(Ctx m K ∗ St c i n) (waitRecvQ q) iprop(cmPt c (setQ q) (Lg m (partner c) 0) ∗ St c i (n + 1)) := by
  refine (tri_got m K c h rfl (dst := quarter cmM q) rfl (quarter_credit q)).mono (Entails.refl _) ?_
  unfold pay
  iintro ⟨Hp, -, HS⟩
  isplitl [Hp] <;> iassumption

/-- The wait for quarter `q`'s departure gives back the share of the logits that was sent. -/
theorem tri_sentQ (c : Dev nD) (q : Fin 4) {i n : ℕ} (h : WaitOk i n (.hs q) 0) :
    Tri c iprop(Ctx m K ∗ crdOf c (.hs q) 0 ∗ St c i n) (waitSendQ q) iprop(lgPt c (setQ q) fullShare.right (Lg m c 0) ∗ St c i (n + 1)) :=
  tri_sent m K c h rfl (dst := quarter lgM q) rfl (quarter_credit q)

/-- The wait for a slot's arrival gives the partner's logits in the slot. -/
theorem tri_recvF (c : Dev nD) (s : Fin 2) {r : ℕ} {i n : ℕ} (h : WaitOk i n (.rv s) r) :
    Tri c iprop(Ctx m K ∗ St c i n) (waitRecvF s) iprop((cmPt c (lgSlot s.val) (Lg m (partner c) (blkF s r)) ∗ reached ER (kcell (partner c) (.cr s)) (r + 1 - s.val))
      ∗ reached ER (kcell c (.rv s)) (r + 1) ∗ St c i (n + 1)) :=
  tri_got m K c h rfl (dst := full cmM s) rfl (full_credit s)

/-- The wait for a slot's departure gives back the share of the logits that was sent. -/
theorem tri_sentF (c : Dev nD) (s : Fin 2) {r : ℕ} {i n : ℕ} (h : WaitOk i n (.sd s) r) :
    Tri c iprop(Ctx m K ∗ crdOf c (.sd s) r ∗ St c i n) (waitSendF s) iprop(lgPt c (lgSlot s.val) fullShare.right (Lg m c (blkF s r)) ∗ St c i (n + 1)) :=
  tri_sent m K c h rfl (dst := full lgM s) rfl (full_credit s)

/-- The wait for a half's arrival gives the partner's logits in that half. -/
theorem tri_recvH (c : Dev nD) (s : Fin 2) {i n : ℕ} (h : WaitOk i n (.rr s) 0) :
    Tri c iprop(Ctx m K ∗ St c i n) (waitRecvH s) iprop(cmPt c (setH s) (Lg m (partner c) 7) ∗ St c i (n + 1)) := by
  refine (tri_got m K c h rfl (dst := half cmM s) rfl (half_credit s)).mono (Entails.refl _) ?_
  unfold pay
  iintro ⟨Hp, -, HS⟩
  isplitl [Hp] <;> iassumption

/-- The wait for a half's departure gives back the share of the logits that was sent. -/
theorem tri_sentH (c : Dev nD) (s : Fin 2) {i n : ℕ} (h : WaitOk i n (.rs s) 0) :
    Tri c iprop(Ctx m K ∗ crdOf c (.rs s) 0 ∗ St c i n) (waitSendH s) iprop(lgPt c (setH s) fullShare.right (Lg m c 7) ∗ St c i (n + 1)) :=
  tri_sent m K c h rfl (dst := half lgM s) rfl (half_credit s)

/-- The round a cell is at is known to be reached. -/
theorem St_reached (c : Dev nD) {i n : ℕ} (k : Ck) {r : ℕ} (h : rnd n k = r) : St (F := F) c i n ⊢ iprop(reached ER (kcell c k) r ∗ St c i n) := by
  subst h
  unfold St
  rw [posn_split c n k]
  unfold posI
  iintro ⟨HO, Ht, Hc, ⟨⟨Ha, #Hr⟩, Hp⟩⟩
  isplitr; · iexact Hr
  isplitl [HO]; · iexact HO
  isplitl [Ht]; · iexact Ht
  isplitl [Hc]; · iexact Hc
  isplitl [Ha]
  · isplitl [Ha]; · iexact Ha
    iexact Hr
  iexact Hp

/-- A slot is sent: the partner's slot and the knowledge of the rounds come with the credit received before. -/
theorem tri_sendF (c : Dev nD) (s : Fin 2) {r : ℕ} {i n : ℕ} (h : PayOk i (.rv s) r) (hd : rnd n (.sd s) = r) :
    Tri c iprop(Ctx m K ∗ lgPt c (lgSlot s.val) fullShare.right (Lg m c (blkF s r)) ∗ (∃ f, cmPt (partner c) (lgSlot s.val) f)
        ∗ reached ER (kcell c (.cr s)) (r + 1 - s.val) ∗ reached ER (kcell (partner c) (.rv s)) r ∗ St c i n)
      (sendF c s) iprop(crdOf c (.sd s) r ∗ St c (i + 1) n) := by
  intro Q
  iintro ⟨#Hctx, Hlg, ⟨%f, Hcm⟩, #Hrc, #Hrv, HS⟩ HQ
  ihave HS' := (St_reached c (.sd s) hd) $$ HS
  icases HS' with ⟨#Hsd, HS⟩
  iapply (tri_send m K c (i := i) (n := n) (k := .rv s) (k' := .sd s) (r := r) h.1 h.2 rfl h.2
    (src := full lgM s) (dst := full cmM s) rfl rfl (full_credit s) rfl (I := lgSlot s.val) (J := lgSlot s.val) full_set fullC_set (q := fullShare.right) (fs := Lg m c (blkF s r)) (fd := f)
    (R := iprop(reached ER (kcell c (.cr s)) (r + 1 - s.val)))
    (Entails.refl _) (by
      unfold pay
      dsimp only
      rw [partner_partner]
      iintro ⟨H, Hr⟩
      isplitl [H]
      · iapply (Entails.of_eq (lgPt_cm (c := partner c) (write_full s f (Lg m c (blkF s r))))) $$ [H]
        iexact H
      iexact Hr) Q) $$ [Hlg Hcm HS]
  · isplitr; · iexact Hctx
    isplitl [Hlg]; · iexact Hlg
    isplitl [Hcm]; · iexact Hcm
    isplitr; · iexact Hrc
    isplitr; · iexact Hsd
    isplitr; · iexact Hrv
    iexact HS
  iexact HQ

/-- A half of the last row block is sent. -/
theorem tri_sendH (c : Dev nD) (s : Fin 2) {i n : ℕ} (h : PayOk i (.rr s) 0) :
    Tri c iprop(Ctx m K ∗ lgPt c (setH s) fullShare.right (Lg m c 7) ∗ (∃ f, cmPt (partner c) (setH s) f) ∗ St c i n)
      (sendH c s) iprop(crdOf c (.rs s) 0 ∗ St c (i + 1) n) := by
  intro Q
  iintro ⟨#Hctx, Hlg, ⟨%f, Hcm⟩, HS⟩ HQ
  iapply (tri_send m K c (i := i) (n := n) (k := .rr s) (k' := .rs s) (r := 0) h.1 h.2 rfl h.2
    (src := half lgM s) (dst := half cmM s) rfl rfl (half_credit s) rfl (I := setH s) (J := setH s) half_set halfC_set (q := fullShare.right) (fs := Lg m c 7) (fd := f) (R := iprop(emp))
    (Entails.refl _) (by
      unfold pay
      dsimp only
      rw [partner_partner]
      iintro ⟨H, -⟩
      iapply (Entails.of_eq (lgPt_cm (c := partner c) (write_half s f (Lg m c 7)))) $$ [H]
      iexact H) Q) $$ [Hlg Hcm HS]
  · isplitr; · iexact Hctx
    isplitl [Hlg]; · iexact Hlg
    isplitl [Hcm]; · iexact Hcm
    isplitr; · iempintro
    isplitr; · iapply (ctx_reached m K c (.rs s)) $$ Hctx
    isplitr; · iapply (ctx_reached m K (partner c) (.rr s)) $$ Hctx
    iexact HS
  iexact HQ

end Cert.KernelIdeal.Body

end
-- ==== Proof.KernelIdeal.Stage.lean ====
/- The body of the kernel: the stages put together. -/
module

public import proofs.«01_k».proof.Proof.KernelIdeal.Exchange

@[expose] public section

set_option maxRecDepth 65536

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

local notation "𝕄" => MT nD τ sig ℕ (Elt F) ℕ UU ℕ

variable (m : (ℓ : Loc nD τ sig) → Buf (Elt F) ℓ) (K : Dev nD × Ck → ℕ)

/-! ## A stage -/

/-- What lies idle after block 0: the f32 weights and the semaphores of the write-back. -/
def Idle (c : Dev nD) : sProp 𝕄 :=
  iprop(Wst m c ∗ sv c (sem2 cc0_scratch10 ![0] (inb2 (by decide))) ∗ sv c (sem2 cc0_scratch10 ![1] (inb2 (by decide))))
/-- The local buffers between two blocks. -/
def Com (c : Dev nD) : sProp 𝕄 := iprop(Xst m c ∗ Bst m c ∗ ptE c cc0_scratch1 Finset.univ ∗ Idle m c)
/-- The own receive slot, read, with what the credit for it needs. -/
def Own (c : Dev nD) (s : Fin 2) (g : ℕ) : sProp 𝕄 :=
  iprop((∃ f, cmPt c (lgSlot s.val) f) ∗ reached ER (kcell c (.rv s)) (g + s.val) ∗ reached ER (kcell (partner c) (.cr s)) g)
/-- The partner's receive slot, with what a send into it needs. -/
def Theirs (c : Dev nD) (s : Fin 2) (g : ℕ) : sProp 𝕄 :=
  iprop((∃ f, cmPt (partner c) (lgSlot s.val) f) ∗ reached ER (kcell c (.cr s)) (g + 1) ∗ reached ER (kcell (partner c) (.rv s)) (g + s.val))

/-- A credit hands over the device's receive slot and the round its arrivals have reached. -/
theorem pay_cr (c : Dev nD) (s : Fin 2) (g : ℕ) : pay (F := F) m (partner c) (.cr s) g = iprop((∃ f, cmPt c (lgSlot s.val) f) ∗ reached ER (kcell c (.rv s)) (g + s.val)) := by
  unfold pay
  dsimp only
  rw [partner_partner]

/-- The credit for the slot read, the row block's logits into the slot sent, the credit for the partner's slot. -/
theorem tri_stage (c : Dev nD) (b b' : Fin 8) (s : Fin 2) (g : ℕ) {i n n' : ℕ} {w : PG F PUnit} {l : PG F Unit} {W : sProp 𝕄}
    (hp : PayOk i (.cr s) g) (ht : WaitOk (i + 1) n' (.cr s) g)
    (hw : Tri c iprop(Ctx m K ∗ W ∗ St c (i + 1) n) w iprop(lgPt c (lgSlot s.val) fullShare.right (Lg m c b') ∗ St c (i + 1) n'))
    (hl : Tri c (Lpre m c b s.val (i + 1) n') l (Lpost m c b s.val (i + 1) n')) :
    Tri c iprop(Ctx m K ∗ Com m c ∗ Own c s g ∗ lgPt c (lgSlot s.val) fullShare.left (Lg m c b') ∗ W ∗ St c i n) (stage c b s w l)
      iprop(Com m c ∗ lgPt c (lgSlot s.val) fullShare (Lg m c b) ∗ Theirs c s g ∗ St c (i + 1) (n' + 1)) := by
  intro Q
  unfold stage giveCredit takeCredit Com Own Theirs
  iintro ⟨#Hctx, ⟨HX, HB, Hx, HI⟩, ⟨Hcm, #Hrv, #Hcr⟩, Hlg, HW, HS⟩ HQ
  iapply (tri_give m K c hp.1 hp.2 (k := .cr s) rfl rfl).bind $$ [Hcm HS]
  · rw [pay_cr]
    isplitr; · iexact Hctx
    isplitl [Hcm]
    · isplitl [Hcm]; · iexact Hcm
      iexact Hrv
    isplitr; · iexact Hcr
    iexact HS
  iintro HS
  iapply (tri_startX m c b).bind $$ HX
  iintro HX
  iapply hw.bind $$ [HW HS]
  · isplitr; · iexact Hctx
    isplitl [HW] <;> iassumption
  iintro ⟨Hr, HS⟩
  iapply (tri_waitX m c b).bind $$ [HX HS]
  · isplitr; · iapply (ctx_lev m K) $$ Hctx
    isplitl [HX] <;> iassumption
  iintro ⟨HX, HS⟩
  iapply (tri_castX m c b).bind $$ [HX Hx]
  · isplitl [HX] <;> iassumption
  iintro ⟨HX, Hx⟩
  iapply (tri_startB m c).bind $$ HB
  iintro HB
  iapply hl.bind $$ [HB Hx Hlg Hr HS]
  · unfold Lpre
    isplitr; · iapply (ctx_lev m K) $$ Hctx
    isplitl [HB]; · iexact HB
    isplitl [Hx]; · iexact Hx
    isplitl [Hlg Hr]
    · iexists (Lg m c b')
      iapply (lgPt_share).2
      isplitl [Hlg] <;> iassumption
    iexact HS
  unfold Lpost
  iintro ⟨HB, Hx, Hlg, HS⟩
  iapply (tri_signal m K c ht rfl (k := .cr s) rfl rfl Q) $$ [HS]
  · isplitr; · iexact Hctx
    iexact HS
  unfold pay
  dsimp only
  iintro ⟨⟨Hcm, #Hrv'⟩, #Hcr', HS⟩
  iapply HQ
  isplitl [HX HB Hx HI]
  · isplitl [HX]; · iexact HX
    isplitl [HB]; · iexact HB
    isplitl [Hx]; · iexists _; iexact Hx
    iexact HI
  isplitl [Hlg]; · iexact Hlg
  isplitl [Hcm]
  · isplitl [Hcm]; · iexact Hcm
    isplitr; · iexact Hcr'
    iexact Hrv'
  iexact HS

/-! ## A stage, its send and the softmax of the block before -/

/-- A slot sent in round `r`: the half kept and the credit. -/
def Sent (c : Dev nD) (s : Fin 2) (r : ℕ) : sProp 𝕄 := iprop(lgPt c (lgSlot s.val) fullShare.left (Lg m c (blkF s r)) ∗ crdOf c (.sd s) r)

/-- Between two stages: slot `s` is the next one, its last send's round `r`; slot `o`'s last send's round `r'`. -/
def Mid (c : Dev nD) (s o : Fin 2) (g r r' : ℕ) (p : Fin 32) (i n : ℕ) : sProp 𝕄 :=
  iprop(Com m c ∗ Sent m c s r ∗ Own c s g ∗ Sent m c o r' ∗ outFly m c p ∗ St c i n)

/-- The send of the slot computed. -/
theorem tri_sendS (c : Dev nD) (b : Fin 8) (s : Fin 2) (g : ℕ) {i n : ℕ} (h : PayOk i (.rv s) (g + s.val)) (hd : rnd n (.sd s) = g + s.val) (hb : blkF s (g + s.val) = b) :
    Tri c iprop(Ctx m K ∗ lgPt c (lgSlot s.val) fullShare (Lg m c b) ∗ Theirs c s g ∗ St c i n) (sendF c s) iprop(Sent m c s (g + s.val) ∗ St c (i + 1) n) := by
  subst hb
  intro Q
  unfold Theirs Sent
  iintro ⟨#Hctx, Hlg, ⟨Hcm, #Hcr, #Hrv⟩, HS⟩ HQ
  ihave Hlg' := (lgPt_share).1 $$ Hlg
  icases Hlg' with ⟨Hlg, Hr⟩
  iapply (tri_sendF m K c s h hd Q) $$ [Hr Hcm HS]
  · rw [show g + s.val + 1 - s.val = g + 1 by omega]
    isplitr; · iexact Hctx
    isplitl [Hr]; · iexact Hr
    isplitl [Hcm]; · iexact Hcm
    isplitr; · iexact Hcr
    isplitr; · iexact Hrv
    iexact HS
  iintro ⟨Hc, HS⟩
  iapply HQ
  isplitr [HS]
  · isplitl [Hlg] <;> iassumption
  iexact HS

/-- The arrival of the block before, and its softmax. -/
theorem tri_turn (c : Dev nD) (o : Fin 2) (r' : ℕ) (b : Fin 8) (p n₀ n₁ n₂ n₃ : Fin 32) {i n : ℕ} (hb : blkF o r' = b) (hs : o.val = b.val % 2)
    (hn : n₀.val = 4 * b.val ∧ n₁.val = 4 * b.val + 1 ∧ n₂.val = 4 * b.val + 2 ∧ n₃.val = 4 * b.val + 3 ∧ n₀.val = p.val + 1)
    (h : WaitOk i n (.rv o) r') {q : PosShare TreeShare} {α : Type} {k : PG F α} {Q : α → sProp 𝕄} :
    iprop(Ctx m K ∗ lgPt c (lgSlot o.val) q (Lg m c b) ∗ outFly m c p ∗ St c i n)
      ⊢ iprop((iprop(lgPt c (lgSlot o.val) q (Lg m c b) ∗ Own c o (r' + 1 - o.val) ∗ outFly m c n₃ ∗ St c i (n + 1)) -∗ WP c k Q)
        -∗ WP c (do waitRecvF o; soft c o n₀ n₁ n₂ n₃; k) Q) := by
  subst hb
  unfold Own
  iintro ⟨#Hctx, Hlg, Ho, HS⟩ HQ
  iapply (tri_recvF m K c o h).bind $$ [HS]
  · isplitr; · iexact Hctx
    iexact HS
  iintro ⟨⟨Hcm, #Hcr⟩, #Hrv, HS⟩
  iapply (tri_soft m c (blkF o r') o p n₀ n₁ n₂ n₃ hs hn).bind (k := fun _ => k) $$ [Hlg Hcm Ho HS]
  · isplitl [Hlg]; · iexact Hlg
    isplitl [Hcm]; · iexact Hcm
    isplitr; · iapply (ctx_lev m K) $$ Hctx
    isplitl [Ho] <;> iassumption
  iintro ⟨Hlg, Hcm, -, Ho, HS⟩
  iapply HQ
  isplitl [Hlg]; · iexact Hlg
  isplitl [Hcm]
  · isplitl [Hcm]; · iexists _; iexact Hcm
    rw [show r' + 1 - o.val + o.val = r' + 1 by have := o.isLt; omega]
    isplitr; · iexact Hrv
    iexact Hcr
  isplitl [Ho] <;> iassumption

/-- One turn of blocks 3 to 6. -/
theorem tri_step (c : Dev nD) (b bo : Fin 8) (s o : Fin 2) (g r r' : ℕ) (p n₀ n₁ n₂ n₃ : Fin 32) (i n : ℕ) {l : PG F Unit}
    (hb : blkF s (g + s.val) = b) (hbo : blkF o r' = bo) (hso : o.val = bo.val % 2)
    (hn : n₀.val = 4 * bo.val ∧ n₁.val = 4 * bo.val + 1 ∧ n₂.val = 4 * bo.val + 2 ∧ n₃.val = 4 * bo.val + 3 ∧ n₀.val = p.val + 1)
    (h1 : PayOk i (.cr s) g) (h2 : WaitOk (i + 1) n (.sd s) r) (h3 : WaitOk (i + 1) (n + 1) (.cr s) g) (h4 : PayOk (i + 1) (.rv s) (g + s.val))
    (h5 : rnd (n + 2) (.sd s) = g + s.val) (h6 : WaitOk (i + 2) (n + 2) (.rv o) r')
    (hl : Tri c (Lpre m c b s.val (i + 1) (n + 1)) l (Lpost m c b s.val (i + 1) (n + 1))) {α : Type} {k : PG F α} {Q : α → sProp 𝕄} :
    iprop(Ctx m K ∗ Mid m c s o g r r' p i n)
      ⊢ iprop((Mid m c o s (r' + 1 - o.val) r' (g + s.val) n₃ (i + 2) (n + 3) -∗ WP c k Q)
        -∗ WP c (do stage c b s (waitSendF s) l; sendF c s; waitRecvF o; soft c o n₀ n₁ n₂ n₃; k) Q) := by
  iintro ⟨#Hctx, HM⟩ HQ
  have hM : Mid m c s o g r r' p i n ⊢ iprop(Com m c ∗ (lgPt c (lgSlot s.val) fullShare.left (Lg m c (blkF s r)) ∗ crdOf c (.sd s) r) ∗ Own c s g
      ∗ (lgPt c (lgSlot o.val) fullShare.left (Lg m c (blkF o r')) ∗ crdOf c (.sd o) r') ∗ outFly m c p ∗ St c i n) := by
    unfold Mid Sent; exact Entails.refl _
  ihave HM := hM $$ HM
  icases HM with ⟨HC, ⟨Hlg, Hcd⟩, HOw, ⟨Hlo, Hco⟩, Ho, HS⟩
  iapply (tri_stage m K c b (blkF s r) s g h1 h3 (tri_sentF m K c s h2) hl).bind $$ [HC HOw Hlg Hcd HS]
  · isplitr; · iexact Hctx
    isplitl [HC]; · iexact HC
    isplitl [HOw]; · iexact HOw
    isplitl [Hlg]; · iexact Hlg
    isplitl [Hcd] <;> iassumption
  iintro ⟨HC, Hlg, HT, HS⟩
  iapply (tri_sendS m K c b s g h4 h5 hb).bind $$ [Hlg HT HS]
  · isplitr; · iexact Hctx
    isplitl [Hlg]; · iexact Hlg
    isplitl [HT] <;> iassumption
  iintro ⟨HSs, HS⟩
  iapply (tri_turn m K c o r' bo p n₀ n₁ n₂ n₃ hbo hso hn h6 (q := fullShare.left)) $$ [Hlo Ho HS]
  · rw [hbo]
    isplitr; · iexact Hctx
    isplitl [Hlo]; · iexact Hlo
    isplitl [Ho] <;> iassumption
  iintro ⟨Hlo, HOw, Ho, HS⟩
  iapply HQ
  unfold Mid
  isplitl [HC]; · iexact HC
  isplitl [Hlo Hco]
  · unfold Sent
    rw [hbo]
    isplitl [Hlo] <;> iassumption
  isplitl [HOw]; · iexact HOw
  isplitl [HSs]; · iexact HSs
  isplitl [Ho] <;> iassumption

end Cert.KernelIdeal.Body

end
-- ==== Proof.KernelIdeal.Start.lean ====
/- The body of the kernel from its start to its end. -/
module

public import proofs.«01_k».proof.Proof.KernelIdeal.Stage

@[expose] public section

set_option maxRecDepth 65536

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

local notation "𝕄" => MT nD τ sig ℕ (Elt F) ℕ UU ℕ

variable (m : (ℓ : Loc nD τ sig) → Buf (Elt F) ℓ) (K : Dev nD × Ck → ℕ)

/-! ## Slots in parts -/

/-- Elements of the receive buffer in two separate sets are held together or apart. -/
theorem cmPt_union {c : Dev nD} {S T : Finset S2x256x8192.Idx} {f : Tn F S2x256x8192 .bf16} (h : Disjoint S T) :
    cmPt c (S ∪ T) f ⊣⊢ iprop(cmPt c S f ∗ cmPt c T f) := pointsTo_union h

/-- The first slot is its four quarters. -/
theorem slot_quarters : lgSlot 0 = setQ 0 ∪ (setQ 1 ∪ (setQ 2 ∪ setQ 3)) := by
  have h3 : lgCols 0 4096 8192 = setQ 2 ∪ setQ 3 := cols_split (by decide) (by decide)
  have h2 : lgCols 0 2048 8192 = setQ 1 ∪ lgCols 0 4096 8192 := cols_split (by decide) (by decide)
  have h1 : lgCols 0 0 8192 = setQ 0 ∪ lgCols 0 2048 8192 := cols_split (by decide) (by decide)
  rw [← cols_all, h1, h2, h3]

/-- Different quarters share no element. -/
theorem quarters_disj (q q' : Fin 4) (h : q ≠ q') : Disjoint (setQ q) (setQ q') := Finset.disjoint_left.mpr fun i hi hi' => by
  have := Fin.val_ne_of_ne h
  simp only [setQ, lgCols, Finset.mem_filter, Finset.mem_univ, true_and] at hi hi'
  omega

/-- Each quarter shares no element with those after it. -/
theorem quarters_disj' : Disjoint (setQ 0) (setQ 1 ∪ (setQ 2 ∪ setQ 3)) ∧ Disjoint (setQ 1) (setQ 2 ∪ setQ 3) ∧ Disjoint (setQ 2) (setQ 3) := by
  refine ⟨?_, ?_, quarters_disj _ _ (by decide)⟩
  · rw [Finset.disjoint_union_right, Finset.disjoint_union_right]
    exact ⟨quarters_disj _ _ (by decide), quarters_disj _ _ (by decide), quarters_disj _ _ (by decide)⟩
  · rw [Finset.disjoint_union_right]
    exact ⟨quarters_disj _ _ (by decide), quarters_disj _ _ (by decide)⟩

/-- The four quarters of the logits make up the first slot. -/
theorem lgPt_quarters {c : Dev nD} {q : PosShare TreeShare} {f : Tn F S2x256x8192 .bf16} :
    iprop(lgPt c (setQ 0) q f ∗ lgPt c (setQ 1) q f ∗ lgPt c (setQ 2) q f ∗ lgPt c (setQ 3) q f) ⊢ lgPt c (lgSlot 0) q f := by
  rw [slot_quarters]
  iintro ⟨H0, H1, H2, H3⟩
  iapply (lgPt_union quarters_disj'.1).2
  isplitl [H0]; · iexact H0
  iapply (lgPt_union quarters_disj'.2.1).2
  isplitl [H1]; · iexact H1
  iapply (lgPt_union quarters_disj'.2.2).2
  isplitl [H2] <;> iassumption

/-- The first slot of the receive buffer is its four quarters. -/
theorem cmPt_quarters {c : Dev nD} {f : Tn F S2x256x8192 .bf16} :
    cmPt c (lgSlot 0) f ⊣⊢ iprop(cmPt c (setQ 0) f ∗ cmPt c (setQ 1) f ∗ cmPt c (setQ 2) f ∗ cmPt c (setQ 3) f) := by
  rw [slot_quarters]
  constructor
  · iintro H
    ihave H' := (cmPt_union quarters_disj'.1).1 $$ H
    icases H' with ⟨H0, H⟩
    ihave H' := (cmPt_union quarters_disj'.2.1).1 $$ H
    icases H' with ⟨H1, H⟩
    ihave H' := (cmPt_union quarters_disj'.2.2).1 $$ H
    icases H' with ⟨H2, H3⟩
    isplitl [H0]; · iexact H0
    isplitl [H1]; · iexact H1
    isplitl [H2] <;> iassumption
  · iintro ⟨H0, H1, H2, H3⟩
    iapply (cmPt_union quarters_disj'.1).2
    isplitl [H0]; · iexact H0
    iapply (cmPt_union quarters_disj'.2.1).2
    isplitl [H1]; · iexact H1
    iapply (cmPt_union quarters_disj'.2.2).2
    isplitl [H2] <;> iassumption

/-- The second slot is its two halves. -/
theorem slot_halves : lgSlot 1 = setH 0 ∪ setH 1 := Finset.ext fun i => by
  have h : (i 1).val < 256 := (i 1).isLt
  have e0 : ((0 : Fin 2)).val = 0 := rfl
  have e1 : ((1 : Fin 2)).val = 1 := rfl
  simp only [setH, lgRows, lgSlot, Finset.mem_union, Finset.mem_filter, Finset.mem_univ, true_and, e0, e1]
  omega

/-- The two halves share no element. -/
theorem halves_disj : Disjoint (setH 0) (setH 1) := Finset.disjoint_left.mpr fun i hi hi' => by
  have e0 : ((0 : Fin 2)).val = 0 := rfl
  have e1 : ((1 : Fin 2)).val = 1 := rfl
  simp only [setH, lgRows, Finset.mem_filter, Finset.mem_univ, true_and, e0, e1] at hi hi'
  omega

/-- A logits buffer is its two slots. -/
theorem slots_all : (Finset.univ : Finset S2x256x8192.Idx) = lgSlot 0 ∪ lgSlot 1 := Finset.ext fun i => by
  have h : (i 0).val < 2 := (i 0).isLt
  simp only [lgSlot, Finset.mem_union, Finset.mem_filter, Finset.mem_univ, true_and, true_iff]
  omega

/-- The two slots share no element. -/
theorem slots_disj : Disjoint (lgSlot 0) (lgSlot 1) := Finset.disjoint_left.mpr fun i hi hi' => by
  simp only [lgSlot, Finset.mem_filter, Finset.mem_univ, true_and] at hi hi'
  omega

/-- The two slots make up the logits buffer, at some contents. -/
theorem lgPt_join {c : Dev nD} {f g : Tn F S2x256x8192 .bf16} :
    iprop(lgPt c (lgSlot 0) fullShare f ∗ lgPt c (lgSlot 1) fullShare g) ⊢ iprop(∃ h, lgPt c Finset.univ fullShare h) := by
  rw [slots_all]
  iintro H
  iexists _
  iapply (pointsTo_join (ℓ := (c : Thread nD τ).loc cc0_scratch4) (f := f) (g := g) slots_disj) $$ H

/-- The two slots make up the receive buffer, at some contents. -/
theorem cmPt_join {c : Dev nD} {f g : Tn F S2x256x8192 .bf16} :
    iprop(cmPt c (lgSlot 0) f ∗ cmPt c (lgSlot 1) g) ⊢ iprop(∃ h, cmPt c Finset.univ h) := by
  rw [slots_all]
  iintro H
  iexists _
  iapply (pointsTo_join (ℓ := (c : Thread nD τ).loc cc0_scratch5) (f := f) (g := g) slots_disj) $$ H

/-- The quarters one by one. -/
theorem Qs_four (c : Dev nD) (j : ℕ) : Qs (F := F) c j = iprop(Qst c j 0 ∗ Qst c j 1 ∗ Qst c j 2 ∗ Qst c j 3) := by
  unfold Qs
  exact bigSep_univ_eq_bigSepL [(0 : Fin 4), 1, 2, 3] (by decide) (by decide) _

/-- The partner's receive quarter is the state of a quarter not yet sent. -/
theorem Qst_zero (c : Dev nD) (q : Fin 4) (f : Tn F S2x256x8192 .bf16) : cmPt (partner c) (setQ q) f ⊢ Qst c 0 q := by
  unfold Qst
  rw [if_neg (Nat.not_lt_zero _)]
  iintro H
  iexists f; iexact H

/-- The partner's first receive slot is the state of the quarters when none is sent. -/
theorem Qs_zero (c : Dev nD) (f : Tn F S2x256x8192 .bf16) : cmPt (partner c) (lgSlot 0) f ⊢ Qs c 0 := by
  rw [Qs_four]
  iintro H
  ihave H' := (cmPt_quarters).1 $$ H
  icases H' with ⟨H0, H1, H2, H3⟩
  isplitl [H0]; · iapply (Qst_zero c 0 f) $$ H0
  isplitl [H1]; · iapply (Qst_zero c 1 f) $$ H1
  isplitl [H2]; · iapply (Qst_zero c 2 f) $$ H2
  iapply (Qst_zero c 3 f) $$ H3

/-- When all quarters are sent what remains is the credits for their departures. -/
theorem Qs_end (c : Dev nD) : Qs (F := F) c 4 = iprop(crdOf c (.hs 0) 0 ∗ crdOf c (.hs 1) 0 ∗ crdOf c (.hs 2) 0 ∗ crdOf c (.hs 3) 0) := by
  rw [Qs_four]; rfl

/-- The quarters' departures. -/
theorem tri_sentQs (c : Dev nD) : Tri c iprop(Ctx m K ∗ Qs c 4 ∗ St c 7 5) (do waitSendQ 0; waitSendQ 1; waitSendQ 2; waitSendQ 3)
    iprop(lgPt c (lgSlot (0 : Fin 2).val) fullShare.right (Lg m c 0) ∗ St c 7 9) := by
  intro Q
  rw [Qs_end]
  iintro ⟨#Hctx, ⟨H0, H1, H2, H3⟩, HS⟩ HQ
  iapply (tri_sentQ m K c 0 (i := 7) (n := 5) (by decide)).bind $$ [H0 HS]
  · isplitr; · iexact Hctx
    isplitl [H0] <;> iassumption
  iintro ⟨H0, HS⟩
  iapply (tri_sentQ m K c 1 (i := 7) (n := 6) (by decide)).bind $$ [H1 HS]
  · isplitr; · iexact Hctx
    isplitl [H1] <;> iassumption
  iintro ⟨H1, HS⟩
  iapply (tri_sentQ m K c 2 (i := 7) (n := 7) (by decide)).bind $$ [H2 HS]
  · isplitr; · iexact Hctx
    isplitl [H2] <;> iassumption
  iintro ⟨H2, HS⟩
  iapply (tri_sentQ m K c 3 (i := 7) (n := 8) (by decide) Q) $$ [H3 HS]
  · isplitr; · iexact Hctx
    isplitl [H3] <;> iassumption
  iintro ⟨H3, HS⟩
  iapply HQ
  isplitr [HS]
  · iapply lgPt_quarters
    isplitl [H0]; · iexact H0
    isplitl [H1]; · iexact H1
    isplitl [H2] <;> iassumption
  iexact HS

/-! ## The first two blocks -/

/-- What a device begins with. -/
def First (c : Dev nD) : sProp 𝕄 :=
  iprop(Xst m c ∗ ptE c cc0_scratch1 Finset.univ ∗ Wst m c ∗ (Bkfree c 0 ∗ Bkfree c 1 ∗ ∃ f, pt c main_v1_1 Finset.univ f)
    ∗ (sv c (sem2 cc0_scratch9 ![0] (inb2 (by decide))) ∗ sv c (sem2 cc0_scratch9 ![1] (inb2 (by decide))))
    ∗ (∃ f, lgPt c Finset.univ fullShare f) ∗ (∃ f, cmPt c Finset.univ f) ∗ outFree m c 0 ∗ St c 0 0)

/-- At the barrier the device gives its receive buffer and gets its partner's. -/
theorem tri_barrier (c : Dev nD) : Tri c iprop(Ctx m K ∗ (∃ f, cmPt c Finset.univ f) ∗ St c 0 0) (barrierP c) iprop((∃ f, cmPt (partner c) Finset.univ f) ∗ St c 1 1) := by
  intro Q
  unfold barrierP
  iintro ⟨#Hctx, Hcm, HS⟩ HQ
  have h1 : PayOk 0 .bar 0 := by decide
  iapply (tri_give m K c h1.1 h1.2 (k := .bar) rfl rfl).bind $$ [Hcm HS]
  · isplitr; · iexact Hctx
    isplitl [Hcm]
    · unfold pay
      dsimp only
      rw [partner_partner]
      iexact Hcm
    isplitr; · iapply (ctx_reached m K (partner c) .bar) $$ Hctx
    iexact HS
  iintro HS
  iapply (tri_signal m K c (i := 1) (n := 0) (r := 0) (by decide) rfl (k := .bar) rfl rfl Q) $$ [HS]
  · isplitr; · iexact Hctx
    iexact HS
  unfold pay
  dsimp only
  iintro ⟨Hcm, -, HS⟩
  iapply HQ
  isplitl [Hcm] <;> iassumption

/-- Block 0's logits. -/
theorem tri_block0 (c : Dev nD) {α : Type} {k : PG F α} {Q : α → sProp 𝕄} :
    iprop(Ctx m K ∗ Xst m c ∗ ptE c cc0_scratch1 Finset.univ ∗ Wst m c ∗ (Bkfree c 0 ∗ Bkfree c 1 ∗ ∃ f, pt c main_v1_1 Finset.univ f)
      ∗ (∃ f, lgPt c (lgSlot 0) fullShare f) ∗ Qs c 0 ∗ St c 1 1)
    ⊢ iprop((iprop(Xst m c ∗ Apost m c) -∗ WP c k Q) -∗ WP c (do startX 0; waitX; castX; startW; loop0 c; waitBack 0 14; waitBack 1 15; sendQ c 3; k) Q) := by
  iintro ⟨#Hctx, HX, Hx, HW, HB, Hlg, HQs, HS⟩ HQ
  iapply (tri_startX m c 0).bind $$ HX
  iintro HX
  iapply (tri_waitX m c 0).bind $$ [HX HS]
  · isplitr; · iapply (ctx_lev m K) $$ Hctx
    isplitl [HX] <;> iassumption
  iintro ⟨HX, HS⟩
  iapply (tri_castX m c 0).bind $$ [HX Hx]
  · isplitl [HX] <;> iassumption
  iintro ⟨HX, Hx⟩
  iapply (tri_startW m c).bind $$ HW
  iintro HW
  iapply (tri_loop0 m K c).bind $$ [HW HB Hx Hlg HQs HS]
  · isplitr; · iexact Hctx
    isplitr; · iapply (ctx_lev m K) $$ Hctx
    unfold Apre
    isplitl [HW]; · iexact HW
    isplitl [HB]; · iexact HB
    isplitl [Hx]; · iexact Hx
    isplitl [Hlg]; · iexact Hlg
    isplitl [HQs] <;> iassumption
  iintro HA
  iapply (tri_tail0 m K c) $$ HA
  iintro HA
  iapply HQ
  isplitl [HX] <;> iassumption

/-- Block 1's logits and their send. -/
theorem tri_block1 (c : Dev nD) {α : Type} {k : PG F α} {Q : α → sProp 𝕄} :
    iprop(Ctx m K ∗ Com m c ∗ (∃ f, lgPt c (lgSlot 1) fullShare f) ∗ (∃ f, cmPt (partner c) (lgSlot 1) f) ∗ St c 5 1)
    ⊢ iprop((iprop(Com m c ∗ Sent m c 1 0 ∗ St c 6 1) -∗ WP c k Q) -∗ WP c (do startX 1; waitX; castX; startB; loopOdd; sendF c 1; k) Q) := by
  unfold Com
  iintro ⟨#Hctx, ⟨HX, HB, Hx, HI⟩, Hlg, Hcm, HS⟩ HQ
  iapply (tri_startX m c 1).bind $$ HX
  iintro HX
  iapply (tri_waitX m c 1).bind $$ [HX HS]
  · isplitr; · iapply (ctx_lev m K) $$ Hctx
    isplitl [HX] <;> iassumption
  iintro ⟨HX, HS⟩
  iapply (tri_castX m c 1).bind $$ [HX Hx]
  · isplitl [HX] <;> iassumption
  iintro ⟨HX, Hx⟩
  iapply (tri_startB m c).bind $$ HB
  iintro HB
  iapply (tri_loopOdd m c 1 5 1).bind $$ [HB Hx Hlg HS]
  · unfold Lpre
    isplitr; · iapply (ctx_lev m K) $$ Hctx
    isplitl [HB]; · iexact HB
    isplitl [Hx]; · iexact Hx
    isplitl [Hlg] <;> iassumption
  unfold Lpost
  iintro ⟨HB, Hx, Hlg, HS⟩
  ihave Hlg' := (lgPt_share).1 $$ Hlg
  icases Hlg' with ⟨Hlg, Hr⟩
  iapply (tri_sendF m K c 1 (r := 0) (i := 5) (n := 1) (by decide) (by decide)).bind (k := fun _ => k) $$ [Hr Hcm HS]
  · isplitr; · iexact Hctx
    isplitl [Hr]; · iexact Hr
    isplitl [Hcm]; · iexact Hcm
    isplitr; · iapply (ctx_reached m K c (.cr 1)) $$ Hctx
    isplitr; · iapply (ctx_reached m K (partner c) (.rv 1)) $$ Hctx
    iexact HS
  iintro ⟨Hc, HS⟩
  iapply HQ
  isplitl [HX HB Hx HI]
  · isplitl [HX]; · iexact HX
    isplitl [HB]; · iexact HB
    isplitl [Hx]; · iexists _; iexact Hx
    iexact HI
  isplitr [HS]
  · unfold Sent
    isplitl [Hlg]; · iexact Hlg
    iexact Hc
  iexact HS

/-- The arrival of block 0 and its softmax. -/
theorem tri_turn0 (c : Dev nD) {α : Type} {k : PG F α} {Q : α → sProp 𝕄} :
    iprop(Ctx m K ∗ lgPt c (lgSlot 0) fullShare.left (Lg m c 0) ∗ outFree m c 0 ∗ St c 6 1)
    ⊢ iprop((iprop(lgPt c (lgSlot 0) fullShare.left (Lg m c 0) ∗ Own c 0 0 ∗ outFly m c 3 ∗ St c 6 5) -∗ WP c k Q)
      -∗ WP c (do waitRecvQ 0; waitRecvQ 1; waitRecvQ 2; waitRecvQ 3; soft0 c; k) Q) := by
  iintro ⟨#Hctx, Hlg, Ho, HS⟩ HQ
  iapply (tri_recvQ m K c 0 (i := 6) (n := 1) (by decide)).bind $$ [HS]
  · isplitr; · iexact Hctx
    iexact HS
  iintro ⟨H0, HS⟩
  iapply (tri_recvQ m K c 1 (i := 6) (n := 2) (by decide)).bind $$ [HS]
  · isplitr; · iexact Hctx
    iexact HS
  iintro ⟨H1, HS⟩
  iapply (tri_recvQ m K c 2 (i := 6) (n := 3) (by decide)).bind $$ [HS]
  · isplitr; · iexact Hctx
    iexact HS
  iintro ⟨H2, HS⟩
  iapply (tri_recvQ m K c 3 (i := 6) (n := 4) (by decide)).bind $$ [HS]
  · isplitr; · iexact Hctx
    iexact HS
  iintro ⟨H3, HS⟩
  iapply (tri_soft0 m c).bind (k := fun _ => k) $$ [Hlg H0 H1 H2 H3 Ho HS]
  · isplitl [Hlg]; · iexact Hlg
    isplitl [H0 H1 H2 H3]
    · iapply (cmPt_quarters).2
      isplitl [H0]; · iexact H0
      isplitl [H1]; · iexact H1
      isplitl [H2] <;> iassumption
    isplitr; · iapply (ctx_lev m K) $$ Hctx
    isplitl [Ho] <;> iassumption
  iintro ⟨Hlg, Hcm, -, Ho, HS⟩
  iapply HQ
  isplitl [Hlg]; · iexact Hlg
  isplitl [Hcm]
  · unfold Own
    isplitl [Hcm]; · iexists _; iexact Hcm
    isplitr; · iapply (ctx_reached m K c (.rv 0)) $$ Hctx
    iapply (ctx_reached m K (partner c) (.cr 0)) $$ Hctx
  isplitl [Ho] <;> iassumption

/-- The turn of block 2. -/
theorem tri_step2 (c : Dev nD) {α : Type} {k : PG F α} {Q : α → sProp 𝕄} :
    iprop(Ctx m K ∗ Com m c ∗ Qs c 4 ∗ lgPt c (lgSlot 0) fullShare.left (Lg m c 0) ∗ Own c 0 0 ∗ Sent m c 1 0 ∗ outFly m c 3 ∗ St c 6 5)
    ⊢ iprop((Mid m c 1 0 0 0 0 7 8 11 -∗ WP c k Q)
      -∗ WP c (do stage c 2 0 (do waitSendQ 0; waitSendQ 1; waitSendQ 2; waitSendQ 3) loopEven; sendF c 0; waitRecvF 1; soft c 1 4 5 6 7; k) Q) := by
  unfold Sent
  iintro ⟨#Hctx, HC, HQs, Hlg, HOw, ⟨Hlo, Hco⟩, Ho, HS⟩ HQ
  iapply (tri_stage m K c 2 0 0 0 (by decide) (by decide) (tri_sentQs m K c) (tri_loopEven m c 2 7 9)).bind $$ [HC HOw Hlg HQs HS]
  · isplitr; · iexact Hctx
    isplitl [HC]; · iexact HC
    isplitl [HOw]; · iexact HOw
    isplitl [Hlg]; · iexact Hlg
    isplitl [HQs] <;> iassumption
  iintro ⟨HC, Hlg, HT, HS⟩
  iapply (tri_sendS m K c 2 0 0 (i := 7) (n := 10) (by decide) (by decide) (by decide)).bind $$ [Hlg HT HS]
  · isplitr; · iexact Hctx
    isplitl [Hlg]; · iexact Hlg
    isplitl [HT] <;> iassumption
  iintro ⟨HSs, HS⟩
  iapply (tri_turn m K c 1 0 1 3 4 5 6 7 (i := 8) (n := 10) (by decide) (by decide) (by decide) (by decide) (q := fullShare.left)) $$ [Hlo Ho HS]
  · isplitr; · iexact Hctx
    isplitl [Hlo]; · iexact Hlo
    isplitl [Ho] <;> iassumption
  iintro ⟨Hlo, HOw, Ho, HS⟩
  iapply HQ
  unfold Mid
  isplitl [HC]; · iexact HC
  isplitl [Hlo Hco]
  · unfold Sent
    isplitl [Hlo]; · iexact Hlo
    iexact Hco
  isplitl [HOw]; · iexact HOw
  isplitl [HSs]; · iexact HSs
  isplitl [Ho] <;> iassumption

end Cert.KernelIdeal.Body

end
-- ==== Proof.KernelIdeal.Whole.lean ====
/- The body of the kernel: from what a device begins with to what it ends with. -/
module

public import proofs.«01_k».proof.Proof.KernelIdeal.Start

@[expose] public section

set_option maxRecDepth 65536

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

local notation "𝕄" => MT nD τ sig ℕ (Elt F) ℕ UU ℕ

variable (m : (ℓ : Loc nD τ sig) → Buf (Elt F) ℓ) (K : Dev nD × Ck → ℕ)

/-- The first part of the body: to the state after the turn of block 2. -/
theorem tri_begin (c : Dev nD) {α : Type} {k : PG F α} {Q : α → sProp 𝕄} :
    iprop(Ctx m K ∗ First m c) ⊢ iprop((Mid m c 1 0 0 0 0 7 8 11 -∗ WP c k Q)
      -∗ WP c (do
        barrierP c
        startX 0; waitX; castX; startW; loop0 c; waitBack 0 14; waitBack 1 15; sendQ c 3
        startX 1; waitX; castX; startB; loopOdd; sendF c 1
        waitRecvQ 0; waitRecvQ 1; waitRecvQ 2; waitRecvQ 3; soft0 c
        stage c 2 0 (do waitSendQ 0; waitSendQ 1; waitSendQ 2; waitSendQ 3) loopEven; sendF c 0; waitRecvF 1; soft c 1 4 5 6 7
        k) Q) := by
  unfold First
  iintro ⟨#Hctx, HX, Hx, HW, HB, ⟨Hs0, Hs1⟩, ⟨%f, Hlg⟩, Hcm, Ho, HS⟩ HQ
  iapply (tri_barrier m K c).bind $$ [Hcm HS]
  · isplitr; · iexact Hctx
    isplitl [Hcm] <;> iassumption
  iintro ⟨⟨%fc, Hcm⟩, HS⟩
  ihave Hlg := (Entails.of_eq (congrArg (fun S => lgPt c S fullShare f) slots_all)) $$ Hlg
  ihave Hlg := (lgPt_union slots_disj).1 $$ Hlg
  icases Hlg with ⟨Hl0, Hl1⟩
  ihave Hcm := (Entails.of_eq (congrArg (fun S => cmPt (partner c) S fc) slots_all)) $$ Hcm
  ihave Hcm := (cmPt_union slots_disj).1 $$ Hcm
  icases Hcm with ⟨Hc0, Hc1⟩
  iapply (tri_block0 m K c) $$ [HX Hx HW HB Hl0 Hc0 HS]
  · isplitr; · iexact Hctx
    isplitl [HX]; · iexact HX
    isplitl [Hx]; · iexact Hx
    isplitl [HW]; · iexact HW
    isplitl [HB]; · iexact HB
    isplitl [Hl0]; · iexists f; iexact Hl0
    isplitl [Hc0]; · iapply (Qs_zero c fc) $$ Hc0
    iexact HS
  unfold Apost Bkfree
  iintro ⟨HX, HW, ⟨⟨Hb0, Ht0⟩, ⟨Hb1, Ht1⟩, Hbh⟩, Hx, Hl0, HQs, HS⟩
  iapply (tri_block1 m K c) $$ [HX HW Hb0 Hb1 Ht0 Ht1 Hs0 Hs1 Hbh Hx Hl1 Hc1 HS]
  · isplitr; · iexact Hctx
    isplitr [Hl1 Hc1 HS]
    · unfold Com Bst Idle
      isplitl [HX]; · iexact HX
      isplitl [Hb0 Hb1 Hs0 Hs1 Hbh]
      · isplitl [Hb0 Hs0]
        · isplitl [Hb0]; · iexact Hb0
          iexact Hs0
        isplitl [Hb1 Hs1]
        · isplitl [Hb1]; · iexact Hb1
          iexact Hs1
        iexact Hbh
      isplitl [Hx]; · iexists _; iexact Hx
      isplitl [HW]; · iexact HW
      isplitl [Ht0]; · iexact Ht0
      iexact Ht1
    isplitl [Hl1]; · iexists f; iexact Hl1
    isplitl [Hc1]; · iexists fc; iexact Hc1
    iexact HS
  iintro ⟨HC, HSs, HS⟩
  iapply (tri_turn0 m K c) $$ [Hl0 Ho HS]
  · isplitr; · iexact Hctx
    isplitl [Hl0]; · iexact Hl0
    isplitl [Ho] <;> iassumption
  iintro ⟨Hl0, HOw, Ho, HS⟩
  iapply (tri_step2 m K c) $$ [HC HQs Hl0 HOw HSs Ho HS]
  · isplitr; · iexact Hctx
    isplitl [HC]; · iexact HC
    isplitl [HQs]; · iexact HQs
    isplitl [Hl0]; · iexact Hl0
    isplitl [HOw]; · iexact HOw
    isplitl [HSs]; · iexact HSs
    isplitl [Ho] <;> iassumption
  iexact HQ

/-- The turns of blocks 3 to 6. -/
theorem tri_middle (c : Dev nD) {α : Type} {k : PG F α} {Q : α → sProp 𝕄} :
    iprop(Ctx m K ∗ Mid m c 1 0 0 0 0 7 8 11) ⊢ iprop((Mid m c 1 0 2 2 2 23 16 23 -∗ WP c k Q)
      -∗ WP c (do
        stage c 3 1 (waitSendF 1) loopOdd; sendF c 1; waitRecvF 0; soft c 0 8 9 10 11
        stage c 4 0 (waitSendF 0) loopEven; sendF c 0; waitRecvF 1; soft c 1 12 13 14 15
        stage c 5 1 (waitSendF 1) loopOdd; sendF c 1; waitRecvF 0; soft c 0 16 17 18 19
        stage c 6 0 (waitSendF 0) loopEven; sendF c 0; waitRecvF 1; soft c 1 20 21 22 23
        k) Q) := by
  iintro ⟨#Hctx, HM⟩ HQ
  iapply (tri_step m K c 3 2 1 0 0 0 0 7 8 9 10 11 8 11 (by decide) (by decide) (by decide) (by decide) (by decide) (by decide) (by decide) (by decide) (by decide) (by decide)
    (tri_loopOdd m c 3 9 12)) $$ [HM]
  · isplitr; · iexact Hctx
    iexact HM
  iintro HM
  iapply (tri_step m K c 4 3 0 1 1 0 1 11 12 13 14 15 10 14 (by decide) (by decide) (by decide) (by decide) (by decide) (by decide) (by decide) (by decide) (by decide) (by decide)
    (tri_loopEven m c 4 11 15)) $$ [HM]
  · isplitr; · iexact Hctx
    iexact HM
  iintro HM
  iapply (tri_step m K c 5 4 1 0 1 1 1 15 16 17 18 19 12 17 (by decide) (by decide) (by decide) (by decide) (by decide) (by decide) (by decide) (by decide) (by decide) (by decide)
    (tri_loopOdd m c 5 13 18)) $$ [HM]
  · isplitr; · iexact Hctx
    iexact HM
  iintro HM
  iapply (tri_step m K c 6 5 0 1 2 1 2 19 20 21 22 23 14 20 (by decide) (by decide) (by decide) (by decide) (by decide) (by decide) (by decide) (by decide) (by decide) (by decide)
    (tri_loopEven m c 6 15 21)) $$ [HM]
  · isplitr; · iexact Hctx
    iexact HM
  iexact HQ

/-- What a device ends with. -/
def Last (c : Dev nD) : sProp 𝕄 :=
  iprop(Com m c ∗ (∃ f, lgPt c Finset.univ fullShare f) ∗ (∃ f, cmPt c Finset.univ f) ∗ outFree m c 32 ∗ St c 19 31)

/-- A band of the second slot lies in the half it belongs to. -/
theorem half_rows (s : Fin 2) (j : Fin 4) (h : j.val / 2 = s.val) : lgRows (1 : Fin 2).val (64 * j.val) (64 * j.val + 64) ⊆ setH s := fun i hi => by
  have e1 : ((1 : Fin 2)).val = 1 := rfl
  simp only [setH, lgRows, Finset.mem_filter, Finset.mem_univ, true_and, e1] at hi ⊢
  omega

/-- Two chunks of the last row block, whose half has arrived. -/
theorem tri_pair (c : Dev nD) (s : Fin 2) (j j' : Fin 4) (p n n' : Fin 32) {i k : ℕ} (h : WaitOk i k (.rr s) 0)
    (hn : j.val / 2 = s.val ∧ j'.val / 2 = s.val ∧ n.val = 28 + j.val ∧ n'.val = 28 + j'.val ∧ n.val = p.val + 1 ∧ n'.val = n.val + 1) {α : Type} {kk : PG F α} {Q : α → sProp 𝕄} :
    iprop(Ctx m K ∗ lgPt c (lgSlot 1) fullShare.left (Lg m c 7) ∗ outFly m c p ∗ St c i k)
      ⊢ iprop((iprop(lgPt c (lgSlot 1) fullShare.left (Lg m c 7) ∗ cmPt c (setH s) (Lg m (partner c) 7) ∗ outFly m c n' ∗ St c i (k + 1)) -∗ WP c kk Q)
        -∗ WP c (do waitRecvH s; chunk c 1 j n waitOut; chunk c 1 j' n' waitOut; kk) Q) := by
  obtain ⟨h1, h2, h3, h4, h5, h6⟩ := hn
  iintro ⟨#Hctx, Hlg, Ho, HS⟩ HQ
  iapply (tri_recvH m K c s h).bind $$ [HS]
  · isplitr; · iexact Hctx
    iexact HS
  iintro ⟨Hcm, HS⟩
  iapply (tri_next m c 7 1 j n p h3 h5 rfl (S := lgSlot 1) (S' := setH s) rows_slot (half_rows s j h1)).bind $$ [Hlg Hcm Ho HS]
  · isplitl [Hlg]; · iexact Hlg
    isplitl [Hcm]; · iexact Hcm
    isplitr; · iapply (ctx_lev m K) $$ Hctx
    isplitl [Ho] <;> iassumption
  iintro H
  iapply (tri_next m c 7 1 j' n' n h4 h6 rfl (S := lgSlot 1) (S' := setH s) rows_slot (half_rows s j' h2)).bind (k := fun _ => kk) $$ H
  iintro ⟨Hlg, Hcm, -, Ho, HS⟩
  iapply HQ
  isplitl [Hlg]; · iexact Hlg
  isplitl [Hcm]; · iexact Hcm
  isplitl [Ho] <;> iassumption

/-- The last block: its logits, the sends of its two halves, and the softmax of block 6. -/
theorem tri_block7 (c : Dev nD) {α : Type} {k : PG F α} {Q : α → sProp 𝕄} :
    iprop(Ctx m K ∗ Mid m c 1 0 2 2 2 23 16 23) ⊢ iprop((iprop(Com m c ∗ Sent m c 0 2 ∗ (∃ f, cmPt c (lgSlot 0) f)
        ∗ lgPt c (lgSlot 1) fullShare.left (Lg m c 7) ∗ crdOf c (.rs 0) 0 ∗ crdOf c (.rs 1) 0 ∗ outFly m c 27 ∗ St c 19 26) -∗ WP c k Q)
      -∗ WP c (do stage c 7 1 (waitSendF 1) loopOdd; sendH c 0; sendH c 1; waitRecvF 0; soft c 0 24 25 26 27; k) Q) := by
  unfold Mid Sent
  iintro ⟨#Hctx, HC, ⟨Hlg, Hcd⟩, HOw, ⟨Hlo, Hco⟩, Ho, HS⟩ HQ
  iapply (tri_stage m K c 7 (blkF 1 2) 1 2 (i := 16) (n := 23) (by decide) (by decide) (tri_sentF m K c 1 (by decide)) (tri_loopOdd m c 7 17 24)).bind $$ [HC HOw Hlg Hcd HS]
  · isplitr; · iexact Hctx
    isplitl [HC]; · iexact HC
    isplitl [HOw]; · iexact HOw
    isplitl [Hlg]; · iexact Hlg
    isplitl [Hcd] <;> iassumption
  unfold Theirs
  iintro ⟨HC, Hlg, ⟨⟨%f, Hcm⟩, -, -⟩, HS⟩
  ihave Hcm := (Entails.of_eq (congrArg (fun S => cmPt (partner c) S f) slot_halves)) $$ [Hcm]
  · iexact Hcm
  ihave Hcm := (cmPt_union halves_disj).1 $$ Hcm
  icases Hcm with ⟨Hc0, Hc1⟩
  ihave Hlg := (lgPt_share).1 $$ Hlg
  icases Hlg with ⟨Hlg, Hr⟩
  ihave Hr := (Entails.of_eq (congrArg (fun S => lgPt c S fullShare.right (Lg m c 7)) slot_halves)) $$ [Hr]
  · iexact Hr
  ihave Hr := (lgPt_union halves_disj).1 $$ Hr
  icases Hr with ⟨Hr0, Hr1⟩
  iapply (tri_sendH m K c 0 (i := 17) (n := 25) (by decide)).bind $$ [Hr0 Hc0 HS]
  · isplitr; · iexact Hctx
    isplitl [Hr0]; · iexact Hr0
    isplitl [Hc0]; · iexists f; iexact Hc0
    iexact HS
  iintro ⟨Hd0, HS⟩
  iapply (tri_sendH m K c 1 (i := 18) (n := 25) (by decide)).bind $$ [Hr1 Hc1 HS]
  · isplitr; · iexact Hctx
    isplitl [Hr1]; · iexact Hr1
    isplitl [Hc1]; · iexists f; iexact Hc1
    iexact HS
  iintro ⟨Hd1, HS⟩
  iapply (tri_turn m K c 0 2 6 23 24 25 26 27 (i := 19) (n := 25) (by decide) (by decide) (by decide) (by decide) (q := fullShare.left)) $$ [Hlo Ho HS]
  · isplitr; · iexact Hctx
    isplitl [Hlo]; · iexact Hlo
    isplitl [Ho] <;> iassumption
  unfold Own
  iintro ⟨Hlo, ⟨Hcm, -, -⟩, Ho, HS⟩
  iapply HQ
  isplitl [HC]; · iexact HC
  isplitl [Hlo Hco]
  · isplitl [Hlo]; · iexact Hlo
    iexact Hco
  isplitl [Hcm]; · iexact Hcm
  isplitl [Hlg]; · iexact Hlg
  isplitl [Hd0]; · iexact Hd0
  isplitl [Hd1]; · iexact Hd1
  isplitl [Ho] <;> iassumption

/-- The end: the softmax of block 7, and the waits for the own sends. -/
theorem tri_end (c : Dev nD) :
    Tri c iprop(Ctx m K ∗ Com m c ∗ Sent m c 0 2 ∗ (∃ f, cmPt c (lgSlot 0) f) ∗ lgPt c (lgSlot 1) fullShare.left (Lg m c 7)
        ∗ crdOf c (.rs 0) 0 ∗ crdOf c (.rs 1) 0 ∗ outFly m c 27 ∗ St c 19 26)
      (do waitRecvH 0; chunk c 1 0 28 waitOut; chunk c 1 1 29 waitOut; waitRecvH 1; chunk c 1 2 30 waitOut; chunk c 1 3 31 waitOut
          waitSendF 0; waitSendH 0; waitSendH 1; waitOut) (Last m c) := by
  intro Q
  unfold Sent
  iintro ⟨#Hctx, HC, ⟨Hl0, Hd⟩, ⟨%f, Hcm⟩, Hl1, Hd0, Hd1, Ho, HS⟩ HQ
  iapply (tri_pair m K c 0 0 1 27 28 29 (i := 19) (k := 26) (by decide) (by decide)) $$ [Hl1 Ho HS]
  · isplitr; · iexact Hctx
    isplitl [Hl1]; · iexact Hl1
    isplitl [Ho] <;> iassumption
  iintro ⟨Hl1, Hc0, Ho, HS⟩
  iapply (tri_pair m K c 1 2 3 29 30 31 (i := 19) (k := 27) (by decide) (by decide)) $$ [Hl1 Ho HS]
  · isplitr; · iexact Hctx
    isplitl [Hl1]; · iexact Hl1
    isplitl [Ho] <;> iassumption
  iintro ⟨Hl1, Hc1, Ho, HS⟩
  iapply (tri_sentF m K c 0 (r := 2) (i := 19) (n := 28) (by decide)).bind $$ [Hd HS]
  · isplitr; · iexact Hctx
    isplitl [Hd] <;> iassumption
  iintro ⟨Hr0, HS⟩
  iapply (tri_sentH m K c 0 (i := 19) (n := 29) (by decide)).bind $$ [Hd0 HS]
  · isplitr; · iexact Hctx
    isplitl [Hd0] <;> iassumption
  iintro ⟨Hh0, HS⟩
  iapply (tri_sentH m K c 1 (i := 19) (n := 30) (by decide)).bind $$ [Hd1 HS]
  · isplitr; · iexact Hctx
    isplitl [Hd1] <;> iassumption
  iintro ⟨Hh1, HS⟩
  iapply (tri_waitOut m c 31 Q) $$ [Ho HS]
  · isplitr; · iapply (ctx_lev m K) $$ Hctx
    isplitl [Ho] <;> iassumption
  iintro ⟨Ho, HS⟩
  iapply HQ
  unfold Last
  isplitl [HC]; · iexact HC
  isplitl [Hl0 Hr0 Hl1 Hh0 Hh1]
  · iapply (lgPt_join (f := Lg m c (blkF 0 2)) (g := Lg m c 7))
    isplitl [Hl0 Hr0]
    · iapply (lgPt_share).2
      isplitl [Hl0]; · iexact Hl0
      iexact Hr0
    iapply (lgPt_share).2
    isplitl [Hl1]; · iexact Hl1
    iapply (Entails.of_eq (congrArg (fun S => lgPt c S fullShare.right (Lg m c 7)) slot_halves.symm))
    iapply (lgPt_union halves_disj).2
    isplitl [Hh0] <;> iassumption
  isplitl [Hcm Hc0 Hc1]
  · iapply (cmPt_join (f := f) (g := Lg m (partner c) 7))
    isplitl [Hcm]; · iexact Hcm
    iapply (Entails.of_eq (congrArg (fun S => cmPt c S (Lg m (partner c) 7)) slot_halves.symm))
    iapply (cmPt_union halves_disj).2
    isplitl [Hc0] <;> iassumption
  isplitl [Ho]; · iexact Ho
  iexact HS

/-- The body. -/
theorem tri_body (c : Dev nD) : Tri c iprop(Ctx m K ∗ First m c) bodyP (Last m c) := by
  intro Q
  unfold bodyP WP
  simp only [Prog.lift, Prog.bind_op, Prog.bind_ret, wp_deviceId]
  iintro ⟨#Hctx, H⟩ HQ
  iapply (tri_begin m K c) $$ [H]
  · isplitr; · iexact Hctx
    iexact H
  iintro H
  iapply (tri_middle m K c) $$ [H]
  · isplitr; · iexact Hctx
    iexact H
  iintro H
  iapply (tri_block7 m K c) $$ [H]
  · isplitr; · iexact Hctx
    iexact H
  iintro H
  iapply (tri_end m K c Q) $$ [H]
  · isplitr; · iexact Hctx
    iexact H
  iexact HQ

end Cert.KernelIdeal.Body

end
-- ==== Proof.KernelIdeal.Ends.lean ====
/- What the launch gives a device and what it takes back: the buffers and local semaphores it begins with, the
   cells closed at the end. -/
module

public import proofs.«01_k».proof.Proof.KernelIdeal.Whole

@[expose] public section

set_option maxRecDepth 65536

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

local notation "𝕄" => MT nD τ sig ℕ (Elt F) ℕ UU ℕ

variable (m : (ℓ : Loc nD τ sig) → Buf (Elt F) ℓ) (K : Dev nD × Ck → ℕ)

/-- A buffer at some contents splits into two parts at some contents. -/
theorem ptE_split {c : Dev nD} {b : Ref sig .tc} {S T : Finset b.ty.Idx} (hu : S ∪ T = Finset.univ) (hd : Disjoint S T) :
    ptE (F := F) c b Finset.univ ⊢ iprop(ptE c b S ∗ ptE c b T) := by
  rw [← hu]
  iintro ⟨%f, H⟩
  ihave H := (pointsTo_union hd).1 $$ H
  icases H with ⟨H, H'⟩
  isplitl [H]
  · iexists f; iexact H
  iexists f; iexact H'

/-- Two parts at some contents make up the buffer at some contents. -/
theorem ptE_join {c : Dev nD} {b : Ref sig .tc} {S T : Finset b.ty.Idx} (hu : S ∪ T = Finset.univ) (hd : Disjoint S T) :
    iprop(ptE (F := F) c b S ∗ ptE c b T) ⊢ ptE c b Finset.univ := by
  rw [← hu]
  iintro ⟨⟨%f, H⟩, ⟨%g, H'⟩⟩
  iexists _
  iapply (pointsTo_join (ℓ := (c : Thread nD τ).loc b) (f := f) (g := g) hd)
  isplitl [H] <;> iassumption

/-- A number below two is zero or one. -/
theorem lt_two {n : ℕ} (h : n < 2) : n = 0 ∨ n = 1 := by omega

/-- The two slots cover a weight buffer. -/
theorem slot_cover : slotSet 0 ∪ slotSet 1 = Finset.univ := Finset.eq_univ_of_forall fun i => Finset.mem_union.mpr
  ((lt_two (i 0).isLt).imp (fun h => Finset.mem_filter.mpr ⟨Finset.mem_univ _, h⟩) fun h => Finset.mem_filter.mpr ⟨Finset.mem_univ _, h⟩)

/-- The two slots of a weight buffer share no element. -/
theorem slot_apart : Disjoint (slotSet 0) (slotSet 1) := Finset.disjoint_left.mpr fun i hi hi' => by
  rw [slotSet, Finset.mem_filter] at hi hi'
  exact absurd (hi.2.symm.trans hi'.2) (by decide)

/-- The semaphores of the local copies at zero. -/
def Loc0 (c : Dev nD) : sProp 𝕄 :=
  iprop(sv c cc0_scratch7.sem ∗ sv c cc0_scratch17.sem
    ∗ sv c (sem2 cc0_scratch8 ![0] (inb2 (by decide))) ∗ sv c (sem2 cc0_scratch8 ![1] (inb2 (by decide)))
    ∗ sv c (sem2 cc0_scratch9 ![0] (inb2 (by decide))) ∗ sv c (sem2 cc0_scratch9 ![1] (inb2 (by decide)))
    ∗ sv c (sem2 cc0_scratch10 ![0] (inb2 (by decide))) ∗ sv c (sem2 cc0_scratch10 ![1] (inb2 (by decide))))
/-- The scratch buffers at some contents. -/
def Scr (c : Dev nD) : sProp 𝕄 :=
  iprop(ptE c cc0_scratch0 Finset.univ ∗ ptE c cc0_scratch1 Finset.univ ∗ ptE c cc0_scratch2 Finset.univ ∗ ptE c cc0_scratch3 Finset.univ
    ∗ ptE c cc0_scratch4 Finset.univ ∗ ptE c cc0_scratch5 Finset.univ ∗ ptE c cc0_scratch6 Finset.univ)
/-- The arrays as launched, and as left. -/
def Arr (c : Dev nD) : sProp 𝕄 :=
  iprop(pt c main_arg0 Finset.univ (xA m c) ∗ pt c main_arg1 Finset.univ (wA m c) ∗ ptE c main_v1_0 Finset.univ ∗ ptE c main_v1_1 Finset.univ)
def Arr' (c : Dev nD) : sProp 𝕄 :=
  iprop(pt c main_arg0 Finset.univ (xA m c) ∗ pt c main_arg1 Finset.univ (wA m c) ∗ pt c main_v1_0 Finset.univ (RES m c))

/-- The arrays as launched, the scratch buffers and the semaphores at rest give the first state of the body. -/
theorem first_intro (c : Dev nD) : iprop(Arr m c ∗ Scr c ∗ Loc0 c ∗ St c 0 0) ⊢ First m c := by
  unfold Arr Scr Loc0 First Xst Wst Bkfree outFree
  iintro ⟨⟨Ha0, Ha1, ⟨%fo, Ho⟩, Hb⟩, ⟨H0, H1, H2, H3, H4, H5, H6⟩, ⟨s7, s17, s80, s81, s90, s91, s100, s101⟩, HS⟩
  ihave H2 := (ptE_split (b := cc0_scratch2) slot_cover slot_apart) $$ H2
  icases H2 with ⟨H20, H21⟩
  ihave H3 := (ptE_split (b := cc0_scratch3) slot_cover slot_apart) $$ H3
  icases H3 with ⟨H30, H31⟩
  isplitl [H0 s7 Ha0]
  · isplitl [H0]; · iexact H0
    isplitl [s7] <;> iassumption
  isplitl [H1]; · iexact H1
  isplitl [H20 H21 s80 s81 Ha1]
  · isplitl [H20 s80]
    · isplitl [H20]; · iexact H20
      iexact s80
    isplitl [H21 s81]
    · isplitl [H21]; · iexact H21
      iexact s81
    iexact Ha1
  isplitl [H30 H31 s100 s101 Hb]
  · isplitl [H30 s100]
    · isplitl [H30]; · iexact H30
      iexact s100
    isplitl [H31 s101]
    · isplitl [H31]; · iexact H31
      iexact s101
    iexact Hb
  isplitl [s90 s91]
  · isplitl [s90] <;> iassumption
  isplitl [H4]; · iexact H4
  isplitl [H5]; · iexact H5
  isplitr [HS]
  · isplitl [H6]; · iexact H6
    isplitl [s17]; · iexact s17
    isplitr
    · iapply (Entails.of_eq (congrArg (fun S => outPt c S (RES m c)) roLt_zero.symm))
      iapply (Entails.of_eq outPt_empty.symm)
      iempintro
    iexists fo
    iapply (Entails.of_eq (congrArg (fun S => outPt c S fo) roGe_zero.symm))
    iexact Ho
  iexact HS

/-- The last state of the body gives the arrays as left, the scratch buffers and the semaphores at rest. -/
theorem last_elim (c : Dev nD) : Last m c ⊢ iprop(Arr' m c ∗ Scr c ∗ Loc0 c ∗ St c 19 31) := by
  unfold Arr' Scr Loc0 Last Com Xst Bst Idle Wst outFree
  iintro ⟨⟨⟨H0, s7, Ha0⟩, ⟨⟨H30, s90⟩, ⟨H31, s91⟩, -⟩, H1, ⟨⟨H20, s80⟩, ⟨H21, s81⟩, Ha1⟩, s100, s101⟩, H4, H5, ⟨H6, s17, Ho, -⟩, HS⟩
  ihave Ho := (Entails.of_eq (congrArg (fun S => outPt c S (RES m c)) roLt_all)) $$ Ho
  isplitl [Ha0 Ha1 Ho]
  · isplitl [Ha0]; · iexact Ha0
    isplitl [Ha1]; · iexact Ha1
    iexact Ho
  isplitr [s7 s17 s80 s81 s90 s91 s100 s101 HS]
  · isplitl [H0]; · iexact H0
    isplitl [H1]; · iexact H1
    isplitl [H20 H21]
    · iapply (ptE_join (b := cc0_scratch2) slot_cover slot_apart)
      isplitl [H20] <;> iassumption
    isplitl [H30 H31]
    · iapply (ptE_join (b := cc0_scratch3) slot_cover slot_apart)
      isplitl [H30] <;> iassumption
    isplitl [H4]; · iexact H4
    isplitl [H5]; · iexact H5
    iexact H6
  isplitr [HS]
  · isplitl [s7]; · iexact s7
    isplitl [s17]; · iexact s17
    isplitl [s80]; · iexact s80
    isplitl [s81]; · iexact s81
    isplitl [s90]; · iexact s90
    isplitl [s91]; · iexact s91
    isplitl [s100]; · iexact s100
    iexact s101
  iexact HS

/-- After all waits every cell is past its last round. -/
theorem rnd_end : ∀ k : Ck, rnd 31 k = k.rounds := by decide

/-- Before any wait every cell is at its first round. -/
theorem rnd_start (k : Ck) : rnd 0 k = 0 := rfl

/-- The cells close. -/
theorem close_one (c : Dev nD) (k : Ck) : iprop(Ctx (F := F) m K ∗ posI c 31 k) ⊢ iprop(|={Set.univ}=> semVal (kcell c k) 0) := by
  unfold posI
  rw [rnd_end]
  iintro ⟨#Hctx, Hat, -⟩
  iapply (Rounds.cell_close ER (Rd m) (Set.mem_univ (K (c, k))) (fun h => h) (duties_later m c k))
  isplitr; · iapply (ctx_inv m K c k) $$ Hctx
  iexact Hat

/-- A lasting fact may serve every member of a family. -/
theorem sep_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- After the last wait every cell of the exchange stands at zero. -/
theorem close_all (c : Dev nD) : iprop(Ctx (F := F) m K ∗ posn c 31) ⊢ iprop(|={Set.univ}=> bigSep Finset.univ fun k : Ck => semVal (kcell c k) 0) := by
  unfold posn
  exact (sep_persistent fun k _ => close_one m K c k).trans (bigSep_fupd _ _)

/-- All a device owns when its body ends. -/
theorem last_close (c : Dev nD) : iprop(Ctx m K ∗ Last m c)
    ⊢ iprop(|={Set.univ}=> (Arr' m c ∗ Scr c ∗ Loc0 c ∗ (bigSep Finset.univ fun k : Ck => semVal (kcell c k) 0) ∗ ∃ W, owes (c : Thread nD τ) 0 W)) := by
  iintro ⟨#Hctx, H⟩
  ihave H := (last_elim m c) $$ H
  unfold St Ow
  icases H with ⟨HA, HR, HL, Ho, -, -, Hp⟩
  imod (close_all m K c) $$ [Hp] with Hz
  · isplitr; · iexact Hctx
    iexact Hp
  imodintro
  isplitl [HA]; · iexact HA
  isplitl [HR]; · iexact HR
  isplitl [HL]; · iexact HL
  isplitl [Hz]; · iexact Hz
  iexact Ho

end Cert.KernelIdeal.Body

end
-- ==== Proof.KernelIdeal.Same.lean ====
/- The printed body is the structured program of `Prog`: every printed step unfolds to its definition there; the
   binds around the eight loops are reassociated first. -/
module

public import proofs.«01_k».proof.Proof.KernelIdeal.Prog
public meta import Idealize.ShloMosaic.Lib.Pipeline.Regions

@[expose] public section

set_option maxRecDepth 65536
set_option maxHeartbeats 4000000

noncomputable section

namespace Cert.KernelIdeal.Body

open Idealize.ShloMosaic Idealize.SL

variable {F : FTy → Type} [FloatOps F]

/-- The printed body at the launch's buffers and semaphores. -/
abbrev bodyK : PG F PUnit :=
  cc0_body xH (Memref.isWhole_whole _)
    wH (Memref.isWhole_whole _)
    oH (Memref.isWhole_whole _)
    bH (Memref.isWhole_whole _)
    xF (Memref.isWhole_whole _)
    xB (Memref.isWhole_whole _)
    wF (Memref.isWhole_whole _)
    wB (Memref.isWhole_whole _)
    lgM (Memref.isWhole_whole _)
    cmM (Memref.isWhole_whole _)
    oB (Memref.isWhole_whole _)
    cc0_scratch7 cc0_scratch8 cc0_scratch9 cc0_scratch10 cc0_scratch11 cc0_scratch12 cc0_scratch13 cc0_scratch14 cc0_scratch15 cc0_scratch16 cc0_scratch17 cc0_scratch18

/-- The printed body is the structured one. -/
theorem bodyK_eq : (bodyK : PG F PUnit) = bodyP := by
  unfold bodyK cc0_body k0_part56 k0_part2 k0_part3 k0_part4 k0_part12 k0_part19 k0_part25 k0_part32 k0_part38 k0_part44 bodyP stage
  simp only [bind_assoc, pure_bind]
  chain_rfl

end Cert.KernelIdeal.Body

end
-- ==== Proof.KernelIdeal.Deal.lean ====
/- The launch: the ghost state dealt to the devices, the tokens handed to the partner who pays them, the credits,
   and the run of the program. -/
module

public import proofs.«01_k».proof.Proof.KernelIdeal.Ends
public import proofs.«01_k».proof.Proof.KernelIdeal.Same
public import Idealize.ShloMosaic.Lib.Pipeline.BigSepL
public import Idealize.ShloMosaic.Lib.Pipeline.CollectiveSegs
public import Idealize.ShloMosaic.Lib.Quiescent

@[expose] public section

set_option maxRecDepth 65536

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-! ## The cells and tokens -/

def cellAt (ck : Dev nD × Ck) : GSem nD τ sig := kcell ck.1 ck.2

/-- Different devices and kinds give different cells. -/
theorem cellAt_injective : Function.Injective cellAt := fun a b h => Prod.ext (kcell_inj h).1 (kcell_inj h).2
def theCells : Finset (GSem nD τ sig) := Finset.univ.map ⟨cellAt, cellAt_injective⟩

/-- The rounds a device pays on its own cells, beside the payments `l`. -/
def owns (l : List Pay) : List Pay := l.filterMap fun p => p.1.own.map fun k => (k, p.2)
/-- The rounds of a device's cells. -/
def allRounds : List Pay := pays ++ owns pays

/-- No round is listed twice. -/
theorem allRounds_nodup : allRounds.Nodup := by decide
abbrev TokIx : Type := Dev nD × Fin allRounds.length
def tokAt (x : TokIx) : GSem nD τ sig × ℕ × Unit := (kcell x.1 (allRounds.get x.2).1, (allRounds.get x.2).2, ())

/-- Different rounds have different tokens. -/
theorem tokAt_injective : Function.Injective tokAt := fun a b h => by
  have h1 := kcell_inj (congrArg Prod.fst h)
  have h2 : (allRounds.get a.2).2 = (allRounds.get b.2).2 := congrArg (fun x => x.2.1) h
  exact Prod.ext h1.1 (List.nodup_iff_injective_get.mp allRounds_nodup (Prod.ext h1.2 h2))
def theToks : Finset (GSem nD τ sig × ℕ × Unit) := Finset.univ.map ⟨tokAt, tokAt_injective⟩

def u₀ : UU := (initOf (Pipeline.cells cfgs cellOf_inj) (Pipeline.launchToks cfgs cellOf_inj), (initOf theCells theToks, 1))

/-- The ghost state dealt is the launch's part and the exchange's. -/
theorem ownU_split (a b : UR sig nD τ) : (ownU ((a, (b, 1)) : UU) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

/-- The token of a round of a device's cell. -/
abbrev dt (c : Dev nD) (p : Pay) : sProp 𝕄 := dutyTok ER (kcell c p.1) p.2 ()

/-- A family over the places of a list without repeats is the family over the list. -/
theorem get_all (l : List Pay) (hl : l.Nodup) (Φ : Pay → sProp 𝕄) : (bigSep Finset.univ fun j : Fin l.length => Φ (l.get j)) = bigSepL l Φ := by
  rw [← bigSep_eq_bigSepL l hl Φ]
  have h : l.toFinset = Finset.univ.map ⟨l.get, List.nodup_iff_injective_get.mp hl⟩ := Finset.ext fun p => by
    rw [List.mem_toFinset, Finset.mem_map, List.mem_iff_get]
    exact ⟨fun ⟨j, h⟩ => ⟨j, Finset.mem_univ _, h⟩, fun ⟨j, _, h⟩ => ⟨j, h⟩⟩
  rw [h, bigSep_map]
  rfl

/-- What the launch deals a device. -/
def G (c : Dev nD) : sProp 𝕄 :=
  iprop((bigSep Finset.univ fun k : Ck => roundState ER (Rd m) (kcell c k) 0) ∗ posn c 0 ∗ bigSepL allRounds (dt c))

/-- The exchange's ghost state gives every device its share. -/
theorem fund_all : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : Ck => Φ (kcell c k) := by
    unfold theCells; rw [bigSep_map, bigSep_univ_prod]; rfl
  have hT : bigSep theToks (fun x => (dutyTok ER x.1 x.2.1 x.2.2 : sProp 𝕄)) = bigSep Finset.univ fun c : Dev nD => bigSepL allRounds (dt c) := by
    unfold theToks; rw [bigSep_map, bigSep_univ_prod]
    exact bigSep_congr fun c _ => get_all allRounds allRounds_nodup (dt c)
  iintro HX
  imod (Rounds.fund ER (Rd m) theCells theToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posn
  simp only [bigSep_sep', rnd_start]
  isplitl [Hst']; · iexact Hst'
  isplitl [Hat' Hr']
  · isplitl [Hat'] <;> iassumption
  iexact Htok'

/-! ## The semaphores -/

/-- The kernel's own semaphores: those of the local copies, then those of the exchange but the barrier's. -/
def locs : List (SemLoc sig) :=
  [.dma cc0_scratch7.sem, .dma cc0_scratch17.sem, .dma (semS cc0_scratch8 0), .dma (semS cc0_scratch8 1), .dma (semS cc0_scratch9 0),
   .dma (semS cc0_scratch9 1), .dma (semS cc0_scratch10 0), .dma (semS cc0_scratch10 1)]
abbrev osem : Fin 8 ⊕ Fin 18 → SemLoc sig
  | .inl j => locs.get j
  | .inr j => (Ck.all.get (j.succ : Fin 19)).sm

/-- The kernel's own semaphores are listed in full and once each. -/
theorem ownSemFacts : Pipeline.OwnSemFacts cfg0.spec osem := by decide +kernel

/-- A family over the cells is the barrier's member and the others'. -/
theorem cells_split (Φ : Ck → sProp 𝕄) : bigSep Finset.univ Φ = iprop(Φ .bar ∗ bigSep Finset.univ fun j : Fin 18 => Φ (Ck.all.get (j.succ : Fin 19))) := by
  rw [bigSep_univ_eq_bigSepL Ck.all (by decide) (by decide) Φ,
    bigSep_univ_eq_bigSepL [(0 : Fin 18), 1, 2, 3, 4, 5, 6, 7, 8, 9, 10, 11, 12, 13, 14, 15, 16, 17] (by decide) (by decide)]
  rfl

/-- The kernel's own semaphores at zero are those of the local copies and those of the exchange but the barrier's. -/
theorem ownSems0_eq (c : Dev nD) : (Pipeline.ownSems0 (Ix := ℕ) (Name := ℕ) (U := UU) (Lvl := ℕ) (Val := Elt F) (τ := τ) osem c : sProp 𝕄)
    = iprop(Loc0 c ∗ bigSep Finset.univ fun j : Fin 18 => semVal (kcell c (Ck.all.get (j.succ : Fin 19))) 0) := by
  unfold Pipeline.ownSems0
  rw [BI.bigSep_univ_sum, bigSep_univ_eq_bigSepL [(0 : Fin 8), 1, 2, 3, 4, 5, 6, 7] (by decide) (by decide)]
  rfl

/-- The only semaphore that outlives the kernel is the barrier's. -/
theorem unscopedSems0_eq (c : Dev nD) : (unscopedSems0 c : sProp 𝕄) = semVal (kcell c .bar) 0 := by
  unfold unscopedSems0; rw [bigSep_eq_bigSepL_of_eq [SemLoc.reg barS] (by decide) (by decide)]; rfl

/-- All semaphores at zero are those of the local copies and those of the cells. -/
theorem sems0_eq (c : Dev nD) :
    iprop(Pipeline.ownSems0 (Ix := ℕ) (Name := ℕ) (U := UU) (Lvl := ℕ) (Val := Elt F) (τ := τ) osem c ∗ unscopedSems0 c)
      ⊢ (iprop(Loc0 c ∗ bigSep Finset.univ fun k : Ck => semVal (kcell c k) 0) : sProp 𝕄) := by
  rw [ownSems0_eq, unscopedSems0_eq, cells_split]
  iintro ⟨⟨HL, HS⟩, HB⟩
  isplitl [HL]; · iexact HL
  isplitl [HB] <;> iassumption

/-! ## The global step -/

/-- A device's semaphores and its share of the ghost state give the invariants of its cells. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Ck => iprop(∃ κ : ℕ, cellInv ER (Rd m) κ (kcell c k))) ∗ Loc0 c ∗ posn c 0 ∗ bigSepL allRounds (dt c)) := by
  unfold G
  iintro ⟨Hos, Hus, Hst, Hat, Htok⟩
  ihave Hv := (sems0_eq (F := F) c) $$ [Hos Hus]
  · isplitl [Hos] <;> iassumption
  icases Hv with ⟨HL, Hv⟩
  imod (show iprop((bigSep Finset.univ fun k : Ck => semVal (kcell c k) 0) ∗ bigSep Finset.univ fun k : Ck => roundState ER (Rd m) (kcell c k) 0)
      ⊢ (|={Set.univ}=> bigSep Finset.univ fun k : Ck => iprop(∃ κ : ℕ, cellInv ER (Rd m) κ (kcell c k)) : sProp 𝕄) from by
        rw [← bigSep_sep']
        exact (bigSep_mono fun k _ => (Rounds.body_intro ER (Rd m) (kcell c k)).trans inv_alloc).trans (bigSep_fupd _ _)) $$ [Hv Hst] with Hinv
  · isplitl [Hv] <;> iassumption
  imodintro
  isplitl [Hinv]; · iexact Hinv
  isplitl [HL]; · iexact HL
  isplitl [Hat]; · iexact Hat
  iexact Htok

/-- The invariants and the rounds reached at the start. -/
def Rec (K : Dev nD × Ck → ℕ) : sProp 𝕄 :=
  iprop(bigSep Finset.univ (fun ck : Dev nD × Ck => cellInv ER (Rd m) (K ck) (kcell ck.1 ck.2))
    ∗ bigSep Finset.univ (fun ck : Dev nD × Ck => reached ER (kcell ck.1 ck.2) 0))
instance Rec_persistent (K : Dev nD × Ck → ℕ) : BI.Persistent (Rec (F := F) m K) := by unfold Rec; infer_instance

/-- What a device goes on with after the global step. -/
def G' (c : Dev nD) : sProp 𝕄 := iprop((∃ K, Rec m K) ∗ Loc0 c ∗ posn c 0 ∗ toks c pays)

/-- A family over a list is its first member and the rest. -/
theorem chain_cons (p : Pay) (l : List Pay) (Φ : Pay → sProp 𝕄) : bigSepL (p :: l) Φ = iprop(Φ p ∗ bigSepL l Φ) := bigSepL_cons p l Φ

/-- The tokens of the partner's rounds and of the device's own are the tokens of the payments. -/
theorem toks_intro (c : Dev nD) (l : List Pay) : iprop(bigSepL l (dt (partner c)) ∗ bigSepL (owns l) (dt c)) ⊢ (toks c l : sProp 𝕄) := by
  induction l with
  | nil => unfold toks; iintro -; iempintro
  | cons p l ih =>
    rcases p with ⟨k, r⟩
    unfold toks tok
    cases h : k.own with
    | none =>
      rw [show owns ((k, r) :: l) = owns l from List.filterMap_cons_none (by dsimp only; rw [h]; rfl), chain_cons]
      iintro ⟨⟨H, HA⟩, HB⟩
      isplitl [H]
      · isplitl [H]; · iexact H
        iempintro
      iapply ih
      isplitl [HA] <;> iassumption
    | some k' =>
      rw [show owns ((k, r) :: l) = (k', r) :: owns l from List.filterMap_cons_some (by dsimp only; rw [h]; rfl), chain_cons, chain_cons]
      dsimp only
      iintro ⟨⟨H, HA⟩, HO, HB⟩
      isplitl [H HO]
      · isplitl [H]; · iexact H
        iexact HO
      iapply ih
      isplitl [HA] <;> iassumption

/-- Every device's payments' tokens go to its partner, who pays them. -/
theorem toks_around : (bigSep Finset.univ fun c : Dev nD => (bigSepL allRounds (dt c) : sProp 𝕄)) ⊢ bigSep Finset.univ fun c : Dev nD => toks c pays := by
  unfold allRounds
  simp only [bigSepL_append]
  rw [bigSep_sep', bigSep_univ_equiv swap (fun c : Dev nD => (bigSepL pays (dt c) : sProp 𝕄)), ← bigSep_sep']
  exact bigSep_mono fun c _ => toks_intro c pays

/-- The rounds reached at the start, apart from the positions. -/
theorem posn_all : (bigSep Finset.univ fun c : Dev nD => (posn c 0 : sProp 𝕄))
    ⊢ iprop((bigSep Finset.univ fun c : Dev nD => bigSep Finset.univ fun k : Ck => (atPos ER (kcell c k) (rnd 0 k) ∅ 0 : sProp 𝕄))
      ∗ bigSep Finset.univ (fun ck : Dev nD × Ck => (reached ER (kcell ck.1 ck.2) 0 : sProp 𝕄))) := by
  unfold posn
  rw [bigSep_univ_prod (fun ck : Dev nD × Ck => (reached ER (kcell ck.1 ck.2) 0 : sProp 𝕄)), ← bigSep_sep']
  exact bigSep_mono fun c _ => Entails.of_eq (bigSep_sep' _ _ _)

/-- What all devices have is dealt anew: each gets the tokens of its partner's rounds, and all share the invariants. -/
theorem regroup :
    (bigSep Finset.univ fun c : Dev nD => iprop((bigSep Finset.univ fun k : Ck => iprop(∃ κ : ℕ, cellInv ER (Rd m) κ (kcell c k)))
        ∗ Loc0 c ∗ posn c 0 ∗ bigSepL allRounds (dt c)) : sProp 𝕄) ⊢ bigSep Finset.univ (G' m) := by
  rw [bigSep_sep', bigSep_sep', bigSep_sep', ← bigSep_univ_prod (fun ck : Dev nD × Ck => iprop(∃ κ : ℕ, cellInv ER (Rd m) κ (kcell ck.1 ck.2)))]
  iintro ⟨HI, HL, Hp, Htok⟩
  ihave HK := (BI.bigSep_exists_pi Finset.univ (fun (ck : Dev nD × Ck) (κ : ℕ) => (cellInv ER (Rd m) κ (kcell ck.1 ck.2) : sProp 𝕄))) $$ HI
  icases HK with ⟨%K, #HI⟩
  ihave Htk := (toks_around (F := F)) $$ Htok
  ihave Hp := (posn_all (F := F)) $$ Hp
  icases Hp with ⟨Hp, #HR⟩
  iapply (sep_persistent (S := Finset.univ) (R := Rec m K)
    (Φ := fun c => iprop(Loc0 c ∗ (bigSep Finset.univ fun k : Ck => (atPos ER (kcell c k) (rnd 0 k) ∅ 0 : sProp 𝕄)) ∗ toks c pays)) (Ψ := G' m) fun c _ => ?_)
  · unfold G' Rec posn
    iintro ⟨⟨#HI, #HR⟩, HL, Hp, Ht⟩
    isplitr
    · iexists K
      isplitr; · iexact HI
      iexact HR
    isplitl [HL]; · iexact HL
    isplitl [Hp]
    · rw [bigSep_sep']
      isplitl [Hp]; · iexact Hp
      iapply (show bigSep Finset.univ (fun ck : Dev nD × Ck => (reached ER (kcell ck.1 ck.2) 0 : sProp 𝕄)) ⊢ bigSep Finset.univ fun k : Ck => reached ER (kcell c k) (rnd 0 k) from
        BI.bigSep_intro_persistent fun k _ => all_reached (c, k)) $$ HR
    iexact Ht
  · isplitr
    · unfold Rec
      isplitl; · iexact HI
      iexact HR
    simp only [bigSep_sep']
    isplitl [HL]; · iexact HL
    isplitl [Hp]; · iexact Hp
    iexact Htk

/-- The global step: from the semaphores and the ghost state to what each device goes on with. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Body

end
-- ==== Proof.KernelIdeal.Region.lean ====
/- The run: the credits of the launch, the body in the pipeline, and what every execution ends with. -/
module

public import proofs.«01_k».proof.Proof.KernelIdeal.Deal

@[expose] public section

set_option maxRecDepth 65536

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

local notation "𝕄" => MT nD τ sig ℕ (Elt F) ℕ UU ℕ
open Idealize.ShloMosaic.Pipeline (Dat Cfg Window BodyObligation cellOf)

variable (m : (ℓ : Loc nD τ sig) → Buf (Elt F) ℓ) (ρ : Dev nD → PrngReg)

/-! ## The credits -/

abbrev O₀ (c : Dev nD) : CellTallies nD τ sig ℕ := owe c pays

/-- A device owes nothing to cells other than its partner's. -/
theorem owe_other {d : Dev nD} {g : GSem nD τ sig} (h : g.1 ≠ ((partner d : Dev nD) : Thread nD τ)) (l : List Pay) (i : ℕ) : owe d l g i = 0 := by
  by_contra hn
  obtain ⟨p, -, rfl, -⟩ := owe_pos (Nat.pos_of_ne_zero hn)
  exact h rfl

/-- What all devices owe to `c`'s cells is what its partner owes. -/
theorem owed_all (c : Dev nD) : (∑ sm : SemLoc sig, tallyOn ((c : Thread nD τ), sm) (launchCredit (Pipeline.owing O₀) 0 ((c : Thread nD τ), sm))) = owe (partner c) pays := by
  funext g
  refine Finsupp.ext fun i => ?_
  rw [Finset.sum_apply, Finsupp.finset_sum_apply]
  rcases g with ⟨t, sm⟩
  by_cases ht : t = (c : Thread nD τ)
  · subst ht
    rw [Finset.sum_eq_single sm (fun b _ hb => by rw [tallyOn_ne (fun h => hb (congrArg Prod.snd h).symm)]; rfl) (fun h => absurd (Finset.mem_univ _) h),
      tallyOn_self, Pipeline.launchCredit_owing]
    refine Finset.sum_eq_single (partner c) (fun d _ hd => owe_other (fun h => hd ?_) pays i) fun h => absurd (Finset.mem_univ _) h
    have h' : c = partner d := congrArg (fun t : Thread nD τ => t.1) h
    rw [h', partner_partner]
  · rw [Finset.sum_eq_zero fun b _ => by rw [tallyOn_ne (fun h => ht (congrArg Prod.fst h))]; rfl]
    exact (owe_other (fun h => ht (by rw [partner_partner] at h; exact h)) pays i).symm

/-- Credits for several tallies are a credit for their sum. -/
theorem cred_sum {I : Type} [DecidableEq I] (S : Finset I) (T : I → CellTallies nD τ sig ℕ) :
    (bigSep S fun i => (cred (T i) : sProp 𝕄)) ⊢ cred (∑ i ∈ S, T i) := by
  induction S using Finset.induction_on with
  | empty => rw [Finset.sum_empty, cred_zero]; exact Entails.of_eq bigSep_empty
  | insert i S hi ih =>
    rw [Finset.sum_insert hi, BI.bigSep_insert hi]
    exact (sep_mono_right ih).trans (cred_add _ _).2

/-- The credit of a round of `c`'s cell. -/
abbrev ct (c : Dev nD) (p : Pay) : sProp 𝕄 := cred (tallyAt (kcell c p.1) p.2 p.1.amt)

/-- The credit for what the partner owes is the credits for its payments. -/
theorem cred_chain (c : Dev nD) (l : List Pay) : (cred (owe (partner c) l) : sProp 𝕄) ⊢ bigSepL l (ct c) := by
  induction l with
  | nil => unfold owe; iintro -; iempintro
  | cons p l ih =>
    unfold owe
    rw [chain_cons, partner_partner]
    refine (cred_add _ _).1.trans ?_
    iintro ⟨H, Hp⟩
    isplitl [Hp]; · iexact Hp
    iapply ih $$ H

/-- The credits for payments by the partner are those the waits need at the start. -/
theorem crds_intro (c : Dev nD) (l : List Pay) : bigSepL (l.filter fun p => !p.1.isOwn) (ct c) ⊢ (crds c l : sProp 𝕄) := by
  induction l with
  | nil => unfold crds; iintro -; iempintro
  | cons p l ih =>
    unfold crds crd
    cases h : p.1.isOwn with
    | true =>
      rw [List.filter_cons_of_neg (by rw [h]; decide), if_pos rfl]
      iintro H
      isplitr; · iempintro
      iapply ih $$ H
    | false =>
      rw [List.filter_cons_of_pos (by rw [h]; rfl), if_neg (by decide), chain_cons]
      iintro ⟨H, Hl⟩
      isplitl [H]; · iexact H
      iapply ih $$ Hl

/-- The credit of the launch gives the credits the waits need. -/
theorem creds (c : Dev nD) : (Pipeline.launchCred O₀ c : sProp 𝕄) ⊢ crds c waits := by
  unfold Pipeline.launchCred
  refine (cred_sum Finset.univ _).trans ?_
  rw [owed_all]
  refine (cred_chain c pays).trans (Entails.trans (Entails.of_eq ?_) (crds_intro c waits))
  rw [← bigSep_eq_bigSepL pays (by decide) (ct c), ← bigSep_eq_bigSepL (waits.filter fun p => !p.1.isOwn) (by decide) (ct c)]
  exact congrArg (fun S => bigSep S (ct c)) (by decide)

/-! ## The pipeline's data -/

/-- What a device begins with. -/
def start (c : Dev nD) : sProp 𝕄 := iprop((∃ K, Ctx m K) ∗ Loc0 c ∗ posn c 0 ∗ toks c pays ∗ crds c waits ∗ Arr m c)
def Φ₀ (c : Dev nD) : sProp 𝕄 := iprop(start m c ∗ Scr c)
/-- What goes on after the region. -/
def Done (c : Dev nD) : sProp 𝕄 := iprop(Arr' m c ∗ unscopedSems0 c)
def Φ₁ (c : Dev nD) : sProp 𝕄 := iprop(Arr' m c ∗ Scr c ∗ Loc0 c ∗ bigSep Finset.univ fun k : Ck => semVal (kcell c k) 0)

def dats (_ : Fin 1) (c : Dev nD) : Dat τ (Elt F) ℕ ℕ UU ℕ cfg0 c where
  A w := Fin.elim0 (show Fin 0 from w)
  after w _ := Fin.elim0 (show Fin 0 from w)
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The body on a device, from the launch's state to the exit's. -/
theorem run_body (c : Dev nD) (W : Waits sig ℕ) :
    iprop(Φ₀ m c ∗ owes (c : Thread nD τ) (owe c pays) W) ⊢ WP c bodyP (fun _ => iprop(Φ₁ m c ∗ ∃ W, owes (c : Thread nD τ) 0 W)) := by
  unfold Φ₀ start
  iintro ⟨⟨⟨⟨%K, #Hctx⟩, HL, Hp, Ht, Hc, HA⟩, HR⟩, HO⟩
  iapply wp_fupd
  iapply (tri_body m K c (fun _ => iprop(|={Set.univ}=> (Φ₁ m c ∗ ∃ W, owes (c : Thread nD τ) 0 W)))) $$ [HL Hp Ht Hc HA HR HO]
  · isplitr; · iexact Hctx
    iapply (first_intro m c)
    isplitl [HA]; · iexact HA
    isplitl [HR]; · iexact HR
    isplitl [HL]; · iexact HL
    unfold St Ow
    isplitl [HO]; · iexists W; iexact HO
    isplitl [Ht]; · iexact Ht
    isplitl [Hc]; · iexact Hc
    iexact Hp
  iintro H
  imod (last_close m K c) $$ [H] with ⟨HA, HR, HL, Hz, Ho⟩
  · isplitr; · iexact Hctx
    iexact H
  imodintro
  unfold Φ₁
  isplitr [Ho]
  · isplitl [HA]; · iexact HA
    isplitl [HR]; · iexact HR
    isplitl [HL] <;> iassumption
  iexact Ho

/-- At the start of the body all payments are owed. -/
theorem owes_before (c : Dev nD) : (dats (F := F) m 0 c).owesAt 0 t0_0.castSucc ⊢ iprop(∃ W, owes (c : Thread nD τ) (owe c pays) W) := by
  show iprop(∃ W : Waits sig ℕ, ⌜↑W ⊆ (dats (F := F) m 0 c).bound 0 t0_0.castSucc⌝ ∗ owes (c : Thread nD τ) (owe c pays) W) ⊢ _
  iintro ⟨%W, -, H⟩
  iexists W; iexact H

/-- At the end of the body nothing is owed. -/
theorem owes_after (c : Dev nD) : iprop(∃ W, owes (c : Thread nD τ) (0 : CellTallies nD τ sig ℕ) W) ⊢ (dats (F := F) m 0 c).owesAt 0 t0_0.succ := by
  show _ ⊢ iprop(∃ W : Waits sig ℕ, ⌜↑W ⊆ (dats (F := F) m 0 c).bound 0 t0_0.succ⌝ ∗ owes (c : Thread nD τ) 0 W)
  iintro ⟨%W, H⟩
  iexists W
  isplitr; · ipureintro; exact fun _ _ => Or.inl trivial
  iexact H
/-- The region's body is the structured program. -/
theorem body_eq : (defs₀ (F := F)) .tc cfg0.body (cfg0.bodyArgs t0_0 (cfg0.slots t0_0)) = bodyP := (show _ = bodyK from rfl).trans bodyK_eq

/-- The kernel has no windows, so a family over them is empty. -/
theorem no_windows (Φ : Fin cfg0.W → sProp 𝕄) : bigSep Finset.univ Φ = iprop(emp) := bigSep_univ_eq_bigSepL ([] : List (Fin 0)) (by decide) (by decide) Φ

/-- The body leads from what the region starts with to what it ends in. -/
theorem body_obligation (c : Dev nD) : BodyObligation (dats (F := F) m 0 c) (defs₀ (F := F)) 𝒱₀ 0 Set.univ := fun t => by
  rw [fin_N0 t, no_windows, no_windows, body_eq]
  have h1 : iprop((dats m 0 c).Φ t0_0.castSucc ∗ (dats m 0 c).owesAt 0 t0_0.castSucc ∗ emp) ⊢ WP c (bodyP (F := F)) (fun _ => iprop(Φ₁ m c ∗ ∃ W, owes (c : Thread nD τ) 0 W)) := by
    rw [show (dats m 0 c).Φ t0_0.castSucc = Φ₀ m c from rfl]
    iintro ⟨HΦ, HO, -⟩
    ihave HO := (owes_before m c) $$ HO
    icases HO with ⟨%W, HO⟩
    iapply (run_body m c W)
    isplitl [HΦ] <;> iassumption
  refine h1.trans (wp_mono _ _ _ fun _ => ?_)
  rw [show (dats m 0 c).Φ t0_0.succ = Φ₁ m c from rfl]
  iintro ⟨HΦ, HO⟩
  isplitl [HΦ]; · iexact HΦ
  isplitl [HO]; · iapply (owes_after m c) $$ HO
  iempintro

end Cert.KernelIdeal.Body

end
-- ==== Proof.KernelIdeal.Run.lean ====
/- Every execution of the program from counters at zero ends, with each device holding its result, its arguments
   unchanged and every counter at zero. -/
module

public import proofs.«01_k».proof.Proof.KernelIdeal.Region

@[expose] public section

set_option maxRecDepth 65536

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.ValueIdx

variable {F : FTy → Type} [FloatOps F]

local notation "𝕄" => MT nD τ sig ℕ (Elt F) ℕ UU ℕ

variable (m : (ℓ : Loc nD τ sig) → Buf (Elt F) ℓ) (ρ : Dev nD → PrngReg)

/-- The buffers the region brings are the scratch buffers. -/
theorem scr_eq (c : Dev nD) : (Pipeline.scopedRest (Ix := ℕ) (Name := ℕ) (U := UU) (Lvl := ℕ) (Val := Elt F) cfg0.spec c : sProp 𝕄) = Scr c := scopedRest0_eq c

/-- The buffers that outlive the region are the arrays as launched. -/
theorem arr_intro (c : Dev nD) : (Pipeline.unscopedRest (Ix := ℕ) (Name := ℕ) (U := UU) (Lvl := ℕ) cfg0.spec c (fun b => m ((c : Thread nD τ).loc b)) : sProp 𝕄) ⊢ Arr m c := by
  rw [unscopedRest0_eq]
  unfold Arr
  iintro ⟨H0, H1, H2, H3⟩
  isplitl [H0]; · iexact H0
  isplitl [H1]; · iexact H1
  isplitl [H2]; · iexists _; iexact H2
  iexists _; iexact H3

/-- What the launch gives a device is what it begins with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  unfold start G' Rec Ctx
  iintro ⟨HA, #Hlev, Hcr, -, ⟨%K, #HI, #HR⟩, HL, Hp, Ht⟩
  ihave Hc := (creds (F := F) c) $$ Hcr
  ihave HA := (arr_intro m c) $$ HA
  imodintro
  isplitl
  · isplitr
    · iexists K
      isplitr; · iexact HI
      isplitr; · iexact HR
      iexact Hlev
    isplitl [HL]; · iexact HL
    isplitl [Hp]; · iexact Hp
    isplitl [Ht]; · iexact Ht
    isplitl [Hc] <;> iassumption
  iempintro

/-- What a device begins with and the scratch buffers give the body's first state. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs] <;> iassumption

/-- The body's last state gives what goes on after the region, the semaphores at zero and the scratch buffers. -/
theorem phi1_exit (c : Dev nD) :
    (dats m 0 c).Φ (Fin.last cfg0.N) ⊢ iprop(Done m c ∗ Pipeline.ownSems0 osem c ∗ Pipeline.scopedRest cfg0.spec c) := by
  rw [show (dats m 0 c).Φ (Fin.last cfg0.N) = Φ₁ m c from rfl, scr_eq, ownSems0_eq]
  unfold Φ₁ Done
  rw [unscopedSems0_eq, cells_split]
  iintro ⟨HA, HR, HL, HB, HS⟩
  isplitl [HA HB]
  · isplitl [HA] <;> iassumption
  isplitl [HL HS]
  · isplitl [HL] <;> iassumption
  iexact HR

/-- There are no windows, so no wait for one is out of order. -/
theorem waits_ok (c : Dev nD) : (levAts L lv : sProp 𝕄) ⊢ Pipeline.cellsWaits cfgs (dats m) 0 0 c :=
  Pipeline.cellsWaits_intro cfgs (dats m) 0 0 c fun w s t => Fin.elim0 (show Fin 0 from w)

/-- A device's arrays in the final memory. -/
def EndMem (c : Dev nD) (s : MemSt nD τ sig (Elt F)) : Prop :=
  s.mem ((c : Thread nD τ).loc main_v1_0) = RES m c ∧ s.mem ((c : Thread nD τ).loc main_arg0) = m ((c : Thread nD τ).loc main_arg0)
    ∧ s.mem ((c : Thread nD τ).loc main_arg1) = m ((c : Thread nD τ).loc main_arg1)

/-- The arrays as left are what the final memory holds. -/
theorem read_arr (c : Dev nD) (s' : Phys nD τ sig (Elt F)) : iprop(Arr' m c ∗ SI s') ⊢ (iprop(⌜EndMem m c s'.mem⌝ ∗ SI s') : sProp 𝕄) := by
  unfold Arr'
  iintro ⟨⟨H0, H1, Ho⟩, HSI⟩
  icombine HSI H0 gives %h0
  icombine HSI H1 gives %h1
  icombine HSI Ho gives %ho
  isplitr
  · ipureintro
    exact ⟨Buf.eq_of_forall_mem_univ ho, Buf.eq_of_forall_mem_univ h0, Buf.eq_of_forall_mem_univ h1⟩
  iexact HSI

/-- What goes on after the region fixes the final memory's arrays, and the semaphores that outlive the kernel are zero. -/
theorem read_done (c : Dev nD) (s' : Phys nD τ sig (Elt F)) : iprop(Done m c ∗ emp ∗ SI s')
    ⊢ (|={Set.univ}=> iprop(⌜EndMem m c s'.mem ∧ ∀ sm : SemLoc sig, sm.isScoped .tc = false → s'.mem.sem ((c.tc : Thread nD τ), sm) = 0⌝ ∗ SI s') : sProp 𝕄) := by
  unfold Done
  iintro ⟨⟨HA, Hu⟩, -, HSI⟩
  ihave H := (read_arr m c s') $$ [HA HSI]
  · isplitl [HA] <;> iassumption
  icases H with ⟨%hm, HSI⟩
  imod (Pipeline.unscopedSems0_read (X := unscopedSems0 c) (c := c) fupd_intro s') $$ [Hu HSI] with ⟨%hs, HSI⟩
  · isplitl [Hu] <;> iassumption
  imodintro
  isplitr
  · ipureintro
    exact ⟨hm, hs⟩
  iexact HSI

/-- The run of the program. -/
theorem run_main : θ_run (defs (F := F)) (onTc (τ := τ) (main (F := F))) ⟨m, fun _ => 0, ρ⟩ (fun r => (∀ c : Dev nD, EndMem m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => Pipeline.BodyObligation.loose _ (body_obligation m c)) (hne := fun w => Fin.elim0 (show Fin 0 from w)) (harr := arr_whole0) (hstage := stage_whole0)
    (hshare := fun _ w => Fin.elim0 (show Fin 0 from w))
    (hdistinct := winFacts0.arr_inj)
    (O₀ := O₀) (howed₀ := fun _ => rfl) (howedN := fun _ => rfl)
    (L := L) (lv := lv) (hL := L_of_ne) (hwaits := waits_ok m)
    (G := G m) (G' := G' m) (u₀ := u₀)
    (hu₀ := by
      unfold u₀
      iintro Hu
      ihave H := (ownU_split _ _) $$ Hu
      icases H with ⟨HP, HX⟩
      imod (fund_all m) $$ HX with HG
      imodintro
      isplitl [HP] <;> iassumption)
    (hglob := glob m)
    (hA := fun _ w => Fin.elim0 (show Fin 0 from w)) (hpf := fun _ k => k.elim0)
    (X := start m) (Y := Done m) (Z := fun _ => iprop(emp))
    (hX := start_intro m ρ) (hin := phi0_intro m) (hout := phi1_exit m)
    (QY := fun c s => EndMem m c s ∧ ∀ sm : SemLoc sig, sm.isScoped .tc = false → s.sem ((c.tc : Thread nD τ), sm) = 0)
    (hY := read_done m)
    (hQ := fun _ h hs => ⟨fun c => (h c).2.2.1, sem_eq_zero hs fun c => (h c).2.2.2⟩)

end Cert.KernelIdeal.Body

end
-- ==== Proof.Frames.lean ====
/- The frames of the three programs: each runs, leaves its arguments as they were, and ends with every counter at
   zero. The kernel and its idealized printing are one text, so one run serves both. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.KernelIdeal.Run
public import Idealize.ShloMosaic.Lib.Quiescent

@[expose] public section

noncomputable section

namespace Cert.Frames

open Idealize.ShloMosaic Idealize.SL.Sem

/-- The kernel and its idealized printing have one entry. -/
theorem main_eq {F : FTy → Type} [FloatOps F] : Cert.Kernel.main (F := F) = Cert.KernelIdeal.main (F := F) := by
  with_unfolding_all rfl

/-- The kernel and its idealized printing have the same definitions. -/
theorem defs_eq {F : FTy → Type} [FloatOps F] : Cert.Kernel.defs (F := F) = Cert.KernelIdeal.defs (F := F) := by
  with_unfolding_all rfl

/-- The idealized kernel at any instance: its run keeps the arguments and ends quiescent. -/
theorem run_frame {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => (h.1 c).2, h.2⟩) (Cert.KernelIdeal.Body.run_main m g)

/-- The idealized kernel's frame. -/
theorem frameKernelIdeal : Cert.quiescent_KernelIdeal := fun m g _ => run_frame m g

/-- The kernel's frame. -/
theorem frameKernel : Cert.quiescent_Kernel := by
  intro m g _
  rw [main_eq, defs_eq]
  exact run_frame (F := Bits) m g

/-- The reference's frame: no operation writes an argument, and the program declares no counter. -/
theorem frameReference : Cert.quiescent_ReferenceIdeal := fun m g _ =>
  (θ_run _ _ _).mono (fun r h => ⟨fun c => (h c).2, sem_eq_zero_of_no_sems (by decide) r.2⟩) (Cert.ReferenceIdeal.Value.run (F := Ideal) m g)

end Cert.Frames

end
-- ==== Proof.Values.Softmax.lean ====
/- The softmax of a row over the extended reals, and the same computed from the two halves of the row: the larger of
   the two maxima, and the sum of the two sums. -/
module

public import Idealize.ShloMosaic.PureOps.Ideal
public import Idealize.ShloMosaic.PureOps.Ideal.Laws
public import Idealize.ShloMosaic.Lib.IdealHost

@[expose] public section

noncomputable section

namespace Cert.Values

open Idealize.ShloMosaic

/-- The value a row's maximum starts from. -/
abbrev bottom : EReal := Ideal.ofBits .f32 0xFF800000#32

/-- The maximum of a row. -/
def rowMax {n : ℕ} (f : Fin n → EReal) : EReal := Finset.univ.fold max bottom f

/-- The softmax of a row. -/
def soft {n : ℕ} (f : Fin n → EReal) (q : Fin n) : EReal :=
  Ideal.div (Ideal.exp (f q - rowMax f)) (∑ k, Ideal.exp (f k - rowMax f))

/-- The larger of the maxima of two rows. -/
def pairMax {n : ℕ} (a b : Fin n → EReal) : EReal := max (rowMax a) (rowMax b)

/-- The softmax at the entry `x` of two rows taken as one. -/
def softPair {n : ℕ} (a b : Fin n → EReal) (x : EReal) : EReal :=
  Ideal.div (Ideal.exp (x - pairMax a b)) ((∑ k, Ideal.exp (a k - pairMax a b)) + ∑ k, Ideal.exp (b k - pairMax a b))

/-- The place in the whole row of column `j` of half `y`. -/
def col (y : Fin 2) (j : Fin 8192) : Fin 16384 := ⟨8192 * y.val + j.val, by omega⟩

/-- Every column is in one of the two halves. -/
theorem eq_col (y : Fin 2) (q : Fin 16384) : (∃ j, q = col y j) ∨ ∃ j, q = col (1 - y) j := by
  have hq := q.isLt
  by_cases h : q.val < 8192 <;> fin_cases y
  · exact Or.inl ⟨⟨q.val, h⟩, Fin.ext (by simp [col])⟩
  · exact Or.inr ⟨⟨q.val, h⟩, Fin.ext (by simp [col])⟩
  · exact Or.inr ⟨⟨q.val - 8192, by omega⟩, Fin.ext (by simp [col]; omega)⟩
  · exact Or.inl ⟨⟨q.val - 8192, by omega⟩, Fin.ext (by simp [col]; omega)⟩

/-- A bound on a row's maximum is a bound on its start and on each entry. -/
theorem rowMax_le {n : ℕ} (f : Fin n → EReal) (z : EReal) : rowMax f ≤ z ↔ bottom ≤ z ∧ ∀ k, f k ≤ z := by
  unfold rowMax
  rw [Finset.fold_max_le]
  simp

/-- The maximum of the row from those of its halves. -/
theorem rowMax_halves (f : Fin 16384 → EReal) (y : Fin 2) : pairMax (f ∘ col y) (f ∘ col (1 - y)) = rowMax f := by
  refine eq_of_forall_ge_iff fun z => ?_
  unfold pairMax
  rw [max_le_iff, rowMax_le, rowMax_le, rowMax_le]
  constructor
  · rintro ⟨⟨h0, h1⟩, -, h2⟩
    refine ⟨h0, fun k => ?_⟩
    rcases eq_col y k with ⟨j, rfl⟩ | ⟨j, rfl⟩
    · exact h1 j
    · exact h2 j
  · rintro ⟨h0, h⟩
    exact ⟨⟨h0, fun _ => h _⟩, h0, fun _ => h _⟩

/-- The sum over the row from those over its halves, the first half first. -/
theorem sum_cols (f : Fin 16384 → EReal) : (∑ k, f (col 0 k)) + ∑ k, f (col 1 k) = ∑ k, f k := by
  refine Eq.trans ?_ (Fin.sum_univ_add (a := 8192) (b := 8192) f).symm
  refine congrArg₂ _ (Finset.sum_congr rfl fun k _ => congrArg f (Fin.ext ?_)) (Finset.sum_congr rfl fun k _ => congrArg f (Fin.ext ?_))
  · simp [col]
  · simp [col, Nat.add_comm]

/-- The sum over the row from those over its halves, either half first. -/
theorem sum_halves (f : Fin 16384 → EReal) (y : Fin 2) : (∑ k, f (col y k)) + ∑ k, f (col (1 - y) k) = ∑ k, f k := by
  fin_cases y
  · exact sum_cols f
  · exact (add_comm _ _).trans (sum_cols f)

/-- The softmax of the row from its halves. -/
theorem softPair_eq (f : Fin 16384 → EReal) (y : Fin 2) (q : Fin 16384) : softPair (f ∘ col y) (f ∘ col (1 - y)) (f q) = soft f q := by
  unfold softPair soft
  rw [rowMax_halves]
  exact congrArg _ (sum_halves (fun k => Ideal.exp (f k - rowMax f)) y)

end Cert.Values

end
-- ==== Proof.Values.Kernel.lean ====
/- The kernel's result at an entry, with floats read as extended reals: the softmax of two half rows of logits. -/
module

public import proofs.«01_k».proof.Proof.KernelIdeal.Geom
public import proofs.«01_k».proof.Proof.Values.Softmax
public import Idealize.ShloMosaic.Lib.MatmulPlain
public import Idealize.ShloMosaic.Lib.ValueIdx
public import Idealize.ShloMosaic.Lib.ValueLayout

@[expose] public section

set_option maxRecDepth 65536

noncomputable section

namespace Cert.Values

open Cert.KernelIdeal Cert.KernelIdeal.Gen Cert.KernelIdeal.Body
open Idealize.ShloMosaic Idealize.ShloMosaic.ValueIdx

/-! ## The logits -/

/-- The contraction of a chunk is a plain product of matrices. -/
theorem dot_chunk : dot_S256x4096_S4096x512_S256x512_1_0_0_1_n_n = DotDims.plain 256 4096 512 := rfl

/-- A staged row of the activations. -/
theorem xRow_apply (x : Tn Ideal S2048x4096 .f32) (b : Fin 8) (r : Fin 256) (k : Fin 4096) :
    xRow x b (ix2 r k) = x (ix2 (⟨256 * b.val + r.val, by omega⟩ : Fin 2048) k) := by
  refine congrArg x (funext fun a => Fin.ext ?_)
  fin_cases a
  · show 256 * b.val + 1 * r.val = _
    simp
  · show 0 + 1 * k.val = _
    simp

/-- The cast of the activations is the identity. -/
theorem XB_apply (x : Tn Ideal S2048x4096 .f32) (b : Fin 8) (r : Fin 256) (k : Fin 4096) :
    XB x b (ix2 r k) = x (ix2 (⟨256 * b.val + r.val, by omega⟩ : Fin 2048) k) := by
  unfold XB k0_pay3
  rw [shapeCast_self, truncf_apply, xRow_apply]

/-- The cast of the weights is the identity. -/
theorem WB_apply (w : Tn Ideal S4096x8192 .f32) (t : Fin 16) (k : Fin 4096) (q : Fin 512) :
    WB w t (ix3 (0 : Fin 1) k q) = w (ix2 k (⟨512 * t.val + q.val, by omega⟩ : Fin 8192)) := by
  unfold WB k0_pay1
  rw [shapeCast_ab_1ab_apply, truncf_apply, shapeCast_1ab_ab_apply]
  rfl

/-- The half row of logits of a device. -/
def half (x : Tn Ideal S2048x4096 .f32) (w : Tn Ideal S4096x8192 .f32) (r : Fin 2048) (q : Fin 8192) : EReal :=
  ∑ k : Fin 4096, x (ix2 r k) * w (ix2 k q)

/-- The logits of a row block against a chunk. -/
theorem LGt_apply (x : Tn Ideal S2048x4096 .f32) (w : Tn Ideal S4096x8192 .f32) (b : Fin 8) (t : Fin 16) (r : Fin 256) (q : Fin 512) :
    LGt x w b t (ix3 (0 : Fin 1) r q)
      = half x w (⟨256 * b.val + r.val, by omega⟩ : Fin 2048) (⟨512 * t.val + q.val, by omega⟩ : Fin 8192) := by
  unfold LGt k0_pay6
  rw [shapeCast_ab_1ab_apply, truncf_apply]
  unfold matmul
  rw [dot_chunk, Ideal.matmul_plain_apply, constant_apply, Ideal.ofBits_zero_f32, zero_add]
  unfold half
  refine Finset.sum_congr rfl fun k _ => ?_
  rw [XB_apply, shapeCast_1ab_ab_apply, WB_apply]

/-- The logits of a row block. -/
theorem LG_apply (x : Tn Ideal S2048x4096 .f32) (w : Tn Ideal S4096x8192 .f32) (b : Fin 8) (s : Fin 2) (r : Fin 256) (q : Fin 8192) :
    LG x w b (ix3 s r q) = half x w (⟨256 * b.val + r.val, by omega⟩ : Fin 2048) q := by
  have h := LGt_apply x w b (⟨q.val / 512, by omega⟩ : Fin 16) r (⟨q.val % 512, Nat.mod_lt _ (by decide)⟩ : Fin 512)
  refine Eq.trans h (congrArg (half x w _) (Fin.ext ?_))
  show 512 * (q.val / 512) + q.val % 512 = q.val
  omega

/-- A band of a slot's logits. -/
theorem band_apply (f : Tn Ideal S2x256x8192 .bf16) (s : Fin 2) (j : Fin 4) (r : Fin 64) (q : Fin 8192) :
    band f s j (ix3 (0 : Fin 1) r q) = f (ix3 s (⟨64 * j.val + r.val, by omega⟩ : Fin 256) q) := by
  refine congrArg f (funext fun a => Fin.ext ?_)
  fin_cases a
  · show s.val + 1 * 0 = _
    simp
  · show 64 * j.val + 1 * r.val = _
    simp
  · show 0 + 1 * q.val = _
    simp

/-! ## The softmax of a band -/

/-- Reducing the columns of a band leaves one value for each row. -/
theorem reduces_band : Shape.Reduces S64x8192 [1] S64 := by decide

/-- The entry a reduction of a band takes for row `r` and place `k` is at row `r`, column `k`. -/
theorem lift_band (h : Shape.Reduces S64x8192 [1] S64) (r : Fin 64) (k : Fin 8192) : h.lift (ix1 r) k = ix2 r k := by
  funext a
  apply Fin.ext
  fin_cases a <;> rfl

/-- A value of each row, as a column. -/
theorem column_apply (v : FVec Ideal S64 .f32) (r : Fin 64) : shapeCast S64x1 v shapeCasts_S64_S64x1 (ix2 r (0 : Fin 1)) = v (ix1 r) :=
  shapeCast_apply v _ _ _ (by
    rw [Shape.rowMajor_val_two, Shape.rowMajor_val_one]
    show r.val = r.val * 1 + 0
    omega)

/-- A column, spread over the row's entries. -/
theorem spreadBand_apply (v : FVec Ideal S64x1 .f32) (r : Fin 64) (q : Fin 8192) :
    broadcastTo S64x8192 v broadcasts_S64x1_S64x8192 (ix2 r q) = v (ix2 r (0 : Fin 1)) :=
  broadcastTo_apply v _ _ _ (by intro a; fin_cases a <;> rfl)

/-- The maximum over a band's row. -/
theorem maxBand (v : FVec Ideal S64x8192 .f32) (h hφ hacc) (r : Fin 64) :
    multiReduction .maximumf [1] S64 v 0xFF800000#32 h hφ hacc (ix1 r) = rowMax fun k => v (ix2 r k) := by
  rw [Ideal.multiReduction_maximumf_single]
  exact congrArg (fun g => Finset.univ.fold max bottom g) (funext fun k => congrArg v (lift_band h r k))

/-- The sum over a band's row. -/
theorem sumBand (v : FVec Ideal S64x8192 .f32) (h hφ hacc) (r : Fin 64) :
    multiReduction .add [1] S64 v 0x00000000#32 h hφ hacc (ix1 r) = ∑ k : Fin 8192, v (ix2 r k) := by
  rw [Ideal.multiReduction_add_single]
  exact Finset.sum_congr rfl fun k _ => congrArg v (lift_band h r k)

variable (a b : Tn Ideal S1x64x8192 .bf16) (r : Fin 64) (q : Fin 8192)

/-- A row of a band. -/
abbrev rowOf (a : Tn Ideal S1x64x8192 .bf16) (r : Fin 64) : Fin 8192 → EReal := fun k => a (ix3 (0 : Fin 1) r k)

/-- The device's own band, widened, at an entry. -/
theorem pay7_apply : k0_pay7 a (ix2 r q) = rowOf a r q := by
  unfold k0_pay7
  rw [extf_apply, shapeCast_1ab_ab_apply]

/-- The partner's band, widened, at an entry. -/
theorem pay8_apply : k0_pay8 b (ix2 r q) = rowOf b r q := by
  unfold k0_pay8
  rw [extf_apply, shapeCast_1ab_ab_apply]

/-- The maximum over both bands, for a row. -/
theorem pay9_apply : k0_pay9 (k0_pay7 a) b (ix2 r (0 : Fin 1)) = pairMax (rowOf a r) (rowOf b r) := by
  unfold k0_pay9
  rw [maximumf_apply, column_apply, column_apply]
  exact congrArg₂ max ((maxBand _ _ _ _ r).trans (congrArg rowMax (funext fun k => pay7_apply a r k)))
    ((maxBand _ _ _ _ r).trans (congrArg rowMax (funext fun k => pay8_apply b r k)))

/-- The exponentials of the device's own band, at an entry. -/
theorem pay10_apply : k0_pay10 (k0_pay7 a) b (ix2 r q) = Ideal.exp (rowOf a r q - pairMax (rowOf a r) (rowOf b r)) := by
  unfold k0_pay10
  refine congrArg Ideal.exp ?_
  rw [subf_apply, spreadBand_apply, pay9_apply, pay7_apply]

/-- The exponentials of the partner's band, at an entry. -/
theorem pay11_apply : k0_pay11 (k0_pay7 a) b (ix2 r q) = Ideal.exp (rowOf b r q - pairMax (rowOf a r) (rowOf b r)) := by
  unfold k0_pay11
  refine congrArg Ideal.exp ?_
  rw [subf_apply, spreadBand_apply, pay9_apply, pay8_apply]

/-- The sum of the exponentials of both bands, for a row. -/
theorem pay12_apply : k0_pay12 (k0_pay7 a) b (ix2 r (0 : Fin 1))
    = (∑ k, Ideal.exp (rowOf a r k - pairMax (rowOf a r) (rowOf b r))) + ∑ k, Ideal.exp (rowOf b r k - pairMax (rowOf a r) (rowOf b r)) := by
  unfold k0_pay12
  rw [addf_apply, column_apply, column_apply]
  exact congrArg₂ (fun u v : EReal => u + v) ((sumBand _ _ _ _ r).trans (Finset.sum_congr rfl fun k _ => pay10_apply a b r k))
    ((sumBand _ _ _ _ r).trans (Finset.sum_congr rfl fun k _ => pay11_apply a b r k))

/-- The half of the softmax in the device's own columns. -/
theorem pay13_apply : k0_pay13 (k0_pay7 a) b (ix2 r q) = softPair (rowOf a r) (rowOf b r) (rowOf a r q) := by
  unfold k0_pay13
  rw [shapeCast_self, truncf_apply, divf_apply, spreadBand_apply, pay10_apply, pay12_apply]
  rfl

/-- The half in the partner's columns. -/
theorem pay14_apply : k0_pay14 (k0_pay7 a) b (ix2 r q) = softPair (rowOf a r) (rowOf b r) (rowOf b r q) := by
  unfold k0_pay14
  rw [shapeCast_self, truncf_apply, divf_apply, spreadBand_apply, pay11_apply, pay12_apply]
  rfl

end Cert.Values

end
-- ==== Proof.Values.Reference.lean ====
/- The reference's result at an entry: the softmax of a row of the logits. -/
module

public import proofs.«01_k».proof.Proof.Gen.ReferenceIdeal.Run
public import proofs.«01_k».proof.Proof.Values.Softmax
public import Idealize.ShloMosaic.Lib.StackMember
public import Idealize.ShloMosaic.Lib.ValueIdx

@[expose] public section

set_option maxRecDepth 65536

noncomputable section

namespace Cert.Values

open Cert.ReferenceIdeal Cert.ReferenceIdeal.Gen
open Idealize.ShloMosaic Idealize.ShloMosaic.ValueIdx

/-- A row of the logits, from the whole activations and the whole weights. -/
def logits (x : S2048x4096.Idx → EReal) (W : S4096x16384.Idx → EReal) (r : Fin 2048) (q : Fin 16384) : EReal :=
  ∑ k : Fin 4096, x (ix2 r k) * W (ix2 k q)

/-- The result both programs reach. -/
def target (x : S2048x4096.Idx → EReal) (W : S4096x16384.Idx → EReal) : S2048x16384.Idx → EReal := fun i =>
  soft (logits x W (⟨(i 0).val, (i 0).isLt⟩ : Fin 2048)) (⟨(i 1).val, (i 1).isLt⟩ : Fin 16384)

/-- The reference's contraction is a plain product of matrices. -/
theorem dot_plain : dot_S2048x4096_S4096x16384_S2048x16384_1_0_0_1_n_n = DotDims.plain 2048 4096 16384 := rfl

/-- A value of each row, spread over the row's entries. -/
theorem spread_apply (v : S2048.Idx → EReal) (r : Fin 2048) (q : Fin 16384) :
    broadcastInDim S2048x16384 ![0, 1] bcast_S2048x1_S2048x16384_0_1 (broadcastInDim S2048x1 ![0] bcast_S2048_S2048x1_0 v) (ix2 r q) = v (ix1 r) := by
  rw [broadcastInDim_apply ![0, 1] _ _ (ix2 r q) (ix2 r (0 : Fin 1)) (by intro a; fin_cases a <;> rfl),
    broadcastInDim_apply ![0] _ _ (ix2 r (0 : Fin 1)) (ix1 r) (by intro a; fin_cases a; rfl)]

/-- Reducing the columns of the logits leaves one value for each row. -/
theorem reduces_row : Shape.Reduces S2048x16384 [1] S2048 := by decide

/-- The entry a reduction of the logits takes for row `r` and place `k` is at row `r`, column `k`. -/
theorem lift_row (r : Fin 2048) (k : Fin 16384) : reduces_row.lift (ix1 r) k = ix2 r k := by
  funext a
  apply Fin.ext
  fin_cases a <;> rfl

/-- The maximum over a row. -/
theorem max_row (x : FVec Ideal S2048x16384 .f32) (r : Fin 2048) :
    Host.reduce FloatOps.maximumf x (constant S_ .f32 0xFF800000#32 : FVec Ideal S_ .f32) reducesTo_S2048x16384_S2048_d1 h_S_ (ix1 r) = rowMax fun k => x (ix2 r k) :=
  (Host.reduce_eq_fold_single (max : EReal → EReal → EReal) x (constant S_ .f32 0xFF800000#32 : FVec Ideal S_ .f32) reducesTo_S2048x16384_S2048_d1 reduces_row h_S_ (ix1 r)).trans
    (congrArg (fun g => Finset.univ.fold max bottom g) (funext fun k => congrArg x (lift_row r k)))

/-- The sum over a row. -/
theorem sum_row (x : FVec Ideal S2048x16384 .f32) (r : Fin 2048) :
    Host.reduceAdd x (constant S_ .f32 0x00000000#32 : FVec Ideal S_ .f32) reducesTo_S2048x16384_S2048_d1 h_S_ (ix1 r) = ∑ k : Fin 16384, x (ix2 r k) := by
  rw [hostReduceAdd_apply, Ideal.hostReduceAdd_single _ reduces_row]
  refine Eq.trans (congrArg₂ (· + ·) Ideal.ofBits_zero_f32 (Finset.sum_congr rfl fun k _ => congrArg x (lift_row r k))) (zero_add _)

/-- The exponential of each logit less its row's maximum. -/
def expTerm (l : FVec Ideal S2048x16384 .f32) : FVec Ideal S2048x16384 .f32 :=
  Host.exp (subf l (broadcastInDim S2048x16384 ![0, 1] bcast_S2048x1_S2048x16384_0_1 (broadcastInDim S2048x1 ![0] bcast_S2048_S2048x1_0
    (Host.reduce FloatOps.maximumf l (constant S_ .f32 0xFF800000#32) reducesTo_S2048x16384_S2048_d1 h_S_))))

/-- The softmax as the reference spells it. -/
def softTerm (l : FVec Ideal S2048x16384 .f32) : FVec Ideal S2048x16384 .bf16 :=
  truncf .bf16 (Host.divf (expTerm l) (broadcastInDim S2048x16384 ![0, 1] bcast_S2048x1_S2048x16384_0_1 (broadcastInDim S2048x1 ![0] bcast_S2048_S2048x1_0
    (Host.reduceAdd (expTerm l) (constant S_ .f32 0x00000000#32) reducesTo_S2048x16384_S2048_d1 h_S_)))) bitsLt_bf16_f32

/-- The reference's exponentials, at an entry. -/
theorem expTerm_apply (l : FVec Ideal S2048x16384 .f32) (r : Fin 2048) (q : Fin 16384) :
    expTerm l (ix2 r q) = Ideal.exp (l (ix2 r q) - rowMax fun k => l (ix2 r k)) :=
  congrArg (fun z : EReal => Ideal.exp (l (ix2 r q) - z)) ((spread_apply _ r q).trans (max_row l r))

/-- The reference's softmax is the softmax of the row, at an entry. -/
theorem softTerm_apply (l : FVec Ideal S2048x16384 .f32) (r : Fin 2048) (q : Fin 16384) :
    softTerm l (ix2 r q) = soft (fun k => l (ix2 r k)) q := by
  have h : softTerm l (ix2 r q) = Ideal.div (expTerm l (ix2 r q)) (∑ k, expTerm l (ix2 r k)) := by
    unfold softTerm
    rw [truncf_apply, hostDivf_apply, spread_apply, sum_row]
  rw [h]
  unfold soft
  simp only [expTerm_apply]

/-- The reference's result is the softmax of the logits. -/
theorem reference_eq (x : FVec Ideal S2048x4096 .f32) (W : FVec Ideal S4096x16384 .f32) :
    softTerm (Host.dotGeneral dot_S2048x4096_S4096x16384_S2048x16384_1_0_0_1_n_n none x W) = target x W := by
  rw [dot_plain]
  funext i
  obtain ⟨r, q, rfl⟩ : ∃ (r : Fin 2048) (q : Fin 16384), i = ix2 r q := ⟨i 0, i 1, eq_ix2 i⟩
  rw [softTerm_apply]
  exact congrArg (fun f => soft f q) (funext fun k => StackMember.dotGeneral_plain_apply none x W r k)

end Cert.Values

end
-- ==== Proof.Values.Result.lean ====
/- Each device's result is the softmax of the whole logits, and so is the reference's: the value claim. -/
module

public import proofs.«01_k».proof.Defs
public import proofs.«01_k».proof.Proof.KernelIdeal.Run
public import proofs.«01_k».proof.Proof.Values.Kernel
public import proofs.«01_k».proof.Proof.Values.Reference

@[expose] public section

set_option maxRecDepth 65536

noncomputable section

namespace Cert.Values

open Cert.KernelIdeal Cert.KernelIdeal.Gen Cert.KernelIdeal.Body
open Idealize.ShloMosaic Idealize.ShloMosaic.ValueIdx Idealize.SL.Sem

/-- The half of the columns that device `c` holds. -/
def side (c : Dev nD) : Fin 2 := ⟨c.val / 2 % 2, Nat.mod_lt _ (by decide)⟩

/-- The partner holds the other half. -/
theorem side_partner (c : Dev nD) : side (partner c) = 1 - side c := by
  have h : ∀ d : Dev nD, side (⟨4 * (d.val / 4) + d.val % 2 + 2 - 2 * (d.val / 2 % 2), by have : d.val < 8 := d.isLt; show _ < 8; omega⟩ : Dev nD) = 1 - side d := by decide
  rw [← h c]
  exact congrArg side (Fin.ext (partner_val c))

/-- The block of the weights that a device holds. -/
def wBlock (W : FVec Ideal Cert.ReferenceIdeal.S4096x16384 .f32) (c : Dev nD) : FVec Ideal S4096x8192 .f32 :=
  Layout.blockN ⟨2, ![4096, 8192]⟩ ⟨2, ![4096, 16384]⟩ (Layout.meshBlock [2, 2, 2] ![[], [1]] c) W

/-- The weights' block of a device, at an entry. -/
theorem block_apply (W : FVec Ideal Cert.ReferenceIdeal.S4096x16384 .f32) (c : Dev nD) (k : Fin 4096) (q : Fin 8192) :
    wBlock W c (ix2 k q) = W (ix2 k (col (side c) q)) := by
  have hc : Layout.meshLin [2, 2, 2] c.val [1] = c.val / 2 % 2 := by
    revert c
    decide
  unfold wBlock
  rw [Layout.blockN_apply]
  refine congrArg W (funext fun a => Fin.ext ?_)
  fin_cases a
  · show 0 * 4096 + k.val = k.val
    omega
  · show Layout.meshLin [2, 2, 2] c.val [1] * 8192 + q.val = 8192 * (c.val / 2 % 2) + q.val
    rw [hc]
    omega

variable (x : FVec Ideal Cert.ReferenceIdeal.S2048x4096 .f32) (W : FVec Ideal Cert.ReferenceIdeal.S4096x16384 .f32)
variable (m : (ℓ : Loc nD τ sig) → Buf (Elt Ideal) ℓ)

/-- The memory holds the whole activations and each device's block of the weights. -/
def Holds : Prop := ∀ c : Dev nD, xA m c = x ∧ wA m c = wBlock W c

variable {x W m} (hm : Holds x W m)

include hm in
/-- A device's half row of the logits. -/
theorem half_eq (c : Dev nD) (r : Fin 2048) : half (xA m c) (wA m c) r = logits x W r ∘ col (side c) := by
  funext q
  rw [(hm c).1, (hm c).2]
  exact Finset.sum_congr rfl fun k _ => congrArg (fun z : EReal => x (ix2 r k) * z) (block_apply W c k q)

omit hm in
/-- The row of the result that a band's row is. -/
theorem band_row (c : Dev nD) (n : Fin 32) (i : Fin 64) :
    rowOf (band (Lg m c ⟨n.val / 4, by omega⟩) ⟨(n.val / 4) % 2, Nat.mod_lt _ (by decide)⟩ ⟨n.val % 4, Nat.mod_lt _ (by decide)⟩) i
      = half (xA m c) (wA m c) (⟨64 * n.val + i.val, by omega⟩ : Fin 2048) := by
  funext q
  unfold rowOf
  rw [band_apply]
  refine (LG_apply (xA m c) (wA m c) _ _ _ q).trans (congrArg (fun r => half (xA m c) (wA m c) r q) (Fin.ext ?_))
  show 256 * (n.val / 4) + (64 * (n.val % 4) + i.val) = 64 * n.val + i.val
  omega

include hm in
/-- A chunk of the result, at an entry. -/
theorem chunk_apply (c : Dev nD) (n : Fin 32) (i : Fin 64) (q : Fin 16384) :
    OBn c (Lg m c) (Lg m (partner c)) n (ix2 i q) = soft (logits x W (⟨64 * n.val + i.val, by omega⟩ : Fin 2048)) q := by
  have hq : q.val < 16384 := q.isLt
  have hc : (side c).val < 2 := (side c).isLt
  unfold OBn OBof
  by_cases h : q.val / 8192 = c.val / 2 % 2
  · rw [if_pos h, pay13_apply, band_row, band_row, half_eq hm, half_eq hm, side_partner]
    have e : q = col (side c) (⟨q.val % 8192, Nat.mod_lt _ (by decide)⟩ : Fin 8192) := Fin.ext (by
      show q.val = 8192 * (c.val / 2 % 2) + q.val % 8192
      omega)
    exact (congrArg (softPair _ _) (congrArg (logits x W _) e.symm)).trans (softPair_eq _ _ _)
  · rw [if_neg h, pay14_apply, band_row, band_row, half_eq hm, half_eq hm, side_partner]
    have e : q = col (1 - side c) (⟨q.val % 8192, Nat.mod_lt _ (by decide)⟩ : Fin 8192) := by
      rcases eq_col (side c) q with ⟨j, rfl⟩ | ⟨j, rfl⟩
      · exact absurd (show (8192 * (c.val / 2 % 2) + j.val) / 8192 = c.val / 2 % 2 by have := j.isLt; omega) h
      · refine congrArg (col (1 - side c)) (Fin.ext ?_)
        show j.val = (8192 * (1 - side c).val + j.val) % 8192
        have := j.isLt
        omega
    exact (congrArg (softPair _ _) (congrArg (logits x W _) e.symm)).trans (softPair_eq _ _ _)

include hm in
/-- A device's result is the softmax of the logits. -/
theorem result_eq (c : Dev nD) : RES m c = target x W := by
  funext j
  have hj : (j 0).val < 2048 := (j 0).isLt
  refine (chunk_apply hm c _ _ _).trans (congrArg (fun r => soft (logits x W r) _) (Fin.ext ?_))
  show 64 * ((j 0).val / 64) + (j 0).val % 64 = (j 0).val
  omega

/-- The value claim: every device's result and the reference's are one array. -/
theorem algebraic : Cert.algebraic_KernelIdeal_ReferenceIdeal := by
  intro m g m' g' _ hm
  refine ⟨target (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run _ _ _).mono (fun _ h c => ⟨(h.1 c).1.trans (result_eq hm c), (h.1 c).2⟩) (run_main m g)
  · exact (θ_run _ _ _).mono (fun _ h => ⟨(h 0).1.trans (reference_eq _ _), (h 0).2⟩) (Cert.ReferenceIdeal.Value.run (F := Ideal) m' g')

end Cert.Values

end
-- ==== Proof.lean ====
/- The certificate: the three frames, the idealization, and the values of the kernel against the reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Values.Result

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Frames.frameKernel,
    Cert.Frames.frameKernelIdeal, Cert.Frames.frameReference, trivial, Cert.Values.algebraic⟩

end Cert.Proof

end
